-- ==== Defs.lean ====
def Pre_DownKernel (m : (ℓ : Loc Cert.DownKernel.nD Cert.DownKernel.τ Cert.DownKernel.sig) → Buf (Elt Bits) ℓ) : Prop :=
  True

def Pre_DownKernelIdeal (m : (ℓ : Loc Cert.DownKernelIdeal.nD Cert.DownKernelIdeal.τ Cert.DownKernelIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_EmbedKernel (m : (ℓ : Loc Cert.EmbedKernel.nD Cert.EmbedKernel.τ Cert.EmbedKernel.sig) → Buf (Elt Bits) ℓ) : Prop :=
  True

def Pre_EmbedKernelIdeal (m : (ℓ : Loc Cert.EmbedKernelIdeal.nD Cert.EmbedKernelIdeal.τ Cert.EmbedKernelIdeal.sig) → Buf (Elt Ideal) ℓ) : Prop :=
  True

def Pre_EmbedReferenceIdeal (m : (ℓ : Loc Cert.EmbedReferenceIdeal.nD Cert.EmbedReferenceIdeal.τ Cert.EmbedReferenceIdeal.sig) → Buf (Elt Ideal) ℓ) : Prop :=
  True

def Pre_UpKernel (m : (ℓ : Loc Cert.UpKernel.nD Cert.UpKernel.τ Cert.UpKernel.sig) → Buf (Elt Bits) ℓ) : Prop :=
  True

def Pre_UpKernelIdeal (m : (ℓ : Loc Cert.UpKernelIdeal.nD Cert.UpKernelIdeal.τ Cert.UpKernelIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_ConvOutKernel (m : (ℓ : Loc Cert.ConvOutKernel.nD Cert.ConvOutKernel.τ Cert.ConvOutKernel.sig) → Buf (Elt Bits) ℓ) : Prop :=
  True

def Pre_ConvOutKernelIdeal (m : (ℓ : Loc Cert.ConvOutKernelIdeal.nD Cert.ConvOutKernelIdeal.τ Cert.ConvOutKernelIdeal.sig) → Buf (Elt Ideal) ℓ) : Prop :=
  True

def Pre_ConvOutReferenceIdeal (m : (ℓ : Loc Cert.ConvOutReferenceIdeal.nD Cert.ConvOutReferenceIdeal.τ Cert.ConvOutReferenceIdeal.sig) → Buf (Elt Ideal) ℓ) : Prop :=
  True

def Pre_ConvInKernel (m : (ℓ : Loc Cert.ConvInKernel.nD Cert.ConvInKernel.τ Cert.ConvInKernel.sig) → Buf (Elt Bits) ℓ) : Prop :=
  True

def Pre_ConvInKernelIdeal (m : (ℓ : Loc Cert.ConvInKernelIdeal.nD Cert.ConvInKernelIdeal.τ Cert.ConvInKernelIdeal.sig) → Buf (Elt Ideal) ℓ) : Prop :=
  True

def Pre_ConvInReferenceIdeal (m : (ℓ : Loc Cert.ConvInReferenceIdeal.nD Cert.ConvInReferenceIdeal.τ Cert.ConvInReferenceIdeal.sig) → Buf (Elt Ideal) ℓ) : Prop :=
  True

def Pre_KvKernel (m : (ℓ : Loc Cert.KvKernel.nD Cert.KvKernel.τ Cert.KvKernel.sig) → Buf (Elt Bits) ℓ) : Prop :=
  True

def Pre_KvKernelIdeal (m : (ℓ : Loc Cert.KvKernelIdeal.nD Cert.KvKernelIdeal.τ Cert.KvKernelIdeal.sig) → Buf (Elt Ideal) ℓ) : Prop :=
  True

def Pre_KvReferenceIdeal (m : (ℓ : Loc Cert.KvReferenceIdeal.nD Cert.KvReferenceIdeal.τ Cert.KvReferenceIdeal.sig) → Buf (Elt Ideal) ℓ) : Prop :=
  True

def Pre_QKernel (m : (ℓ : Loc Cert.QKernel.nD Cert.QKernel.τ Cert.QKernel.sig) → Buf (Elt Bits) ℓ) : Prop :=
  True

def Pre_QKernelIdeal (m : (ℓ : Loc Cert.QKernelIdeal.nD Cert.QKernelIdeal.τ Cert.QKernelIdeal.sig) → Buf (Elt Ideal) ℓ) : Prop :=
  True

def Pre_QReferenceIdeal (m : (ℓ : Loc Cert.QReferenceIdeal.nD Cert.QReferenceIdeal.τ Cert.QReferenceIdeal.sig) → Buf (Elt Ideal) ℓ) : Prop :=
  True

def Pre_BiasKernel (m : (ℓ : Loc Cert.BiasKernel.nD Cert.BiasKernel.τ Cert.BiasKernel.sig) → Buf (Elt Bits) ℓ) : Prop :=
  True

def Pre_BiasKernelIdeal (m : (ℓ : Loc Cert.BiasKernelIdeal.nD Cert.BiasKernelIdeal.τ Cert.BiasKernelIdeal.sig) → Buf (Elt Ideal) ℓ) : Prop :=
  True

def Pre_BiasKernelIdeal_finite_gate [hPre_finite_gate : Cert.Pre_finite_gate.Facts] (m : (ℓ : Loc Cert.BiasKernelIdeal.nD Cert.BiasKernelIdeal.τ Cert.BiasKernelIdeal.sig) → Buf (Elt Ideal) ℓ) : Prop :=
  ∀ c : Dev Cert.BiasKernelIdeal.nD,
    (Cert.Pre_finite_gate.fn (F := Ideal) (m ((c.tc : Thread Cert.BiasKernelIdeal.nD Cert.BiasKernelIdeal.τ).loc Cert.BiasKernelIdeal.main_arg0)) (m ((c.tc : Thread Cert.BiasKernelIdeal.nD Cert.BiasKernelIdeal.τ).loc Cert.BiasKernelIdeal.main_arg1)) (m ((c.tc : Thread Cert.BiasKernelIdeal.nD Cert.BiasKernelIdeal.τ).loc Cert.BiasKernelIdeal.main_arg2)) (m ((c.tc : Thread Cert.BiasKernelIdeal.nD Cert.BiasKernelIdeal.τ).loc Cert.BiasKernelIdeal.main_arg3))).1 = (fun _ => 1#1)
    ∧ (Cert.Pre_finite_gate.fn (F := Ideal) (m ((c.tc : Thread Cert.BiasKernelIdeal.nD Cert.BiasKernelIdeal.τ).loc Cert.BiasKernelIdeal.main_arg0)) (m ((c.tc : Thread Cert.BiasKernelIdeal.nD Cert.BiasKernelIdeal.τ).loc Cert.BiasKernelIdeal.main_arg1)) (m ((c.tc : Thread Cert.BiasKernelIdeal.nD Cert.BiasKernelIdeal.τ).loc Cert.BiasKernelIdeal.main_arg2)) (m ((c.tc : Thread Cert.BiasKernelIdeal.nD Cert.BiasKernelIdeal.τ).loc Cert.BiasKernelIdeal.main_arg3))).2.1 = (fun _ => 1#1)
    ∧ (Cert.Pre_finite_gate.fn (F := Ideal) (m ((c.tc : Thread Cert.BiasKernelIdeal.nD Cert.BiasKernelIdeal.τ).loc Cert.BiasKernelIdeal.main_arg0)) (m ((c.tc : Thread Cert.BiasKernelIdeal.nD Cert.BiasKernelIdeal.τ).loc Cert.BiasKernelIdeal.main_arg1)) (m ((c.tc : Thread Cert.BiasKernelIdeal.nD Cert.BiasKernelIdeal.τ).loc Cert.BiasKernelIdeal.main_arg2)) (m ((c.tc : Thread Cert.BiasKernelIdeal.nD Cert.BiasKernelIdeal.τ).loc Cert.BiasKernelIdeal.main_arg3))).2.2.1 = (fun _ => 1#1)
    ∧ (Cert.Pre_finite_gate.fn (F := Ideal) (m ((c.tc : Thread Cert.BiasKernelIdeal.nD Cert.BiasKernelIdeal.τ).loc Cert.BiasKernelIdeal.main_arg0)) (m ((c.tc : Thread Cert.BiasKernelIdeal.nD Cert.BiasKernelIdeal.τ).loc Cert.BiasKernelIdeal.main_arg1)) (m ((c.tc : Thread Cert.BiasKernelIdeal.nD Cert.BiasKernelIdeal.τ).loc Cert.BiasKernelIdeal.main_arg2)) (m ((c.tc : Thread Cert.BiasKernelIdeal.nD Cert.BiasKernelIdeal.τ).loc Cert.BiasKernelIdeal.main_arg3))).2.2.2 = (fun _ => 1#1)

def Pre_BiasReferenceIdeal (m : (ℓ : Loc Cert.BiasReferenceIdeal.nD Cert.BiasReferenceIdeal.τ Cert.BiasReferenceIdeal.sig) → Buf (Elt Ideal) ℓ) : Prop :=
  True

def Pre_BiasReferenceIdeal_finite_gate [hPre_finite_gate : Cert.Pre_finite_gate.Facts] (m : (ℓ : Loc Cert.BiasReferenceIdeal.nD Cert.BiasReferenceIdeal.τ Cert.BiasReferenceIdeal.sig) → Buf (Elt Ideal) ℓ) : Prop :=
  ∀ c : Dev Cert.BiasReferenceIdeal.nD,
    (Cert.Pre_finite_gate.fn (F := Ideal) (m ((c.tc : Thread Cert.BiasReferenceIdeal.nD Cert.BiasReferenceIdeal.τ).loc Cert.BiasReferenceIdeal.main_arg0)) (m ((c.tc : Thread Cert.BiasReferenceIdeal.nD Cert.BiasReferenceIdeal.τ).loc Cert.BiasReferenceIdeal.main_arg1)) (m ((c.tc : Thread Cert.BiasReferenceIdeal.nD Cert.BiasReferenceIdeal.τ).loc Cert.BiasReferenceIdeal.main_arg2)) (m ((c.tc : Thread Cert.BiasReferenceIdeal.nD Cert.BiasReferenceIdeal.τ).loc Cert.BiasReferenceIdeal.main_arg3))).1 = (fun _ => 1#1)
    ∧ (Cert.Pre_finite_gate.fn (F := Ideal) (m ((c.tc : Thread Cert.BiasReferenceIdeal.nD Cert.BiasReferenceIdeal.τ).loc Cert.BiasReferenceIdeal.main_arg0)) (m ((c.tc : Thread Cert.BiasReferenceIdeal.nD Cert.BiasReferenceIdeal.τ).loc Cert.BiasReferenceIdeal.main_arg1)) (m ((c.tc : Thread Cert.BiasReferenceIdeal.nD Cert.BiasReferenceIdeal.τ).loc Cert.BiasReferenceIdeal.main_arg2)) (m ((c.tc : Thread Cert.BiasReferenceIdeal.nD Cert.BiasReferenceIdeal.τ).loc Cert.BiasReferenceIdeal.main_arg3))).2.1 = (fun _ => 1#1)
    ∧ (Cert.Pre_finite_gate.fn (F := Ideal) (m ((c.tc : Thread Cert.BiasReferenceIdeal.nD Cert.BiasReferenceIdeal.τ).loc Cert.BiasReferenceIdeal.main_arg0)) (m ((c.tc : Thread Cert.BiasReferenceIdeal.nD Cert.BiasReferenceIdeal.τ).loc Cert.BiasReferenceIdeal.main_arg1)) (m ((c.tc : Thread Cert.BiasReferenceIdeal.nD Cert.BiasReferenceIdeal.τ).loc Cert.BiasReferenceIdeal.main_arg2)) (m ((c.tc : Thread Cert.BiasReferenceIdeal.nD Cert.BiasReferenceIdeal.τ).loc Cert.BiasReferenceIdeal.main_arg3))).2.2.1 = (fun _ => 1#1)
    ∧ (Cert.Pre_finite_gate.fn (F := Ideal) (m ((c.tc : Thread Cert.BiasReferenceIdeal.nD Cert.BiasReferenceIdeal.τ).loc Cert.BiasReferenceIdeal.main_arg0)) (m ((c.tc : Thread Cert.BiasReferenceIdeal.nD Cert.BiasReferenceIdeal.τ).loc Cert.BiasReferenceIdeal.main_arg1)) (m ((c.tc : Thread Cert.BiasReferenceIdeal.nD Cert.BiasReferenceIdeal.τ).loc Cert.BiasReferenceIdeal.main_arg2)) (m ((c.tc : Thread Cert.BiasReferenceIdeal.nD Cert.BiasReferenceIdeal.τ).loc Cert.BiasReferenceIdeal.main_arg3))).2.2.2 = (fun _ => 1#1)

def Pre_AttnKernel (m : (ℓ : Loc Cert.AttnKernel.nD Cert.AttnKernel.τ Cert.AttnKernel.sig) → Buf (Elt Bits) ℓ) : Prop :=
  True

def Pre_AttnKernelIdeal (m : (ℓ : Loc Cert.AttnKernelIdeal.nD Cert.AttnKernelIdeal.τ Cert.AttnKernelIdeal.sig) → Buf (Elt Ideal) ℓ) : Prop :=
  True

def Pre_AttnKernelIdeal_finite [hPre_finite : Cert.Pre_finite.Facts] (m : (ℓ : Loc Cert.AttnKernelIdeal.nD Cert.AttnKernelIdeal.τ Cert.AttnKernelIdeal.sig) → Buf (Elt Ideal) ℓ) : Prop :=
  ∀ c : Dev Cert.AttnKernelIdeal.nD,
    (Cert.Pre_finite.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3))).1 = (fun _ => 1#1)
    ∧ (Cert.Pre_finite.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3))).2.1 = (fun _ => 1#1)
    ∧ (Cert.Pre_finite.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3))).2.2 = (fun _ => 1#1)

def Pre_AttnReferenceIdeal (m : (ℓ : Loc Cert.AttnReferenceIdeal.nD Cert.AttnReferenceIdeal.τ Cert.AttnReferenceIdeal.sig) → Buf (Elt Ideal) ℓ) : Prop :=
  True

def Pre_AttnReferenceIdeal_finite [hPre_finite : Cert.Pre_finite.Facts] (m : (ℓ : Loc Cert.AttnReferenceIdeal.nD Cert.AttnReferenceIdeal.τ Cert.AttnReferenceIdeal.sig) → Buf (Elt Ideal) ℓ) : Prop :=
  ∀ c : Dev Cert.AttnReferenceIdeal.nD,
    (Cert.Pre_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3))).1 = (fun _ => 1#1)
    ∧ (Cert.Pre_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3))).2.1 = (fun _ => 1#1)
    ∧ (Cert.Pre_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3))).2.2 = (fun _ => 1#1)

def quiescent_DownKernel [hDownKernel : Cert.DownKernel.Facts] : Prop :=
  ∀ (m : (ℓ : Loc Cert.DownKernel.nD Cert.DownKernel.τ Cert.DownKernel.sig) → Buf (Elt Bits) ℓ) (g : Dev Cert.DownKernel.nD → PrngReg), Pre_DownKernel m →
    θ_run (Cert.DownKernel.defs (F := Bits)) (onTc (τ := Cert.DownKernel.τ) (Cert.DownKernel.main (F := Bits))) ⟨m, fun _ => 0, g⟩ (fun r => (∀ c : Dev Cert.DownKernel.nD,
      r.2.mem ((c.tc : Thread Cert.DownKernel.nD Cert.DownKernel.τ).loc Cert.DownKernel.main_arg0) = m ((c.tc : Thread Cert.DownKernel.nD Cert.DownKernel.τ).loc Cert.DownKernel.main_arg0)
      ∧ r.2.mem ((c.tc : Thread Cert.DownKernel.nD Cert.DownKernel.τ).loc Cert.DownKernel.main_arg1) = m ((c.tc : Thread Cert.DownKernel.nD Cert.DownKernel.τ).loc Cert.DownKernel.main_arg1)
      ∧ r.2.mem ((c.tc : Thread Cert.DownKernel.nD Cert.DownKernel.τ).loc Cert.DownKernel.main_arg2) = m ((c.tc : Thread Cert.DownKernel.nD Cert.DownKernel.τ).loc Cert.DownKernel.main_arg2))
      ∧ r.2.sem = fun _ => 0)

def quiescent_DownKernelIdeal [hDownKernelIdeal : Cert.DownKernelIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg), Pre_DownKernelIdeal m →
    θ_run (Cert.DownKernelIdeal.defs (F := Ideal)) (onTc (τ := Cert.DownKernelIdeal.τ) (Cert.DownKernelIdeal.main (F := Ideal))) ⟨m, fun _ => 0, g⟩ (fun r => (∀ c : Dev Cert.DownKernelIdeal.nD,
      r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
      ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
      ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2))
      ∧ r.2.sem = fun _ => 0)

def quiescent_EmbedKernel [hEmbedKernel : Cert.EmbedKernel.Facts] : Prop :=
  ∀ (m : (ℓ : Loc Cert.EmbedKernel.nD Cert.EmbedKernel.τ Cert.EmbedKernel.sig) → Buf (Elt Bits) ℓ) (g : Dev Cert.EmbedKernel.nD → PrngReg), Pre_EmbedKernel m →
    θ_run (Cert.EmbedKernel.defs (F := Bits)) (onTc (τ := Cert.EmbedKernel.τ) (Cert.EmbedKernel.main (F := Bits))) ⟨m, fun _ => 0, g⟩ (fun r => (∀ c : Dev Cert.EmbedKernel.nD,
      r.2.mem ((c.tc : Thread Cert.EmbedKernel.nD Cert.EmbedKernel.τ).loc Cert.EmbedKernel.main_arg0) = m ((c.tc : Thread Cert.EmbedKernel.nD Cert.EmbedKernel.τ).loc Cert.EmbedKernel.main_arg0)
      ∧ r.2.mem ((c.tc : Thread Cert.EmbedKernel.nD Cert.EmbedKernel.τ).loc Cert.EmbedKernel.main_arg1) = m ((c.tc : Thread Cert.EmbedKernel.nD Cert.EmbedKernel.τ).loc Cert.EmbedKernel.main_arg1))
      ∧ r.2.sem = fun _ => 0)

def quiescent_EmbedKernelIdeal [hEmbedKernelIdeal : Cert.EmbedKernelIdeal.Facts] : Prop :=
  ∀ (m : (ℓ : Loc Cert.EmbedKernelIdeal.nD Cert.EmbedKernelIdeal.τ Cert.EmbedKernelIdeal.sig) → Buf (Elt Ideal) ℓ) (g : Dev Cert.EmbedKernelIdeal.nD → PrngReg), Pre_EmbedKernelIdeal m →
    θ_run (Cert.EmbedKernelIdeal.defs (F := Ideal)) (onTc (τ := Cert.EmbedKernelIdeal.τ) (Cert.EmbedKernelIdeal.main (F := Ideal))) ⟨m, fun _ => 0, g⟩ (fun r => (∀ c : Dev Cert.EmbedKernelIdeal.nD,
      r.2.mem ((c.tc : Thread Cert.EmbedKernelIdeal.nD Cert.EmbedKernelIdeal.τ).loc Cert.EmbedKernelIdeal.main_arg0) = m ((c.tc : Thread Cert.EmbedKernelIdeal.nD Cert.EmbedKernelIdeal.τ).loc Cert.EmbedKernelIdeal.main_arg0)
      ∧ r.2.mem ((c.tc : Thread Cert.EmbedKernelIdeal.nD Cert.EmbedKernelIdeal.τ).loc Cert.EmbedKernelIdeal.main_arg1) = m ((c.tc : Thread Cert.EmbedKernelIdeal.nD Cert.EmbedKernelIdeal.τ).loc Cert.EmbedKernelIdeal.main_arg1))
      ∧ r.2.sem = fun _ => 0)

def quiescent_EmbedReferenceIdeal [hEmbedReferenceIdeal : Cert.EmbedReferenceIdeal.Facts] : Prop :=
  ∀ (m : (ℓ : Loc Cert.EmbedReferenceIdeal.nD Cert.EmbedReferenceIdeal.τ Cert.EmbedReferenceIdeal.sig) → Buf (Elt Ideal) ℓ) (g : Dev Cert.EmbedReferenceIdeal.nD → PrngReg), Pre_EmbedReferenceIdeal m →
    θ_run (Cert.EmbedReferenceIdeal.defs (F := Ideal)) (onTc (τ := Cert.EmbedReferenceIdeal.τ) (Cert.EmbedReferenceIdeal.main (F := Ideal))) ⟨m, fun _ => 0, g⟩ (fun r => (∀ c : Dev Cert.EmbedReferenceIdeal.nD,
      r.2.mem ((c.tc : Thread Cert.EmbedReferenceIdeal.nD Cert.EmbedReferenceIdeal.τ).loc Cert.EmbedReferenceIdeal.main_arg0) = m ((c.tc : Thread Cert.EmbedReferenceIdeal.nD Cert.EmbedReferenceIdeal.τ).loc Cert.EmbedReferenceIdeal.main_arg0)
      ∧ r.2.mem ((c.tc : Thread Cert.EmbedReferenceIdeal.nD Cert.EmbedReferenceIdeal.τ).loc Cert.EmbedReferenceIdeal.main_arg1) = m ((c.tc : Thread Cert.EmbedReferenceIdeal.nD Cert.EmbedReferenceIdeal.τ).loc Cert.EmbedReferenceIdeal.main_arg1))
      ∧ r.2.sem = fun _ => 0)

def quiescent_UpKernel [hUpKernel : Cert.UpKernel.Facts] : Prop :=
  ∀ (m : (ℓ : Loc Cert.UpKernel.nD Cert.UpKernel.τ Cert.UpKernel.sig) → Buf (Elt Bits) ℓ) (g : Dev Cert.UpKernel.nD → PrngReg), Pre_UpKernel m →
    θ_run (Cert.UpKernel.defs (F := Bits)) (onTc (τ := Cert.UpKernel.τ) (Cert.UpKernel.main (F := Bits))) ⟨m, fun _ => 0, g⟩ (fun r => (∀ c : Dev Cert.UpKernel.nD,
      r.2.mem ((c.tc : Thread Cert.UpKernel.nD Cert.UpKernel.τ).loc Cert.UpKernel.main_arg0) = m ((c.tc : Thread Cert.UpKernel.nD Cert.UpKernel.τ).loc Cert.UpKernel.main_arg0)
      ∧ r.2.mem ((c.tc : Thread Cert.UpKernel.nD Cert.UpKernel.τ).loc Cert.UpKernel.main_arg1) = m ((c.tc : Thread Cert.UpKernel.nD Cert.UpKernel.τ).loc Cert.UpKernel.main_arg1)
      ∧ r.2.mem ((c.tc : Thread Cert.UpKernel.nD Cert.UpKernel.τ).loc Cert.UpKernel.main_arg2) = m ((c.tc : Thread Cert.UpKernel.nD Cert.UpKernel.τ).loc Cert.UpKernel.main_arg2))
      ∧ r.2.sem = fun _ => 0)

def quiescent_UpKernelIdeal [hUpKernelIdeal : Cert.UpKernelIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg), Pre_UpKernelIdeal m →
    θ_run (Cert.UpKernelIdeal.defs (F := Ideal)) (onTc (τ := Cert.UpKernelIdeal.τ) (Cert.UpKernelIdeal.main (F := Ideal))) ⟨m, fun _ => 0, g⟩ (fun r => (∀ c : Dev Cert.UpKernelIdeal.nD,
      r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
      ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
      ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2))
      ∧ r.2.sem = fun _ => 0)

def quiescent_ConvOutKernel [hConvOutKernel : Cert.ConvOutKernel.Facts] : Prop :=
  ∀ (m : (ℓ : Loc Cert.ConvOutKernel.nD Cert.ConvOutKernel.τ Cert.ConvOutKernel.sig) → Buf (Elt Bits) ℓ) (g : Dev Cert.ConvOutKernel.nD → PrngReg), Pre_ConvOutKernel m →
    θ_run (Cert.ConvOutKernel.defs (F := Bits)) (onTc (τ := Cert.ConvOutKernel.τ) (Cert.ConvOutKernel.main (F := Bits))) ⟨m, fun _ => 0, g⟩ (fun r => (∀ c : Dev Cert.ConvOutKernel.nD,
      r.2.mem ((c.tc : Thread Cert.ConvOutKernel.nD Cert.ConvOutKernel.τ).loc Cert.ConvOutKernel.main_arg0) = m ((c.tc : Thread Cert.ConvOutKernel.nD Cert.ConvOutKernel.τ).loc Cert.ConvOutKernel.main_arg0)
      ∧ r.2.mem ((c.tc : Thread Cert.ConvOutKernel.nD Cert.ConvOutKernel.τ).loc Cert.ConvOutKernel.main_arg1) = m ((c.tc : Thread Cert.ConvOutKernel.nD Cert.ConvOutKernel.τ).loc Cert.ConvOutKernel.main_arg1)
      ∧ r.2.mem ((c.tc : Thread Cert.ConvOutKernel.nD Cert.ConvOutKernel.τ).loc Cert.ConvOutKernel.main_arg2) = m ((c.tc : Thread Cert.ConvOutKernel.nD Cert.ConvOutKernel.τ).loc Cert.ConvOutKernel.main_arg2))
      ∧ r.2.sem = fun _ => 0)

def quiescent_ConvOutKernelIdeal [hConvOutKernelIdeal : Cert.ConvOutKernelIdeal.Facts] : Prop :=
  ∀ (m : (ℓ : Loc Cert.ConvOutKernelIdeal.nD Cert.ConvOutKernelIdeal.τ Cert.ConvOutKernelIdeal.sig) → Buf (Elt Ideal) ℓ) (g : Dev Cert.ConvOutKernelIdeal.nD → PrngReg), Pre_ConvOutKernelIdeal m →
    θ_run (Cert.ConvOutKernelIdeal.defs (F := Ideal)) (onTc (τ := Cert.ConvOutKernelIdeal.τ) (Cert.ConvOutKernelIdeal.main (F := Ideal))) ⟨m, fun _ => 0, g⟩ (fun r => (∀ c : Dev Cert.ConvOutKernelIdeal.nD,
      r.2.mem ((c.tc : Thread Cert.ConvOutKernelIdeal.nD Cert.ConvOutKernelIdeal.τ).loc Cert.ConvOutKernelIdeal.main_arg0) = m ((c.tc : Thread Cert.ConvOutKernelIdeal.nD Cert.ConvOutKernelIdeal.τ).loc Cert.ConvOutKernelIdeal.main_arg0)
      ∧ r.2.mem ((c.tc : Thread Cert.ConvOutKernelIdeal.nD Cert.ConvOutKernelIdeal.τ).loc Cert.ConvOutKernelIdeal.main_arg1) = m ((c.tc : Thread Cert.ConvOutKernelIdeal.nD Cert.ConvOutKernelIdeal.τ).loc Cert.ConvOutKernelIdeal.main_arg1)
      ∧ r.2.mem ((c.tc : Thread Cert.ConvOutKernelIdeal.nD Cert.ConvOutKernelIdeal.τ).loc Cert.ConvOutKernelIdeal.main_arg2) = m ((c.tc : Thread Cert.ConvOutKernelIdeal.nD Cert.ConvOutKernelIdeal.τ).loc Cert.ConvOutKernelIdeal.main_arg2))
      ∧ r.2.sem = fun _ => 0)

def quiescent_ConvOutReferenceIdeal [hConvOutReferenceIdeal : Cert.ConvOutReferenceIdeal.Facts] : Prop :=
  ∀ (m : (ℓ : Loc Cert.ConvOutReferenceIdeal.nD Cert.ConvOutReferenceIdeal.τ Cert.ConvOutReferenceIdeal.sig) → Buf (Elt Ideal) ℓ) (g : Dev Cert.ConvOutReferenceIdeal.nD → PrngReg), Pre_ConvOutReferenceIdeal m →
    θ_run (Cert.ConvOutReferenceIdeal.defs (F := Ideal)) (onTc (τ := Cert.ConvOutReferenceIdeal.τ) (Cert.ConvOutReferenceIdeal.main (F := Ideal))) ⟨m, fun _ => 0, g⟩ (fun r => (∀ c : Dev Cert.ConvOutReferenceIdeal.nD,
      r.2.mem ((c.tc : Thread Cert.ConvOutReferenceIdeal.nD Cert.ConvOutReferenceIdeal.τ).loc Cert.ConvOutReferenceIdeal.main_arg0) = m ((c.tc : Thread Cert.ConvOutReferenceIdeal.nD Cert.ConvOutReferenceIdeal.τ).loc Cert.ConvOutReferenceIdeal.main_arg0)
      ∧ r.2.mem ((c.tc : Thread Cert.ConvOutReferenceIdeal.nD Cert.ConvOutReferenceIdeal.τ).loc Cert.ConvOutReferenceIdeal.main_arg1) = m ((c.tc : Thread Cert.ConvOutReferenceIdeal.nD Cert.ConvOutReferenceIdeal.τ).loc Cert.ConvOutReferenceIdeal.main_arg1)
      ∧ r.2.mem ((c.tc : Thread Cert.ConvOutReferenceIdeal.nD Cert.ConvOutReferenceIdeal.τ).loc Cert.ConvOutReferenceIdeal.main_arg2) = m ((c.tc : Thread Cert.ConvOutReferenceIdeal.nD Cert.ConvOutReferenceIdeal.τ).loc Cert.ConvOutReferenceIdeal.main_arg2))
      ∧ r.2.sem = fun _ => 0)

def quiescent_ConvInKernel [hConvInKernel : Cert.ConvInKernel.Facts] : Prop :=
  ∀ (m : (ℓ : Loc Cert.ConvInKernel.nD Cert.ConvInKernel.τ Cert.ConvInKernel.sig) → Buf (Elt Bits) ℓ) (g : Dev Cert.ConvInKernel.nD → PrngReg), Pre_ConvInKernel m →
    θ_run (Cert.ConvInKernel.defs (F := Bits)) (onTc (τ := Cert.ConvInKernel.τ) (Cert.ConvInKernel.main (F := Bits))) ⟨m, fun _ => 0, g⟩ (fun r => (∀ c : Dev Cert.ConvInKernel.nD,
      r.2.mem ((c.tc : Thread Cert.ConvInKernel.nD Cert.ConvInKernel.τ).loc Cert.ConvInKernel.main_arg0) = m ((c.tc : Thread Cert.ConvInKernel.nD Cert.ConvInKernel.τ).loc Cert.ConvInKernel.main_arg0)
      ∧ r.2.mem ((c.tc : Thread Cert.ConvInKernel.nD Cert.ConvInKernel.τ).loc Cert.ConvInKernel.main_arg1) = m ((c.tc : Thread Cert.ConvInKernel.nD Cert.ConvInKernel.τ).loc Cert.ConvInKernel.main_arg1)
      ∧ r.2.mem ((c.tc : Thread Cert.ConvInKernel.nD Cert.ConvInKernel.τ).loc Cert.ConvInKernel.main_arg2) = m ((c.tc : Thread Cert.ConvInKernel.nD Cert.ConvInKernel.τ).loc Cert.ConvInKernel.main_arg2)
      ∧ r.2.mem ((c.tc : Thread Cert.ConvInKernel.nD Cert.ConvInKernel.τ).loc Cert.ConvInKernel.main_arg3) = m ((c.tc : Thread Cert.ConvInKernel.nD Cert.ConvInKernel.τ).loc Cert.ConvInKernel.main_arg3))
      ∧ r.2.sem = fun _ => 0)

def quiescent_ConvInKernelIdeal [hConvInKernelIdeal : Cert.ConvInKernelIdeal.Facts] : Prop :=
  ∀ (m : (ℓ : Loc Cert.ConvInKernelIdeal.nD Cert.ConvInKernelIdeal.τ Cert.ConvInKernelIdeal.sig) → Buf (Elt Ideal) ℓ) (g : Dev Cert.ConvInKernelIdeal.nD → PrngReg), Pre_ConvInKernelIdeal m →
    θ_run (Cert.ConvInKernelIdeal.defs (F := Ideal)) (onTc (τ := Cert.ConvInKernelIdeal.τ) (Cert.ConvInKernelIdeal.main (F := Ideal))) ⟨m, fun _ => 0, g⟩ (fun r => (∀ c : Dev Cert.ConvInKernelIdeal.nD,
      r.2.mem ((c.tc : Thread Cert.ConvInKernelIdeal.nD Cert.ConvInKernelIdeal.τ).loc Cert.ConvInKernelIdeal.main_arg0) = m ((c.tc : Thread Cert.ConvInKernelIdeal.nD Cert.ConvInKernelIdeal.τ).loc Cert.ConvInKernelIdeal.main_arg0)
      ∧ r.2.mem ((c.tc : Thread Cert.ConvInKernelIdeal.nD Cert.ConvInKernelIdeal.τ).loc Cert.ConvInKernelIdeal.main_arg1) = m ((c.tc : Thread Cert.ConvInKernelIdeal.nD Cert.ConvInKernelIdeal.τ).loc Cert.ConvInKernelIdeal.main_arg1)
      ∧ r.2.mem ((c.tc : Thread Cert.ConvInKernelIdeal.nD Cert.ConvInKernelIdeal.τ).loc Cert.ConvInKernelIdeal.main_arg2) = m ((c.tc : Thread Cert.ConvInKernelIdeal.nD Cert.ConvInKernelIdeal.τ).loc Cert.ConvInKernelIdeal.main_arg2)
      ∧ r.2.mem ((c.tc : Thread Cert.ConvInKernelIdeal.nD Cert.ConvInKernelIdeal.τ).loc Cert.ConvInKernelIdeal.main_arg3) = m ((c.tc : Thread Cert.ConvInKernelIdeal.nD Cert.ConvInKernelIdeal.τ).loc Cert.ConvInKernelIdeal.main_arg3))
      ∧ r.2.sem = fun _ => 0)

def quiescent_ConvInReferenceIdeal [hConvInReferenceIdeal : Cert.ConvInReferenceIdeal.Facts] : Prop :=
  ∀ (m : (ℓ : Loc Cert.ConvInReferenceIdeal.nD Cert.ConvInReferenceIdeal.τ Cert.ConvInReferenceIdeal.sig) → Buf (Elt Ideal) ℓ) (g : Dev Cert.ConvInReferenceIdeal.nD → PrngReg), Pre_ConvInReferenceIdeal m →
    θ_run (Cert.ConvInReferenceIdeal.defs (F := Ideal)) (onTc (τ := Cert.ConvInReferenceIdeal.τ) (Cert.ConvInReferenceIdeal.main (F := Ideal))) ⟨m, fun _ => 0, g⟩ (fun r => (∀ c : Dev Cert.ConvInReferenceIdeal.nD,
      r.2.mem ((c.tc : Thread Cert.ConvInReferenceIdeal.nD Cert.ConvInReferenceIdeal.τ).loc Cert.ConvInReferenceIdeal.main_arg0) = m ((c.tc : Thread Cert.ConvInReferenceIdeal.nD Cert.ConvInReferenceIdeal.τ).loc Cert.ConvInReferenceIdeal.main_arg0)
      ∧ r.2.mem ((c.tc : Thread Cert.ConvInReferenceIdeal.nD Cert.ConvInReferenceIdeal.τ).loc Cert.ConvInReferenceIdeal.main_arg1) = m ((c.tc : Thread Cert.ConvInReferenceIdeal.nD Cert.ConvInReferenceIdeal.τ).loc Cert.ConvInReferenceIdeal.main_arg1)
      ∧ r.2.mem ((c.tc : Thread Cert.ConvInReferenceIdeal.nD Cert.ConvInReferenceIdeal.τ).loc Cert.ConvInReferenceIdeal.main_arg2) = m ((c.tc : Thread Cert.ConvInReferenceIdeal.nD Cert.ConvInReferenceIdeal.τ).loc Cert.ConvInReferenceIdeal.main_arg2)
      ∧ r.2.mem ((c.tc : Thread Cert.ConvInReferenceIdeal.nD Cert.ConvInReferenceIdeal.τ).loc Cert.ConvInReferenceIdeal.main_arg3) = m ((c.tc : Thread Cert.ConvInReferenceIdeal.nD Cert.ConvInReferenceIdeal.τ).loc Cert.ConvInReferenceIdeal.main_arg3))
      ∧ r.2.sem = fun _ => 0)

def quiescent_KvKernel [hKvKernel : Cert.KvKernel.Facts] : Prop :=
  ∀ (m : (ℓ : Loc Cert.KvKernel.nD Cert.KvKernel.τ Cert.KvKernel.sig) → Buf (Elt Bits) ℓ) (g : Dev Cert.KvKernel.nD → PrngReg), Pre_KvKernel m →
    θ_run (Cert.KvKernel.defs (F := Bits)) (onTc (τ := Cert.KvKernel.τ) (Cert.KvKernel.main (F := Bits))) ⟨m, fun _ => 0, g⟩ (fun r => (∀ c : Dev Cert.KvKernel.nD,
      r.2.mem ((c.tc : Thread Cert.KvKernel.nD Cert.KvKernel.τ).loc Cert.KvKernel.main_arg0) = m ((c.tc : Thread Cert.KvKernel.nD Cert.KvKernel.τ).loc Cert.KvKernel.main_arg0)
      ∧ r.2.mem ((c.tc : Thread Cert.KvKernel.nD Cert.KvKernel.τ).loc Cert.KvKernel.main_arg1) = m ((c.tc : Thread Cert.KvKernel.nD Cert.KvKernel.τ).loc Cert.KvKernel.main_arg1)
      ∧ r.2.mem ((c.tc : Thread Cert.KvKernel.nD Cert.KvKernel.τ).loc Cert.KvKernel.main_arg2) = m ((c.tc : Thread Cert.KvKernel.nD Cert.KvKernel.τ).loc Cert.KvKernel.main_arg2)
      ∧ r.2.mem ((c.tc : Thread Cert.KvKernel.nD Cert.KvKernel.τ).loc Cert.KvKernel.main_arg3) = m ((c.tc : Thread Cert.KvKernel.nD Cert.KvKernel.τ).loc Cert.KvKernel.main_arg3))
      ∧ r.2.sem = fun _ => 0)

def quiescent_KvKernelIdeal [hKvKernelIdeal : Cert.KvKernelIdeal.Facts] : Prop :=
  ∀ (m : (ℓ : Loc Cert.KvKernelIdeal.nD Cert.KvKernelIdeal.τ Cert.KvKernelIdeal.sig) → Buf (Elt Ideal) ℓ) (g : Dev Cert.KvKernelIdeal.nD → PrngReg), Pre_KvKernelIdeal m →
    θ_run (Cert.KvKernelIdeal.defs (F := Ideal)) (onTc (τ := Cert.KvKernelIdeal.τ) (Cert.KvKernelIdeal.main (F := Ideal))) ⟨m, fun _ => 0, g⟩ (fun r => (∀ c : Dev Cert.KvKernelIdeal.nD,
      r.2.mem ((c.tc : Thread Cert.KvKernelIdeal.nD Cert.KvKernelIdeal.τ).loc Cert.KvKernelIdeal.main_arg0) = m ((c.tc : Thread Cert.KvKernelIdeal.nD Cert.KvKernelIdeal.τ).loc Cert.KvKernelIdeal.main_arg0)
      ∧ r.2.mem ((c.tc : Thread Cert.KvKernelIdeal.nD Cert.KvKernelIdeal.τ).loc Cert.KvKernelIdeal.main_arg1) = m ((c.tc : Thread Cert.KvKernelIdeal.nD Cert.KvKernelIdeal.τ).loc Cert.KvKernelIdeal.main_arg1)
      ∧ r.2.mem ((c.tc : Thread Cert.KvKernelIdeal.nD Cert.KvKernelIdeal.τ).loc Cert.KvKernelIdeal.main_arg2) = m ((c.tc : Thread Cert.KvKernelIdeal.nD Cert.KvKernelIdeal.τ).loc Cert.KvKernelIdeal.main_arg2)
      ∧ r.2.mem ((c.tc : Thread Cert.KvKernelIdeal.nD Cert.KvKernelIdeal.τ).loc Cert.KvKernelIdeal.main_arg3) = m ((c.tc : Thread Cert.KvKernelIdeal.nD Cert.KvKernelIdeal.τ).loc Cert.KvKernelIdeal.main_arg3))
      ∧ r.2.sem = fun _ => 0)

def quiescent_KvReferenceIdeal [hKvReferenceIdeal : Cert.KvReferenceIdeal.Facts] : Prop :=
  ∀ (m : (ℓ : Loc Cert.KvReferenceIdeal.nD Cert.KvReferenceIdeal.τ Cert.KvReferenceIdeal.sig) → Buf (Elt Ideal) ℓ) (g : Dev Cert.KvReferenceIdeal.nD → PrngReg), Pre_KvReferenceIdeal m →
    θ_run (Cert.KvReferenceIdeal.defs (F := Ideal)) (onTc (τ := Cert.KvReferenceIdeal.τ) (Cert.KvReferenceIdeal.main (F := Ideal))) ⟨m, fun _ => 0, g⟩ (fun r => (∀ c : Dev Cert.KvReferenceIdeal.nD,
      r.2.mem ((c.tc : Thread Cert.KvReferenceIdeal.nD Cert.KvReferenceIdeal.τ).loc Cert.KvReferenceIdeal.main_arg0) = m ((c.tc : Thread Cert.KvReferenceIdeal.nD Cert.KvReferenceIdeal.τ).loc Cert.KvReferenceIdeal.main_arg0)
      ∧ r.2.mem ((c.tc : Thread Cert.KvReferenceIdeal.nD Cert.KvReferenceIdeal.τ).loc Cert.KvReferenceIdeal.main_arg1) = m ((c.tc : Thread Cert.KvReferenceIdeal.nD Cert.KvReferenceIdeal.τ).loc Cert.KvReferenceIdeal.main_arg1)
      ∧ r.2.mem ((c.tc : Thread Cert.KvReferenceIdeal.nD Cert.KvReferenceIdeal.τ).loc Cert.KvReferenceIdeal.main_arg2) = m ((c.tc : Thread Cert.KvReferenceIdeal.nD Cert.KvReferenceIdeal.τ).loc Cert.KvReferenceIdeal.main_arg2)
      ∧ r.2.mem ((c.tc : Thread Cert.KvReferenceIdeal.nD Cert.KvReferenceIdeal.τ).loc Cert.KvReferenceIdeal.main_arg3) = m ((c.tc : Thread Cert.KvReferenceIdeal.nD Cert.KvReferenceIdeal.τ).loc Cert.KvReferenceIdeal.main_arg3))
      ∧ r.2.sem = fun _ => 0)

def quiescent_QKernel [hQKernel : Cert.QKernel.Facts] : Prop :=
  ∀ (m : (ℓ : Loc Cert.QKernel.nD Cert.QKernel.τ Cert.QKernel.sig) → Buf (Elt Bits) ℓ) (g : Dev Cert.QKernel.nD → PrngReg), Pre_QKernel m →
    θ_run (Cert.QKernel.defs (F := Bits)) (onTc (τ := Cert.QKernel.τ) (Cert.QKernel.main (F := Bits))) ⟨m, fun _ => 0, g⟩ (fun r => (∀ c : Dev Cert.QKernel.nD,
      r.2.mem ((c.tc : Thread Cert.QKernel.nD Cert.QKernel.τ).loc Cert.QKernel.main_arg0) = m ((c.tc : Thread Cert.QKernel.nD Cert.QKernel.τ).loc Cert.QKernel.main_arg0)
      ∧ r.2.mem ((c.tc : Thread Cert.QKernel.nD Cert.QKernel.τ).loc Cert.QKernel.main_arg1) = m ((c.tc : Thread Cert.QKernel.nD Cert.QKernel.τ).loc Cert.QKernel.main_arg1)
      ∧ r.2.mem ((c.tc : Thread Cert.QKernel.nD Cert.QKernel.τ).loc Cert.QKernel.main_arg2) = m ((c.tc : Thread Cert.QKernel.nD Cert.QKernel.τ).loc Cert.QKernel.main_arg2)
      ∧ r.2.mem ((c.tc : Thread Cert.QKernel.nD Cert.QKernel.τ).loc Cert.QKernel.main_arg3) = m ((c.tc : Thread Cert.QKernel.nD Cert.QKernel.τ).loc Cert.QKernel.main_arg3))
      ∧ r.2.sem = fun _ => 0)

def quiescent_QKernelIdeal [hQKernelIdeal : Cert.QKernelIdeal.Facts] : Prop :=
  ∀ (m : (ℓ : Loc Cert.QKernelIdeal.nD Cert.QKernelIdeal.τ Cert.QKernelIdeal.sig) → Buf (Elt Ideal) ℓ) (g : Dev Cert.QKernelIdeal.nD → PrngReg), Pre_QKernelIdeal m →
    θ_run (Cert.QKernelIdeal.defs (F := Ideal)) (onTc (τ := Cert.QKernelIdeal.τ) (Cert.QKernelIdeal.main (F := Ideal))) ⟨m, fun _ => 0, g⟩ (fun r => (∀ c : Dev Cert.QKernelIdeal.nD,
      r.2.mem ((c.tc : Thread Cert.QKernelIdeal.nD Cert.QKernelIdeal.τ).loc Cert.QKernelIdeal.main_arg0) = m ((c.tc : Thread Cert.QKernelIdeal.nD Cert.QKernelIdeal.τ).loc Cert.QKernelIdeal.main_arg0)
      ∧ r.2.mem ((c.tc : Thread Cert.QKernelIdeal.nD Cert.QKernelIdeal.τ).loc Cert.QKernelIdeal.main_arg1) = m ((c.tc : Thread Cert.QKernelIdeal.nD Cert.QKernelIdeal.τ).loc Cert.QKernelIdeal.main_arg1)
      ∧ r.2.mem ((c.tc : Thread Cert.QKernelIdeal.nD Cert.QKernelIdeal.τ).loc Cert.QKernelIdeal.main_arg2) = m ((c.tc : Thread Cert.QKernelIdeal.nD Cert.QKernelIdeal.τ).loc Cert.QKernelIdeal.main_arg2)
      ∧ r.2.mem ((c.tc : Thread Cert.QKernelIdeal.nD Cert.QKernelIdeal.τ).loc Cert.QKernelIdeal.main_arg3) = m ((c.tc : Thread Cert.QKernelIdeal.nD Cert.QKernelIdeal.τ).loc Cert.QKernelIdeal.main_arg3))
      ∧ r.2.sem = fun _ => 0)

def quiescent_QReferenceIdeal [hQReferenceIdeal : Cert.QReferenceIdeal.Facts] : Prop :=
  ∀ (m : (ℓ : Loc Cert.QReferenceIdeal.nD Cert.QReferenceIdeal.τ Cert.QReferenceIdeal.sig) → Buf (Elt Ideal) ℓ) (g : Dev Cert.QReferenceIdeal.nD → PrngReg), Pre_QReferenceIdeal m →
    θ_run (Cert.QReferenceIdeal.defs (F := Ideal)) (onTc (τ := Cert.QReferenceIdeal.τ) (Cert.QReferenceIdeal.main (F := Ideal))) ⟨m, fun _ => 0, g⟩ (fun r => (∀ c : Dev Cert.QReferenceIdeal.nD,
      r.2.mem ((c.tc : Thread Cert.QReferenceIdeal.nD Cert.QReferenceIdeal.τ).loc Cert.QReferenceIdeal.main_arg0) = m ((c.tc : Thread Cert.QReferenceIdeal.nD Cert.QReferenceIdeal.τ).loc Cert.QReferenceIdeal.main_arg0)
      ∧ r.2.mem ((c.tc : Thread Cert.QReferenceIdeal.nD Cert.QReferenceIdeal.τ).loc Cert.QReferenceIdeal.main_arg1) = m ((c.tc : Thread Cert.QReferenceIdeal.nD Cert.QReferenceIdeal.τ).loc Cert.QReferenceIdeal.main_arg1)
      ∧ r.2.mem ((c.tc : Thread Cert.QReferenceIdeal.nD Cert.QReferenceIdeal.τ).loc Cert.QReferenceIdeal.main_arg2) = m ((c.tc : Thread Cert.QReferenceIdeal.nD Cert.QReferenceIdeal.τ).loc Cert.QReferenceIdeal.main_arg2)
      ∧ r.2.mem ((c.tc : Thread Cert.QReferenceIdeal.nD Cert.QReferenceIdeal.τ).loc Cert.QReferenceIdeal.main_arg3) = m ((c.tc : Thread Cert.QReferenceIdeal.nD Cert.QReferenceIdeal.τ).loc Cert.QReferenceIdeal.main_arg3))
      ∧ r.2.sem = fun _ => 0)

def quiescent_BiasKernel [hBiasKernel : Cert.BiasKernel.Facts] : Prop :=
  ∀ (m : (ℓ : Loc Cert.BiasKernel.nD Cert.BiasKernel.τ Cert.BiasKernel.sig) → Buf (Elt Bits) ℓ) (g : Dev Cert.BiasKernel.nD → PrngReg), Pre_BiasKernel m →
    θ_run (Cert.BiasKernel.defs (F := Bits)) (onTc (τ := Cert.BiasKernel.τ) (Cert.BiasKernel.main (F := Bits))) ⟨m, fun _ => 0, g⟩ (fun r => (∀ c : Dev Cert.BiasKernel.nD,
      r.2.mem ((c.tc : Thread Cert.BiasKernel.nD Cert.BiasKernel.τ).loc Cert.BiasKernel.main_arg0) = m ((c.tc : Thread Cert.BiasKernel.nD Cert.BiasKernel.τ).loc Cert.BiasKernel.main_arg0)
      ∧ r.2.mem ((c.tc : Thread Cert.BiasKernel.nD Cert.BiasKernel.τ).loc Cert.BiasKernel.main_arg1) = m ((c.tc : Thread Cert.BiasKernel.nD Cert.BiasKernel.τ).loc Cert.BiasKernel.main_arg1)
      ∧ r.2.mem ((c.tc : Thread Cert.BiasKernel.nD Cert.BiasKernel.τ).loc Cert.BiasKernel.main_arg2) = m ((c.tc : Thread Cert.BiasKernel.nD Cert.BiasKernel.τ).loc Cert.BiasKernel.main_arg2)
      ∧ r.2.mem ((c.tc : Thread Cert.BiasKernel.nD Cert.BiasKernel.τ).loc Cert.BiasKernel.main_arg3) = m ((c.tc : Thread Cert.BiasKernel.nD Cert.BiasKernel.τ).loc Cert.BiasKernel.main_arg3))
      ∧ r.2.sem = fun _ => 0)

def quiescent_BiasKernelIdeal [hBiasKernelIdeal : Cert.BiasKernelIdeal.Facts] : Prop :=
  ∀ (m : (ℓ : Loc Cert.BiasKernelIdeal.nD Cert.BiasKernelIdeal.τ Cert.BiasKernelIdeal.sig) → Buf (Elt Ideal) ℓ) (g : Dev Cert.BiasKernelIdeal.nD → PrngReg), Pre_BiasKernelIdeal m →
    θ_run (Cert.BiasKernelIdeal.defs (F := Ideal)) (onTc (τ := Cert.BiasKernelIdeal.τ) (Cert.BiasKernelIdeal.main (F := Ideal))) ⟨m, fun _ => 0, g⟩ (fun r => (∀ c : Dev Cert.BiasKernelIdeal.nD,
      r.2.mem ((c.tc : Thread Cert.BiasKernelIdeal.nD Cert.BiasKernelIdeal.τ).loc Cert.BiasKernelIdeal.main_arg0) = m ((c.tc : Thread Cert.BiasKernelIdeal.nD Cert.BiasKernelIdeal.τ).loc Cert.BiasKernelIdeal.main_arg0)
      ∧ r.2.mem ((c.tc : Thread Cert.BiasKernelIdeal.nD Cert.BiasKernelIdeal.τ).loc Cert.BiasKernelIdeal.main_arg1) = m ((c.tc : Thread Cert.BiasKernelIdeal.nD Cert.BiasKernelIdeal.τ).loc Cert.BiasKernelIdeal.main_arg1)
      ∧ r.2.mem ((c.tc : Thread Cert.BiasKernelIdeal.nD Cert.BiasKernelIdeal.τ).loc Cert.BiasKernelIdeal.main_arg2) = m ((c.tc : Thread Cert.BiasKernelIdeal.nD Cert.BiasKernelIdeal.τ).loc Cert.BiasKernelIdeal.main_arg2)
      ∧ r.2.mem ((c.tc : Thread Cert.BiasKernelIdeal.nD Cert.BiasKernelIdeal.τ).loc Cert.BiasKernelIdeal.main_arg3) = m ((c.tc : Thread Cert.BiasKernelIdeal.nD Cert.BiasKernelIdeal.τ).loc Cert.BiasKernelIdeal.main_arg3))
      ∧ r.2.sem = fun _ => 0)

def quiescent_BiasKernelIdeal_pre_finite_gate [hBiasKernelIdeal : Cert.BiasKernelIdeal.Facts] [hPre_finite_gate : Cert.Pre_finite_gate.Facts] : Prop :=
  ∀ (m : (ℓ : Loc Cert.BiasKernelIdeal.nD Cert.BiasKernelIdeal.τ Cert.BiasKernelIdeal.sig) → Buf (Elt Ideal) ℓ) (g : Dev Cert.BiasKernelIdeal.nD → PrngReg), Pre_BiasKernelIdeal_finite_gate m →
    θ_run (Cert.BiasKernelIdeal.defs (F := Ideal)) (onTc (τ := Cert.BiasKernelIdeal.τ) (Cert.BiasKernelIdeal.main (F := Ideal))) ⟨m, fun _ => 0, g⟩ (fun r => (∀ c : Dev Cert.BiasKernelIdeal.nD,
      r.2.mem ((c.tc : Thread Cert.BiasKernelIdeal.nD Cert.BiasKernelIdeal.τ).loc Cert.BiasKernelIdeal.main_arg0) = m ((c.tc : Thread Cert.BiasKernelIdeal.nD Cert.BiasKernelIdeal.τ).loc Cert.BiasKernelIdeal.main_arg0)
      ∧ r.2.mem ((c.tc : Thread Cert.BiasKernelIdeal.nD Cert.BiasKernelIdeal.τ).loc Cert.BiasKernelIdeal.main_arg1) = m ((c.tc : Thread Cert.BiasKernelIdeal.nD Cert.BiasKernelIdeal.τ).loc Cert.BiasKernelIdeal.main_arg1)
      ∧ r.2.mem ((c.tc : Thread Cert.BiasKernelIdeal.nD Cert.BiasKernelIdeal.τ).loc Cert.BiasKernelIdeal.main_arg2) = m ((c.tc : Thread Cert.BiasKernelIdeal.nD Cert.BiasKernelIdeal.τ).loc Cert.BiasKernelIdeal.main_arg2)
      ∧ r.2.mem ((c.tc : Thread Cert.BiasKernelIdeal.nD Cert.BiasKernelIdeal.τ).loc Cert.BiasKernelIdeal.main_arg3) = m ((c.tc : Thread Cert.BiasKernelIdeal.nD Cert.BiasKernelIdeal.τ).loc Cert.BiasKernelIdeal.main_arg3))
      ∧ r.2.sem = fun _ => 0)

def quiescent_BiasReferenceIdeal [hBiasReferenceIdeal : Cert.BiasReferenceIdeal.Facts] : Prop :=
  ∀ (m : (ℓ : Loc Cert.BiasReferenceIdeal.nD Cert.BiasReferenceIdeal.τ Cert.BiasReferenceIdeal.sig) → Buf (Elt Ideal) ℓ) (g : Dev Cert.BiasReferenceIdeal.nD → PrngReg), Pre_BiasReferenceIdeal m →
    θ_run (Cert.BiasReferenceIdeal.defs (F := Ideal)) (onTc (τ := Cert.BiasReferenceIdeal.τ) (Cert.BiasReferenceIdeal.main (F := Ideal))) ⟨m, fun _ => 0, g⟩ (fun r => (∀ c : Dev Cert.BiasReferenceIdeal.nD,
      r.2.mem ((c.tc : Thread Cert.BiasReferenceIdeal.nD Cert.BiasReferenceIdeal.τ).loc Cert.BiasReferenceIdeal.main_arg0) = m ((c.tc : Thread Cert.BiasReferenceIdeal.nD Cert.BiasReferenceIdeal.τ).loc Cert.BiasReferenceIdeal.main_arg0)
      ∧ r.2.mem ((c.tc : Thread Cert.BiasReferenceIdeal.nD Cert.BiasReferenceIdeal.τ).loc Cert.BiasReferenceIdeal.main_arg1) = m ((c.tc : Thread Cert.BiasReferenceIdeal.nD Cert.BiasReferenceIdeal.τ).loc Cert.BiasReferenceIdeal.main_arg1)
      ∧ r.2.mem ((c.tc : Thread Cert.BiasReferenceIdeal.nD Cert.BiasReferenceIdeal.τ).loc Cert.BiasReferenceIdeal.main_arg2) = m ((c.tc : Thread Cert.BiasReferenceIdeal.nD Cert.BiasReferenceIdeal.τ).loc Cert.BiasReferenceIdeal.main_arg2)
      ∧ r.2.mem ((c.tc : Thread Cert.BiasReferenceIdeal.nD Cert.BiasReferenceIdeal.τ).loc Cert.BiasReferenceIdeal.main_arg3) = m ((c.tc : Thread Cert.BiasReferenceIdeal.nD Cert.BiasReferenceIdeal.τ).loc Cert.BiasReferenceIdeal.main_arg3))
      ∧ r.2.sem = fun _ => 0)

def quiescent_BiasReferenceIdeal_pre_finite_gate [hBiasReferenceIdeal : Cert.BiasReferenceIdeal.Facts] [hPre_finite_gate : Cert.Pre_finite_gate.Facts] : Prop :=
  ∀ (m : (ℓ : Loc Cert.BiasReferenceIdeal.nD Cert.BiasReferenceIdeal.τ Cert.BiasReferenceIdeal.sig) → Buf (Elt Ideal) ℓ) (g : Dev Cert.BiasReferenceIdeal.nD → PrngReg), Pre_BiasReferenceIdeal_finite_gate m →
    θ_run (Cert.BiasReferenceIdeal.defs (F := Ideal)) (onTc (τ := Cert.BiasReferenceIdeal.τ) (Cert.BiasReferenceIdeal.main (F := Ideal))) ⟨m, fun _ => 0, g⟩ (fun r => (∀ c : Dev Cert.BiasReferenceIdeal.nD,
      r.2.mem ((c.tc : Thread Cert.BiasReferenceIdeal.nD Cert.BiasReferenceIdeal.τ).loc Cert.BiasReferenceIdeal.main_arg0) = m ((c.tc : Thread Cert.BiasReferenceIdeal.nD Cert.BiasReferenceIdeal.τ).loc Cert.BiasReferenceIdeal.main_arg0)
      ∧ r.2.mem ((c.tc : Thread Cert.BiasReferenceIdeal.nD Cert.BiasReferenceIdeal.τ).loc Cert.BiasReferenceIdeal.main_arg1) = m ((c.tc : Thread Cert.BiasReferenceIdeal.nD Cert.BiasReferenceIdeal.τ).loc Cert.BiasReferenceIdeal.main_arg1)
      ∧ r.2.mem ((c.tc : Thread Cert.BiasReferenceIdeal.nD Cert.BiasReferenceIdeal.τ).loc Cert.BiasReferenceIdeal.main_arg2) = m ((c.tc : Thread Cert.BiasReferenceIdeal.nD Cert.BiasReferenceIdeal.τ).loc Cert.BiasReferenceIdeal.main_arg2)
      ∧ r.2.mem ((c.tc : Thread Cert.BiasReferenceIdeal.nD Cert.BiasReferenceIdeal.τ).loc Cert.BiasReferenceIdeal.main_arg3) = m ((c.tc : Thread Cert.BiasReferenceIdeal.nD Cert.BiasReferenceIdeal.τ).loc Cert.BiasReferenceIdeal.main_arg3))
      ∧ r.2.sem = fun _ => 0)

def quiescent_AttnKernel [hAttnKernel : Cert.AttnKernel.Facts] : Prop :=
  ∀ (m : (ℓ : Loc Cert.AttnKernel.nD Cert.AttnKernel.τ Cert.AttnKernel.sig) → Buf (Elt Bits) ℓ) (g : Dev Cert.AttnKernel.nD → PrngReg), Pre_AttnKernel m →
    θ_run (Cert.AttnKernel.defs (F := Bits)) (onTc (τ := Cert.AttnKernel.τ) (Cert.AttnKernel.main (F := Bits))) ⟨m, fun _ => 0, g⟩ (fun r => (∀ c : Dev Cert.AttnKernel.nD,
      r.2.mem ((c.tc : Thread Cert.AttnKernel.nD Cert.AttnKernel.τ).loc Cert.AttnKernel.main_arg0) = m ((c.tc : Thread Cert.AttnKernel.nD Cert.AttnKernel.τ).loc Cert.AttnKernel.main_arg0)
      ∧ r.2.mem ((c.tc : Thread Cert.AttnKernel.nD Cert.AttnKernel.τ).loc Cert.AttnKernel.main_arg1) = m ((c.tc : Thread Cert.AttnKernel.nD Cert.AttnKernel.τ).loc Cert.AttnKernel.main_arg1)
      ∧ r.2.mem ((c.tc : Thread Cert.AttnKernel.nD Cert.AttnKernel.τ).loc Cert.AttnKernel.main_arg2) = m ((c.tc : Thread Cert.AttnKernel.nD Cert.AttnKernel.τ).loc Cert.AttnKernel.main_arg2)
      ∧ r.2.mem ((c.tc : Thread Cert.AttnKernel.nD Cert.AttnKernel.τ).loc Cert.AttnKernel.main_arg3) = m ((c.tc : Thread Cert.AttnKernel.nD Cert.AttnKernel.τ).loc Cert.AttnKernel.main_arg3))
      ∧ r.2.sem = fun _ => 0)

def quiescent_AttnKernelIdeal [hAttnKernelIdeal : Cert.AttnKernelIdeal.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
      ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3))
      ∧ r.2.sem = fun _ => 0)

def quiescent_AttnKernelIdeal_pre_finite [hAttnKernelIdeal : Cert.AttnKernelIdeal.Facts] [hPre_finite : Cert.Pre_finite.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal_finite m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
      ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3))
      ∧ r.2.sem = fun _ => 0)

def quiescent_AttnReferenceIdeal_pre_finite [hAttnReferenceIdeal : Cert.AttnReferenceIdeal.Facts] [hPre_finite : Cert.Pre_finite.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal_finite m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3))
      ∧ r.2.sem = fun _ => 0)

def preserves_DownKernel_DownKernelIdeal : Prop :=
  True

def algebraic_DownKernelIdeal_DownReferenceIdeal [hDownKernelIdeal : Cert.DownKernelIdeal.Facts] [hDownReferenceIdeal : Cert.DownReferenceIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownKernelIdeal m →
    (∀ c : Dev Cert.DownKernelIdeal.nD,
      m' ((c.tc : Thread Cert.DownReferenceIdeal.nD Cert.DownReferenceIdeal.τ).loc Cert.DownReferenceIdeal.main_arg0) = m ((c.tc : Thread Cert.DownKernelIdeal.nD Cert.DownKernelIdeal.τ).loc Cert.DownKernelIdeal.main_arg0)
      ∧ m' ((c.tc : Thread Cert.DownReferenceIdeal.nD Cert.DownReferenceIdeal.τ).loc Cert.DownReferenceIdeal.main_arg1) = m ((c.tc : Thread Cert.DownKernelIdeal.nD Cert.DownKernelIdeal.τ).loc Cert.DownKernelIdeal.main_arg1)
      ∧ m' ((c.tc : Thread Cert.DownReferenceIdeal.nD Cert.DownReferenceIdeal.τ).loc Cert.DownReferenceIdeal.main_arg2) = m ((c.tc : Thread Cert.DownKernelIdeal.nD Cert.DownKernelIdeal.τ).loc Cert.DownKernelIdeal.main_arg2)) →
    ∃ (v0 : (c : Dev Cert.DownKernelIdeal.nD) → Buf (Elt Ideal) ((c.tc : Thread Cert.DownKernelIdeal.nD Cert.DownKernelIdeal.τ).loc Cert.DownKernelIdeal.main_v2)),
      θ_run (Cert.DownKernelIdeal.defs (F := Ideal)) (onTc (τ := Cert.DownKernelIdeal.τ) (Cert.DownKernelIdeal.main (F := Ideal))) ⟨m, fun _ => 0, g⟩ (fun r => ∀ c : Dev Cert.DownKernelIdeal.nD,
          r.2.mem ((c.tc : Thread Cert.DownKernelIdeal.nD Cert.DownKernelIdeal.τ).loc Cert.DownKernelIdeal.main_v2) = v0 c
          ∧ r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
          ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
          ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v8) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2))

def preserves_EmbedKernel_EmbedKernelIdeal : Prop :=
  True

def algebraic_EmbedKernelIdeal_EmbedReferenceIdeal [hEmbedKernelIdeal : Cert.EmbedKernelIdeal.Facts] [hEmbedReferenceIdeal : Cert.EmbedReferenceIdeal.Facts] : Prop :=
  ∀ (m : (ℓ : Loc Cert.EmbedKernelIdeal.nD Cert.EmbedKernelIdeal.τ Cert.EmbedKernelIdeal.sig) → Buf (Elt Ideal) ℓ) (g : Dev Cert.EmbedKernelIdeal.nD → PrngReg)
    (m' : (ℓ : Loc Cert.EmbedReferenceIdeal.nD Cert.EmbedReferenceIdeal.τ Cert.EmbedReferenceIdeal.sig) → Buf (Elt Ideal) ℓ) (g' : Dev Cert.EmbedReferenceIdeal.nD → PrngReg), Pre_EmbedKernelIdeal m →
    (∀ c : Dev Cert.EmbedKernelIdeal.nD,
      m' ((c.tc : Thread Cert.EmbedReferenceIdeal.nD Cert.EmbedReferenceIdeal.τ).loc Cert.EmbedReferenceIdeal.main_arg0) = m ((c.tc : Thread Cert.EmbedKernelIdeal.nD Cert.EmbedKernelIdeal.τ).loc Cert.EmbedKernelIdeal.main_arg0)
      ∧ m' ((c.tc : Thread Cert.EmbedReferenceIdeal.nD Cert.EmbedReferenceIdeal.τ).loc Cert.EmbedReferenceIdeal.main_arg1) = m ((c.tc : Thread Cert.EmbedKernelIdeal.nD Cert.EmbedKernelIdeal.τ).loc Cert.EmbedKernelIdeal.main_arg1)) →
    ∃ (v0 : (c : Dev Cert.EmbedKernelIdeal.nD) → Buf (Elt Ideal) ((c.tc : Thread Cert.EmbedKernelIdeal.nD Cert.EmbedKernelIdeal.τ).loc Cert.EmbedKernelIdeal.main_v0_0)) (v1 : (c : Dev Cert.EmbedKernelIdeal.nD) → Buf (Elt Ideal) ((c.tc : Thread Cert.EmbedKernelIdeal.nD Cert.EmbedKernelIdeal.τ).loc Cert.EmbedKernelIdeal.main_v0_1)),
      θ_run (Cert.EmbedKernelIdeal.defs (F := Ideal)) (onTc (τ := Cert.EmbedKernelIdeal.τ) (Cert.EmbedKernelIdeal.main (F := Ideal))) ⟨m, fun _ => 0, g⟩ (fun r => ∀ c : Dev Cert.EmbedKernelIdeal.nD,
          r.2.mem ((c.tc : Thread Cert.EmbedKernelIdeal.nD Cert.EmbedKernelIdeal.τ).loc Cert.EmbedKernelIdeal.main_v0_0) = v0 c
          ∧ r.2.mem ((c.tc : Thread Cert.EmbedKernelIdeal.nD Cert.EmbedKernelIdeal.τ).loc Cert.EmbedKernelIdeal.main_v0_1) = v1 c
          ∧ r.2.mem ((c.tc : Thread Cert.EmbedKernelIdeal.nD Cert.EmbedKernelIdeal.τ).loc Cert.EmbedKernelIdeal.main_arg0) = m ((c.tc : Thread Cert.EmbedKernelIdeal.nD Cert.EmbedKernelIdeal.τ).loc Cert.EmbedKernelIdeal.main_arg0)
          ∧ r.2.mem ((c.tc : Thread Cert.EmbedKernelIdeal.nD Cert.EmbedKernelIdeal.τ).loc Cert.EmbedKernelIdeal.main_arg1) = m ((c.tc : Thread Cert.EmbedKernelIdeal.nD Cert.EmbedKernelIdeal.τ).loc Cert.EmbedKernelIdeal.main_arg1))
      ∧ θ_run (Cert.EmbedReferenceIdeal.defs (F := Ideal)) (onTc (τ := Cert.EmbedReferenceIdeal.τ) (Cert.EmbedReferenceIdeal.main (F := Ideal))) ⟨m', fun _ => 0, g'⟩ (fun r => ∀ c : Dev Cert.EmbedReferenceIdeal.nD,
          r.2.mem ((c.tc : Thread Cert.EmbedReferenceIdeal.nD Cert.EmbedReferenceIdeal.τ).loc Cert.EmbedReferenceIdeal.main_v14) = v0 c
          ∧ r.2.mem ((c.tc : Thread Cert.EmbedReferenceIdeal.nD Cert.EmbedReferenceIdeal.τ).loc Cert.EmbedReferenceIdeal.main_v17) = v1 c
          ∧ r.2.mem ((c.tc : Thread Cert.EmbedReferenceIdeal.nD Cert.EmbedReferenceIdeal.τ).loc Cert.EmbedReferenceIdeal.main_arg0) = m' ((c.tc : Thread Cert.EmbedReferenceIdeal.nD Cert.EmbedReferenceIdeal.τ).loc Cert.EmbedReferenceIdeal.main_arg0)
          ∧ r.2.mem ((c.tc : Thread Cert.EmbedReferenceIdeal.nD Cert.EmbedReferenceIdeal.τ).loc Cert.EmbedReferenceIdeal.main_arg1) = m' ((c.tc : Thread Cert.EmbedReferenceIdeal.nD Cert.EmbedReferenceIdeal.τ).loc Cert.EmbedReferenceIdeal.main_arg1))

def preserves_UpKernel_UpKernelIdeal : Prop :=
  True

def algebraic_UpKernelIdeal_UpReferenceIdeal [hUpKernelIdeal : Cert.UpKernelIdeal.Facts] [hUpReferenceIdeal : Cert.UpReferenceIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpKernelIdeal m →
    (∀ c : Dev Cert.UpKernelIdeal.nD,
      m' ((c.tc : Thread Cert.UpReferenceIdeal.nD Cert.UpReferenceIdeal.τ).loc Cert.UpReferenceIdeal.main_arg0) = m ((c.tc : Thread Cert.UpKernelIdeal.nD Cert.UpKernelIdeal.τ).loc Cert.UpKernelIdeal.main_arg0)
      ∧ m' ((c.tc : Thread Cert.UpReferenceIdeal.nD Cert.UpReferenceIdeal.τ).loc Cert.UpReferenceIdeal.main_arg1) = m ((c.tc : Thread Cert.UpKernelIdeal.nD Cert.UpKernelIdeal.τ).loc Cert.UpKernelIdeal.main_arg1)
      ∧ m' ((c.tc : Thread Cert.UpReferenceIdeal.nD Cert.UpReferenceIdeal.τ).loc Cert.UpReferenceIdeal.main_arg2) = m ((c.tc : Thread Cert.UpKernelIdeal.nD Cert.UpKernelIdeal.τ).loc Cert.UpKernelIdeal.main_arg2)) →
    ∃ (v0 : (c : Dev Cert.UpKernelIdeal.nD) → Buf (Elt Ideal) ((c.tc : Thread Cert.UpKernelIdeal.nD Cert.UpKernelIdeal.τ).loc Cert.UpKernelIdeal.main_v3)),
      θ_run (Cert.UpKernelIdeal.defs (F := Ideal)) (onTc (τ := Cert.UpKernelIdeal.τ) (Cert.UpKernelIdeal.main (F := Ideal))) ⟨m, fun _ => 0, g⟩ (fun r => ∀ c : Dev Cert.UpKernelIdeal.nD,
          r.2.mem ((c.tc : Thread Cert.UpKernelIdeal.nD Cert.UpKernelIdeal.τ).loc Cert.UpKernelIdeal.main_v3) = v0 c
          ∧ r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
          ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
          ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v13) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2))

def preserves_ConvOutKernel_ConvOutKernelIdeal : Prop :=
  True

def algebraic_ConvOutKernelIdeal_ConvOutReferenceIdeal [hConvOutKernelIdeal : Cert.ConvOutKernelIdeal.Facts] [hConvOutReferenceIdeal : Cert.ConvOutReferenceIdeal.Facts] : Prop :=
  ∀ (m : (ℓ : Loc Cert.ConvOutKernelIdeal.nD Cert.ConvOutKernelIdeal.τ Cert.ConvOutKernelIdeal.sig) → Buf (Elt Ideal) ℓ) (g : Dev Cert.ConvOutKernelIdeal.nD → PrngReg)
    (m' : (ℓ : Loc Cert.ConvOutReferenceIdeal.nD Cert.ConvOutReferenceIdeal.τ Cert.ConvOutReferenceIdeal.sig) → Buf (Elt Ideal) ℓ) (g' : Dev Cert.ConvOutReferenceIdeal.nD → PrngReg), Pre_ConvOutKernelIdeal m →
    (∀ c : Dev Cert.ConvOutKernelIdeal.nD,
      m' ((c.tc : Thread Cert.ConvOutReferenceIdeal.nD Cert.ConvOutReferenceIdeal.τ).loc Cert.ConvOutReferenceIdeal.main_arg0) = m ((c.tc : Thread Cert.ConvOutKernelIdeal.nD Cert.ConvOutKernelIdeal.τ).loc Cert.ConvOutKernelIdeal.main_arg0)
      ∧ m' ((c.tc : Thread Cert.ConvOutReferenceIdeal.nD Cert.ConvOutReferenceIdeal.τ).loc Cert.ConvOutReferenceIdeal.main_arg1) = m ((c.tc : Thread Cert.ConvOutKernelIdeal.nD Cert.ConvOutKernelIdeal.τ).loc Cert.ConvOutKernelIdeal.main_arg1)
      ∧ m' ((c.tc : Thread Cert.ConvOutReferenceIdeal.nD Cert.ConvOutReferenceIdeal.τ).loc Cert.ConvOutReferenceIdeal.main_arg2) = m ((c.tc : Thread Cert.ConvOutKernelIdeal.nD Cert.ConvOutKernelIdeal.τ).loc Cert.ConvOutKernelIdeal.main_arg2)) →
    ∃ (v0 : (c : Dev Cert.ConvOutKernelIdeal.nD) → Buf (Elt Ideal) ((c.tc : Thread Cert.ConvOutKernelIdeal.nD Cert.ConvOutKernelIdeal.τ).loc Cert.ConvOutKernelIdeal.main_v1_0)) (v1 : (c : Dev Cert.ConvOutKernelIdeal.nD) → Buf (Elt Ideal) ((c.tc : Thread Cert.ConvOutKernelIdeal.nD Cert.ConvOutKernelIdeal.τ).loc Cert.ConvOutKernelIdeal.main_v1_1)),
      θ_run (Cert.ConvOutKernelIdeal.defs (F := Ideal)) (onTc (τ := Cert.ConvOutKernelIdeal.τ) (Cert.ConvOutKernelIdeal.main (F := Ideal))) ⟨m, fun _ => 0, g⟩ (fun r => ∀ c : Dev Cert.ConvOutKernelIdeal.nD,
          r.2.mem ((c.tc : Thread Cert.ConvOutKernelIdeal.nD Cert.ConvOutKernelIdeal.τ).loc Cert.ConvOutKernelIdeal.main_v1_0) = v0 c
          ∧ r.2.mem ((c.tc : Thread Cert.ConvOutKernelIdeal.nD Cert.ConvOutKernelIdeal.τ).loc Cert.ConvOutKernelIdeal.main_v1_1) = v1 c
          ∧ r.2.mem ((c.tc : Thread Cert.ConvOutKernelIdeal.nD Cert.ConvOutKernelIdeal.τ).loc Cert.ConvOutKernelIdeal.main_arg0) = m ((c.tc : Thread Cert.ConvOutKernelIdeal.nD Cert.ConvOutKernelIdeal.τ).loc Cert.ConvOutKernelIdeal.main_arg0)
          ∧ r.2.mem ((c.tc : Thread Cert.ConvOutKernelIdeal.nD Cert.ConvOutKernelIdeal.τ).loc Cert.ConvOutKernelIdeal.main_arg1) = m ((c.tc : Thread Cert.ConvOutKernelIdeal.nD Cert.ConvOutKernelIdeal.τ).loc Cert.ConvOutKernelIdeal.main_arg1)
          ∧ r.2.mem ((c.tc : Thread Cert.ConvOutKernelIdeal.nD Cert.ConvOutKernelIdeal.τ).loc Cert.ConvOutKernelIdeal.main_arg2) = m ((c.tc : Thread Cert.ConvOutKernelIdeal.nD Cert.ConvOutKernelIdeal.τ).loc Cert.ConvOutKernelIdeal.main_arg2))
      ∧ θ_run (Cert.ConvOutReferenceIdeal.defs (F := Ideal)) (onTc (τ := Cert.ConvOutReferenceIdeal.τ) (Cert.ConvOutReferenceIdeal.main (F := Ideal))) ⟨m', fun _ => 0, g'⟩ (fun r => ∀ c : Dev Cert.ConvOutReferenceIdeal.nD,
          r.2.mem ((c.tc : Thread Cert.ConvOutReferenceIdeal.nD Cert.ConvOutReferenceIdeal.τ).loc Cert.ConvOutReferenceIdeal.main_v4) = v0 c
          ∧ r.2.mem ((c.tc : Thread Cert.ConvOutReferenceIdeal.nD Cert.ConvOutReferenceIdeal.τ).loc Cert.ConvOutReferenceIdeal.main_v15) = v1 c
          ∧ r.2.mem ((c.tc : Thread Cert.ConvOutReferenceIdeal.nD Cert.ConvOutReferenceIdeal.τ).loc Cert.ConvOutReferenceIdeal.main_arg0) = m' ((c.tc : Thread Cert.ConvOutReferenceIdeal.nD Cert.ConvOutReferenceIdeal.τ).loc Cert.ConvOutReferenceIdeal.main_arg0)
          ∧ r.2.mem ((c.tc : Thread Cert.ConvOutReferenceIdeal.nD Cert.ConvOutReferenceIdeal.τ).loc Cert.ConvOutReferenceIdeal.main_arg1) = m' ((c.tc : Thread Cert.ConvOutReferenceIdeal.nD Cert.ConvOutReferenceIdeal.τ).loc Cert.ConvOutReferenceIdeal.main_arg1)
          ∧ r.2.mem ((c.tc : Thread Cert.ConvOutReferenceIdeal.nD Cert.ConvOutReferenceIdeal.τ).loc Cert.ConvOutReferenceIdeal.main_arg2) = m' ((c.tc : Thread Cert.ConvOutReferenceIdeal.nD Cert.ConvOutReferenceIdeal.τ).loc Cert.ConvOutReferenceIdeal.main_arg2))

def preserves_ConvInKernel_ConvInKernelIdeal : Prop :=
  True

def algebraic_ConvInKernelIdeal_ConvInReferenceIdeal [hConvInKernelIdeal : Cert.ConvInKernelIdeal.Facts] [hConvInReferenceIdeal : Cert.ConvInReferenceIdeal.Facts] : Prop :=
  ∀ (m : (ℓ : Loc Cert.ConvInKernelIdeal.nD Cert.ConvInKernelIdeal.τ Cert.ConvInKernelIdeal.sig) → Buf (Elt Ideal) ℓ) (g : Dev Cert.ConvInKernelIdeal.nD → PrngReg)
    (m' : (ℓ : Loc Cert.ConvInReferenceIdeal.nD Cert.ConvInReferenceIdeal.τ Cert.ConvInReferenceIdeal.sig) → Buf (Elt Ideal) ℓ) (g' : Dev Cert.ConvInReferenceIdeal.nD → PrngReg), Pre_ConvInKernelIdeal m →
    (∀ c : Dev Cert.ConvInKernelIdeal.nD,
      m' ((c.tc : Thread Cert.ConvInReferenceIdeal.nD Cert.ConvInReferenceIdeal.τ).loc Cert.ConvInReferenceIdeal.main_arg0) = m ((c.tc : Thread Cert.ConvInKernelIdeal.nD Cert.ConvInKernelIdeal.τ).loc Cert.ConvInKernelIdeal.main_arg0)
      ∧ m' ((c.tc : Thread Cert.ConvInReferenceIdeal.nD Cert.ConvInReferenceIdeal.τ).loc Cert.ConvInReferenceIdeal.main_arg1) = m ((c.tc : Thread Cert.ConvInKernelIdeal.nD Cert.ConvInKernelIdeal.τ).loc Cert.ConvInKernelIdeal.main_arg1)
      ∧ m' ((c.tc : Thread Cert.ConvInReferenceIdeal.nD Cert.ConvInReferenceIdeal.τ).loc Cert.ConvInReferenceIdeal.main_arg2) = m ((c.tc : Thread Cert.ConvInKernelIdeal.nD Cert.ConvInKernelIdeal.τ).loc Cert.ConvInKernelIdeal.main_arg2)
      ∧ m' ((c.tc : Thread Cert.ConvInReferenceIdeal.nD Cert.ConvInReferenceIdeal.τ).loc Cert.ConvInReferenceIdeal.main_arg3) = m ((c.tc : Thread Cert.ConvInKernelIdeal.nD Cert.ConvInKernelIdeal.τ).loc Cert.ConvInKernelIdeal.main_arg3)) →
    ∃ (v0 : (c : Dev Cert.ConvInKernelIdeal.nD) → Buf (Elt Ideal) ((c.tc : Thread Cert.ConvInKernelIdeal.nD Cert.ConvInKernelIdeal.τ).loc Cert.ConvInKernelIdeal.main_v7)),
      θ_run (Cert.ConvInKernelIdeal.defs (F := Ideal)) (onTc (τ := Cert.ConvInKernelIdeal.τ) (Cert.ConvInKernelIdeal.main (F := Ideal))) ⟨m, fun _ => 0, g⟩ (fun r => ∀ c : Dev Cert.ConvInKernelIdeal.nD,
          r.2.mem ((c.tc : Thread Cert.ConvInKernelIdeal.nD Cert.ConvInKernelIdeal.τ).loc Cert.ConvInKernelIdeal.main_v7) = v0 c
          ∧ r.2.mem ((c.tc : Thread Cert.ConvInKernelIdeal.nD Cert.ConvInKernelIdeal.τ).loc Cert.ConvInKernelIdeal.main_arg0) = m ((c.tc : Thread Cert.ConvInKernelIdeal.nD Cert.ConvInKernelIdeal.τ).loc Cert.ConvInKernelIdeal.main_arg0)
          ∧ r.2.mem ((c.tc : Thread Cert.ConvInKernelIdeal.nD Cert.ConvInKernelIdeal.τ).loc Cert.ConvInKernelIdeal.main_arg1) = m ((c.tc : Thread Cert.ConvInKernelIdeal.nD Cert.ConvInKernelIdeal.τ).loc Cert.ConvInKernelIdeal.main_arg1)
          ∧ r.2.mem ((c.tc : Thread Cert.ConvInKernelIdeal.nD Cert.ConvInKernelIdeal.τ).loc Cert.ConvInKernelIdeal.main_arg2) = m ((c.tc : Thread Cert.ConvInKernelIdeal.nD Cert.ConvInKernelIdeal.τ).loc Cert.ConvInKernelIdeal.main_arg2)
          ∧ r.2.mem ((c.tc : Thread Cert.ConvInKernelIdeal.nD Cert.ConvInKernelIdeal.τ).loc Cert.ConvInKernelIdeal.main_arg3) = m ((c.tc : Thread Cert.ConvInKernelIdeal.nD Cert.ConvInKernelIdeal.τ).loc Cert.ConvInKernelIdeal.main_arg3))
      ∧ θ_run (Cert.ConvInReferenceIdeal.defs (F := Ideal)) (onTc (τ := Cert.ConvInReferenceIdeal.τ) (Cert.ConvInReferenceIdeal.main (F := Ideal))) ⟨m', fun _ => 0, g'⟩ (fun r => ∀ c : Dev Cert.ConvInReferenceIdeal.nD,
          r.2.mem ((c.tc : Thread Cert.ConvInReferenceIdeal.nD Cert.ConvInReferenceIdeal.τ).loc Cert.ConvInReferenceIdeal.main_v39) = v0 c
          ∧ r.2.mem ((c.tc : Thread Cert.ConvInReferenceIdeal.nD Cert.ConvInReferenceIdeal.τ).loc Cert.ConvInReferenceIdeal.main_arg0) = m' ((c.tc : Thread Cert.ConvInReferenceIdeal.nD Cert.ConvInReferenceIdeal.τ).loc Cert.ConvInReferenceIdeal.main_arg0)
          ∧ r.2.mem ((c.tc : Thread Cert.ConvInReferenceIdeal.nD Cert.ConvInReferenceIdeal.τ).loc Cert.ConvInReferenceIdeal.main_arg1) = m' ((c.tc : Thread Cert.ConvInReferenceIdeal.nD Cert.ConvInReferenceIdeal.τ).loc Cert.ConvInReferenceIdeal.main_arg1)
          ∧ r.2.mem ((c.tc : Thread Cert.ConvInReferenceIdeal.nD Cert.ConvInReferenceIdeal.τ).loc Cert.ConvInReferenceIdeal.main_arg2) = m' ((c.tc : Thread Cert.ConvInReferenceIdeal.nD Cert.ConvInReferenceIdeal.τ).loc Cert.ConvInReferenceIdeal.main_arg2)
          ∧ r.2.mem ((c.tc : Thread Cert.ConvInReferenceIdeal.nD Cert.ConvInReferenceIdeal.τ).loc Cert.ConvInReferenceIdeal.main_arg3) = m' ((c.tc : Thread Cert.ConvInReferenceIdeal.nD Cert.ConvInReferenceIdeal.τ).loc Cert.ConvInReferenceIdeal.main_arg3))

def preserves_KvKernel_KvKernelIdeal : Prop :=
  True

def algebraic_KvKernelIdeal_KvReferenceIdeal [hKvKernelIdeal : Cert.KvKernelIdeal.Facts] [hKvReferenceIdeal : Cert.KvReferenceIdeal.Facts] : Prop :=
  ∀ (m : (ℓ : Loc Cert.KvKernelIdeal.nD Cert.KvKernelIdeal.τ Cert.KvKernelIdeal.sig) → Buf (Elt Ideal) ℓ) (g : Dev Cert.KvKernelIdeal.nD → PrngReg)
    (m' : (ℓ : Loc Cert.KvReferenceIdeal.nD Cert.KvReferenceIdeal.τ Cert.KvReferenceIdeal.sig) → Buf (Elt Ideal) ℓ) (g' : Dev Cert.KvReferenceIdeal.nD → PrngReg), Pre_KvKernelIdeal m →
    (∀ c : Dev Cert.KvKernelIdeal.nD,
      m' ((c.tc : Thread Cert.KvReferenceIdeal.nD Cert.KvReferenceIdeal.τ).loc Cert.KvReferenceIdeal.main_arg0) = m ((c.tc : Thread Cert.KvKernelIdeal.nD Cert.KvKernelIdeal.τ).loc Cert.KvKernelIdeal.main_arg0)
      ∧ m' ((c.tc : Thread Cert.KvReferenceIdeal.nD Cert.KvReferenceIdeal.τ).loc Cert.KvReferenceIdeal.main_arg1) = m ((c.tc : Thread Cert.KvKernelIdeal.nD Cert.KvKernelIdeal.τ).loc Cert.KvKernelIdeal.main_arg1)
      ∧ m' ((c.tc : Thread Cert.KvReferenceIdeal.nD Cert.KvReferenceIdeal.τ).loc Cert.KvReferenceIdeal.main_arg2) = m ((c.tc : Thread Cert.KvKernelIdeal.nD Cert.KvKernelIdeal.τ).loc Cert.KvKernelIdeal.main_arg2)
      ∧ m' ((c.tc : Thread Cert.KvReferenceIdeal.nD Cert.KvReferenceIdeal.τ).loc Cert.KvReferenceIdeal.main_arg3) = m ((c.tc : Thread Cert.KvKernelIdeal.nD Cert.KvKernelIdeal.τ).loc Cert.KvKernelIdeal.main_arg3)) →
    ∃ (v0 : (c : Dev Cert.KvKernelIdeal.nD) → Buf (Elt Ideal) ((c.tc : Thread Cert.KvKernelIdeal.nD Cert.KvKernelIdeal.τ).loc Cert.KvKernelIdeal.main_v3_0)) (v1 : (c : Dev Cert.KvKernelIdeal.nD) → Buf (Elt Ideal) ((c.tc : Thread Cert.KvKernelIdeal.nD Cert.KvKernelIdeal.τ).loc Cert.KvKernelIdeal.main_v3_1)),
      θ_run (Cert.KvKernelIdeal.defs (F := Ideal)) (onTc (τ := Cert.KvKernelIdeal.τ) (Cert.KvKernelIdeal.main (F := Ideal))) ⟨m, fun _ => 0, g⟩ (fun r => ∀ c : Dev Cert.KvKernelIdeal.nD,
          r.2.mem ((c.tc : Thread Cert.KvKernelIdeal.nD Cert.KvKernelIdeal.τ).loc Cert.KvKernelIdeal.main_v3_0) = v0 c
          ∧ r.2.mem ((c.tc : Thread Cert.KvKernelIdeal.nD Cert.KvKernelIdeal.τ).loc Cert.KvKernelIdeal.main_v3_1) = v1 c
          ∧ r.2.mem ((c.tc : Thread Cert.KvKernelIdeal.nD Cert.KvKernelIdeal.τ).loc Cert.KvKernelIdeal.main_arg0) = m ((c.tc : Thread Cert.KvKernelIdeal.nD Cert.KvKernelIdeal.τ).loc Cert.KvKernelIdeal.main_arg0)
          ∧ r.2.mem ((c.tc : Thread Cert.KvKernelIdeal.nD Cert.KvKernelIdeal.τ).loc Cert.KvKernelIdeal.main_arg1) = m ((c.tc : Thread Cert.KvKernelIdeal.nD Cert.KvKernelIdeal.τ).loc Cert.KvKernelIdeal.main_arg1)
          ∧ r.2.mem ((c.tc : Thread Cert.KvKernelIdeal.nD Cert.KvKernelIdeal.τ).loc Cert.KvKernelIdeal.main_arg2) = m ((c.tc : Thread Cert.KvKernelIdeal.nD Cert.KvKernelIdeal.τ).loc Cert.KvKernelIdeal.main_arg2)
          ∧ r.2.mem ((c.tc : Thread Cert.KvKernelIdeal.nD Cert.KvKernelIdeal.τ).loc Cert.KvKernelIdeal.main_arg3) = m ((c.tc : Thread Cert.KvKernelIdeal.nD Cert.KvKernelIdeal.τ).loc Cert.KvKernelIdeal.main_arg3))
      ∧ θ_run (Cert.KvReferenceIdeal.defs (F := Ideal)) (onTc (τ := Cert.KvReferenceIdeal.τ) (Cert.KvReferenceIdeal.main (F := Ideal))) ⟨m', fun _ => 0, g'⟩ (fun r => ∀ c : Dev Cert.KvReferenceIdeal.nD,
          r.2.mem ((c.tc : Thread Cert.KvReferenceIdeal.nD Cert.KvReferenceIdeal.τ).loc Cert.KvReferenceIdeal.main_v22) = v0 c
          ∧ r.2.mem ((c.tc : Thread Cert.KvReferenceIdeal.nD Cert.KvReferenceIdeal.τ).loc Cert.KvReferenceIdeal.main_v23) = v1 c
          ∧ r.2.mem ((c.tc : Thread Cert.KvReferenceIdeal.nD Cert.KvReferenceIdeal.τ).loc Cert.KvReferenceIdeal.main_arg0) = m' ((c.tc : Thread Cert.KvReferenceIdeal.nD Cert.KvReferenceIdeal.τ).loc Cert.KvReferenceIdeal.main_arg0)
          ∧ r.2.mem ((c.tc : Thread Cert.KvReferenceIdeal.nD Cert.KvReferenceIdeal.τ).loc Cert.KvReferenceIdeal.main_arg1) = m' ((c.tc : Thread Cert.KvReferenceIdeal.nD Cert.KvReferenceIdeal.τ).loc Cert.KvReferenceIdeal.main_arg1)
          ∧ r.2.mem ((c.tc : Thread Cert.KvReferenceIdeal.nD Cert.KvReferenceIdeal.τ).loc Cert.KvReferenceIdeal.main_arg2) = m' ((c.tc : Thread Cert.KvReferenceIdeal.nD Cert.KvReferenceIdeal.τ).loc Cert.KvReferenceIdeal.main_arg2)
          ∧ r.2.mem ((c.tc : Thread Cert.KvReferenceIdeal.nD Cert.KvReferenceIdeal.τ).loc Cert.KvReferenceIdeal.main_arg3) = m' ((c.tc : Thread Cert.KvReferenceIdeal.nD Cert.KvReferenceIdeal.τ).loc Cert.KvReferenceIdeal.main_arg3))

def preserves_QKernel_QKernelIdeal : Prop :=
  IdealRules.named_const.Statement Cert.QKernelIdeal.κ "score_scale" .f32 0x3E0293EE#32 (((Real.log 2)⁻¹ * (Real.sqrt 128)⁻¹ : ℝ) : EReal)

def algebraic_QKernelIdeal_QReferenceIdeal [hQKernelIdeal : Cert.QKernelIdeal.Facts] [hQReferenceIdeal : Cert.QReferenceIdeal.Facts] : Prop :=
  ∀ (m : (ℓ : Loc Cert.QKernelIdeal.nD Cert.QKernelIdeal.τ Cert.QKernelIdeal.sig) → Buf (Elt Ideal) ℓ) (g : Dev Cert.QKernelIdeal.nD → PrngReg)
    (m' : (ℓ : Loc Cert.QReferenceIdeal.nD Cert.QReferenceIdeal.τ Cert.QReferenceIdeal.sig) → Buf (Elt Ideal) ℓ) (g' : Dev Cert.QReferenceIdeal.nD → PrngReg), Pre_QKernelIdeal m →
    (∀ c : Dev Cert.QKernelIdeal.nD,
      m' ((c.tc : Thread Cert.QReferenceIdeal.nD Cert.QReferenceIdeal.τ).loc Cert.QReferenceIdeal.main_arg0) = m ((c.tc : Thread Cert.QKernelIdeal.nD Cert.QKernelIdeal.τ).loc Cert.QKernelIdeal.main_arg0)
      ∧ m' ((c.tc : Thread Cert.QReferenceIdeal.nD Cert.QReferenceIdeal.τ).loc Cert.QReferenceIdeal.main_arg1) = m ((c.tc : Thread Cert.QKernelIdeal.nD Cert.QKernelIdeal.τ).loc Cert.QKernelIdeal.main_arg1)
      ∧ m' ((c.tc : Thread Cert.QReferenceIdeal.nD Cert.QReferenceIdeal.τ).loc Cert.QReferenceIdeal.main_arg2) = m ((c.tc : Thread Cert.QKernelIdeal.nD Cert.QKernelIdeal.τ).loc Cert.QKernelIdeal.main_arg2)
      ∧ m' ((c.tc : Thread Cert.QReferenceIdeal.nD Cert.QReferenceIdeal.τ).loc Cert.QReferenceIdeal.main_arg3) = m ((c.tc : Thread Cert.QKernelIdeal.nD Cert.QKernelIdeal.τ).loc Cert.QKernelIdeal.main_arg3)) →
    ∃ (v0 : (c : Dev Cert.QKernelIdeal.nD) → Buf (Elt Ideal) ((c.tc : Thread Cert.QKernelIdeal.nD Cert.QKernelIdeal.τ).loc Cert.QKernelIdeal.main_v6)),
      θ_run (Cert.QKernelIdeal.defs (F := Ideal)) (onTc (τ := Cert.QKernelIdeal.τ) (Cert.QKernelIdeal.main (F := Ideal))) ⟨m, fun _ => 0, g⟩ (fun r => ∀ c : Dev Cert.QKernelIdeal.nD,
          r.2.mem ((c.tc : Thread Cert.QKernelIdeal.nD Cert.QKernelIdeal.τ).loc Cert.QKernelIdeal.main_v6) = v0 c
          ∧ r.2.mem ((c.tc : Thread Cert.QKernelIdeal.nD Cert.QKernelIdeal.τ).loc Cert.QKernelIdeal.main_arg0) = m ((c.tc : Thread Cert.QKernelIdeal.nD Cert.QKernelIdeal.τ).loc Cert.QKernelIdeal.main_arg0)
          ∧ r.2.mem ((c.tc : Thread Cert.QKernelIdeal.nD Cert.QKernelIdeal.τ).loc Cert.QKernelIdeal.main_arg1) = m ((c.tc : Thread Cert.QKernelIdeal.nD Cert.QKernelIdeal.τ).loc Cert.QKernelIdeal.main_arg1)
          ∧ r.2.mem ((c.tc : Thread Cert.QKernelIdeal.nD Cert.QKernelIdeal.τ).loc Cert.QKernelIdeal.main_arg2) = m ((c.tc : Thread Cert.QKernelIdeal.nD Cert.QKernelIdeal.τ).loc Cert.QKernelIdeal.main_arg2)
          ∧ r.2.mem ((c.tc : Thread Cert.QKernelIdeal.nD Cert.QKernelIdeal.τ).loc Cert.QKernelIdeal.main_arg3) = m ((c.tc : Thread Cert.QKernelIdeal.nD Cert.QKernelIdeal.τ).loc Cert.QKernelIdeal.main_arg3))
      ∧ θ_run (Cert.QReferenceIdeal.defs (F := Ideal)) (onTc (τ := Cert.QReferenceIdeal.τ) (Cert.QReferenceIdeal.main (F := Ideal))) ⟨m', fun _ => 0, g'⟩ (fun r => ∀ c : Dev Cert.QReferenceIdeal.nD,
          r.2.mem ((c.tc : Thread Cert.QReferenceIdeal.nD Cert.QReferenceIdeal.τ).loc Cert.QReferenceIdeal.main_v32) = v0 c
          ∧ r.2.mem ((c.tc : Thread Cert.QReferenceIdeal.nD Cert.QReferenceIdeal.τ).loc Cert.QReferenceIdeal.main_arg0) = m' ((c.tc : Thread Cert.QReferenceIdeal.nD Cert.QReferenceIdeal.τ).loc Cert.QReferenceIdeal.main_arg0)
          ∧ r.2.mem ((c.tc : Thread Cert.QReferenceIdeal.nD Cert.QReferenceIdeal.τ).loc Cert.QReferenceIdeal.main_arg1) = m' ((c.tc : Thread Cert.QReferenceIdeal.nD Cert.QReferenceIdeal.τ).loc Cert.QReferenceIdeal.main_arg1)
          ∧ r.2.mem ((c.tc : Thread Cert.QReferenceIdeal.nD Cert.QReferenceIdeal.τ).loc Cert.QReferenceIdeal.main_arg2) = m' ((c.tc : Thread Cert.QReferenceIdeal.nD Cert.QReferenceIdeal.τ).loc Cert.QReferenceIdeal.main_arg2)
          ∧ r.2.mem ((c.tc : Thread Cert.QReferenceIdeal.nD Cert.QReferenceIdeal.τ).loc Cert.QReferenceIdeal.main_arg3) = m' ((c.tc : Thread Cert.QReferenceIdeal.nD Cert.QReferenceIdeal.τ).loc Cert.QReferenceIdeal.main_arg3))

def preserves_BiasKernel_BiasKernelIdeal : Prop :=
  IdealRules.named_const.Statement Cert.BiasKernelIdeal.κ "neg_log2e" .f32 0xBFB8AA3B#32 ((-((Real.log 2)⁻¹) : ℝ) : EReal)
  ∧ IdealRules.named_const.Statement Cert.BiasKernelIdeal.κ "neg_inf" .f32 0xF149F2CA#32 ⊥

def algebraic_BiasKernelIdeal_BiasReferenceIdeal_pre_finite_gate [hBiasKernelIdeal : Cert.BiasKernelIdeal.Facts] [hBiasReferenceIdeal : Cert.BiasReferenceIdeal.Facts] [hPre_finite_gate : Cert.Pre_finite_gate.Facts] : Prop :=
  ∀ (m : (ℓ : Loc Cert.BiasKernelIdeal.nD Cert.BiasKernelIdeal.τ Cert.BiasKernelIdeal.sig) → Buf (Elt Ideal) ℓ) (g : Dev Cert.BiasKernelIdeal.nD → PrngReg)
    (m' : (ℓ : Loc Cert.BiasReferenceIdeal.nD Cert.BiasReferenceIdeal.τ Cert.BiasReferenceIdeal.sig) → Buf (Elt Ideal) ℓ) (g' : Dev Cert.BiasReferenceIdeal.nD → PrngReg), Pre_BiasKernelIdeal_finite_gate m →
    (∀ c : Dev Cert.BiasKernelIdeal.nD,
      m' ((c.tc : Thread Cert.BiasReferenceIdeal.nD Cert.BiasReferenceIdeal.τ).loc Cert.BiasReferenceIdeal.main_arg0) = m ((c.tc : Thread Cert.BiasKernelIdeal.nD Cert.BiasKernelIdeal.τ).loc Cert.BiasKernelIdeal.main_arg0)
      ∧ m' ((c.tc : Thread Cert.BiasReferenceIdeal.nD Cert.BiasReferenceIdeal.τ).loc Cert.BiasReferenceIdeal.main_arg1) = m ((c.tc : Thread Cert.BiasKernelIdeal.nD Cert.BiasKernelIdeal.τ).loc Cert.BiasKernelIdeal.main_arg1)
      ∧ m' ((c.tc : Thread Cert.BiasReferenceIdeal.nD Cert.BiasReferenceIdeal.τ).loc Cert.BiasReferenceIdeal.main_arg2) = m ((c.tc : Thread Cert.BiasKernelIdeal.nD Cert.BiasKernelIdeal.τ).loc Cert.BiasKernelIdeal.main_arg2)
      ∧ m' ((c.tc : Thread Cert.BiasReferenceIdeal.nD Cert.BiasReferenceIdeal.τ).loc Cert.BiasReferenceIdeal.main_arg3) = m ((c.tc : Thread Cert.BiasKernelIdeal.nD Cert.BiasKernelIdeal.τ).loc Cert.BiasKernelIdeal.main_arg3)) →
    ∃ (v0 : (c : Dev Cert.BiasKernelIdeal.nD) → Buf (Elt Ideal) ((c.tc : Thread Cert.BiasKernelIdeal.nD Cert.BiasKernelIdeal.τ).loc Cert.BiasKernelIdeal.main_v14)),
      θ_run (Cert.BiasKernelIdeal.defs (F := Ideal)) (onTc (τ := Cert.BiasKernelIdeal.τ) (Cert.BiasKernelIdeal.main (F := Ideal))) ⟨m, fun _ => 0, g⟩ (fun r => ∀ c : Dev Cert.BiasKernelIdeal.nD,
          r.2.mem ((c.tc : Thread Cert.BiasKernelIdeal.nD Cert.BiasKernelIdeal.τ).loc Cert.BiasKernelIdeal.main_v14) = v0 c
          ∧ r.2.mem ((c.tc : Thread Cert.BiasKernelIdeal.nD Cert.BiasKernelIdeal.τ).loc Cert.BiasKernelIdeal.main_arg0) = m ((c.tc : Thread Cert.BiasKernelIdeal.nD Cert.BiasKernelIdeal.τ).loc Cert.BiasKernelIdeal.main_arg0)
          ∧ r.2.mem ((c.tc : Thread Cert.BiasKernelIdeal.nD Cert.BiasKernelIdeal.τ).loc Cert.BiasKernelIdeal.main_arg1) = m ((c.tc : Thread Cert.BiasKernelIdeal.nD Cert.BiasKernelIdeal.τ).loc Cert.BiasKernelIdeal.main_arg1)
          ∧ r.2.mem ((c.tc : Thread Cert.BiasKernelIdeal.nD Cert.BiasKernelIdeal.τ).loc Cert.BiasKernelIdeal.main_arg2) = m ((c.tc : Thread Cert.BiasKernelIdeal.nD Cert.BiasKernelIdeal.τ).loc Cert.BiasKernelIdeal.main_arg2)
          ∧ r.2.mem ((c.tc : Thread Cert.BiasKernelIdeal.nD Cert.BiasKernelIdeal.τ).loc Cert.BiasKernelIdeal.main_arg3) = m ((c.tc : Thread Cert.BiasKernelIdeal.nD Cert.BiasKernelIdeal.τ).loc Cert.BiasKernelIdeal.main_arg3))
      ∧ θ_run (Cert.BiasReferenceIdeal.defs (F := Ideal)) (onTc (τ := Cert.BiasReferenceIdeal.τ) (Cert.BiasReferenceIdeal.main (F := Ideal))) ⟨m', fun _ => 0, g'⟩ (fun r => ∀ c : Dev Cert.BiasReferenceIdeal.nD,
          r.2.mem ((c.tc : Thread Cert.BiasReferenceIdeal.nD Cert.BiasReferenceIdeal.τ).loc Cert.BiasReferenceIdeal.main_v32) = v0 c
          ∧ r.2.mem ((c.tc : Thread Cert.BiasReferenceIdeal.nD Cert.BiasReferenceIdeal.τ).loc Cert.BiasReferenceIdeal.main_arg0) = m' ((c.tc : Thread Cert.BiasReferenceIdeal.nD Cert.BiasReferenceIdeal.τ).loc Cert.BiasReferenceIdeal.main_arg0)
          ∧ r.2.mem ((c.tc : Thread Cert.BiasReferenceIdeal.nD Cert.BiasReferenceIdeal.τ).loc Cert.BiasReferenceIdeal.main_arg1) = m' ((c.tc : Thread Cert.BiasReferenceIdeal.nD Cert.BiasReferenceIdeal.τ).loc Cert.BiasReferenceIdeal.main_arg1)
          ∧ r.2.mem ((c.tc : Thread Cert.BiasReferenceIdeal.nD Cert.BiasReferenceIdeal.τ).loc Cert.BiasReferenceIdeal.main_arg2) = m' ((c.tc : Thread Cert.BiasReferenceIdeal.nD Cert.BiasReferenceIdeal.τ).loc Cert.BiasReferenceIdeal.main_arg2)
          ∧ r.2.mem ((c.tc : Thread Cert.BiasReferenceIdeal.nD Cert.BiasReferenceIdeal.τ).loc Cert.BiasReferenceIdeal.main_arg3) = m' ((c.tc : Thread Cert.BiasReferenceIdeal.nD Cert.BiasReferenceIdeal.τ).loc Cert.BiasReferenceIdeal.main_arg3))

def preserves_AttnKernel_AttnKernelIdeal : Prop :=
  IdealRules.named_const.Statement Cert.AttnKernelIdeal.κ "neg_inf" .f32 0xF149F2CA#32 ⊥

def algebraic_AttnKernelIdeal_AttnReferenceIdeal_on_kept_rows_pre_finite [hAttnKernelIdeal : Cert.AttnKernelIdeal.Facts] [hAttnReferenceIdeal : Cert.AttnReferenceIdeal.Facts] [hPre_finite : Cert.Pre_finite.Facts] [hOn_kept_rows : Cert.On_kept_rows.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnKernelIdeal_finite m →
    (∀ c : Dev Cert.AttnKernelIdeal.nD,
      m' ((c.tc : Thread Cert.AttnReferenceIdeal.nD Cert.AttnReferenceIdeal.τ).loc Cert.AttnReferenceIdeal.main_arg0) = m ((c.tc : Thread Cert.AttnKernelIdeal.nD Cert.AttnKernelIdeal.τ).loc Cert.AttnKernelIdeal.main_arg0)
      ∧ m' ((c.tc : Thread Cert.AttnReferenceIdeal.nD Cert.AttnReferenceIdeal.τ).loc Cert.AttnReferenceIdeal.main_arg1) = m ((c.tc : Thread Cert.AttnKernelIdeal.nD Cert.AttnKernelIdeal.τ).loc Cert.AttnKernelIdeal.main_arg1)
      ∧ m' ((c.tc : Thread Cert.AttnReferenceIdeal.nD Cert.AttnReferenceIdeal.τ).loc Cert.AttnReferenceIdeal.main_arg2) = m ((c.tc : Thread Cert.AttnKernelIdeal.nD Cert.AttnKernelIdeal.τ).loc Cert.AttnKernelIdeal.main_arg2)
      ∧ m' ((c.tc : Thread Cert.AttnReferenceIdeal.nD Cert.AttnReferenceIdeal.τ).loc Cert.AttnReferenceIdeal.main_arg3) = m ((c.tc : Thread Cert.AttnKernelIdeal.nD Cert.AttnKernelIdeal.τ).loc Cert.AttnKernelIdeal.main_arg3)) →
    ∃ (v0 : (c : Dev Cert.AttnKernelIdeal.nD) → Buf (Elt Ideal) ((c.tc : Thread Cert.AttnKernelIdeal.nD Cert.AttnKernelIdeal.τ).loc Cert.AttnKernelIdeal.main_v10)),
      θ_run (Cert.AttnKernelIdeal.defs (F := Ideal)) (onTc (τ := Cert.AttnKernelIdeal.τ) (Cert.AttnKernelIdeal.main (F := Ideal))) ⟨m, fun _ => 0, g⟩ (fun r => ∀ c : Dev Cert.AttnKernelIdeal.nD,
          (∀ i : (⟨2, ![16896, 2048]⟩ : Shape).Idx, (Cert.On_kept_rows.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3))) i = 1#1 → r.2.mem ((c.tc : Thread Cert.AttnKernelIdeal.nD Cert.AttnKernelIdeal.τ).loc Cert.AttnKernelIdeal.main_v10) i = v0 c i)
          ∧ r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
          ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
          ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
          ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          (∀ i : (⟨2, ![16896, 2048]⟩ : Shape).Idx, (Cert.On_kept_rows.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3))) i = 1#1 → r.2.mem ((c.tc : Thread Cert.AttnReferenceIdeal.nD Cert.AttnReferenceIdeal.τ).loc Cert.AttnReferenceIdeal.main_v36) i = v0 c i)
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1)
          ∧ r.2.mem ((c.tc : Thread Cert.AttnReferenceIdeal.nD Cert.AttnReferenceIdeal.τ).loc Cert.AttnReferenceIdeal.main_arg2) = m' ((c.tc : Thread Cert.AttnReferenceIdeal.nD Cert.AttnReferenceIdeal.τ).loc Cert.AttnReferenceIdeal.main_arg2)
          ∧ r.2.mem ((c.tc : Thread Cert.AttnReferenceIdeal.nD Cert.AttnReferenceIdeal.τ).loc Cert.AttnReferenceIdeal.main_arg3) = m' ((c.tc : Thread Cert.AttnReferenceIdeal.nD Cert.AttnReferenceIdeal.τ).loc Cert.AttnReferenceIdeal.main_arg3))

def Claim : Prop :=
  ∃ (hDownKernel : Cert.DownKernel.Facts) (hDownKernelIdeal : Cert.DownKernelIdeal.Facts) (hDownReferenceIdeal : Cert.DownReferenceIdeal.Facts) (hEmbedKernel : Cert.EmbedKernel.Facts) (hEmbedKernelIdeal : Cert.EmbedKernelIdeal.Facts) (hEmbedReferenceIdeal : Cert.EmbedReferenceIdeal.Facts) (hUpKernel : Cert.UpKernel.Facts) (hUpKernelIdeal : Cert.UpKernelIdeal.Facts) (hUpReferenceIdeal : Cert.UpReferenceIdeal.Facts) (hConvOutKernel : Cert.ConvOutKernel.Facts) (hConvOutKernelIdeal : Cert.ConvOutKernelIdeal.Facts) (hConvOutReferenceIdeal : Cert.ConvOutReferenceIdeal.Facts) (hConvInKernel : Cert.ConvInKernel.Facts) (hConvInKernelIdeal : Cert.ConvInKernelIdeal.Facts) (hConvInReferenceIdeal : Cert.ConvInReferenceIdeal.Facts) (hKvKernel : Cert.KvKernel.Facts) (hKvKernelIdeal : Cert.KvKernelIdeal.Facts) (hKvReferenceIdeal : Cert.KvReferenceIdeal.Facts) (hQKernel : Cert.QKernel.Facts) (hQKernelIdeal : Cert.QKernelIdeal.Facts) (hQReferenceIdeal : Cert.QReferenceIdeal.Facts) (hBiasKernel : Cert.BiasKernel.Facts) (hBiasKernelIdeal : Cert.BiasKernelIdeal.Facts) (hBiasReferenceIdeal : Cert.BiasReferenceIdeal.Facts) (hAttnKernel : Cert.AttnKernel.Facts) (hAttnKernelIdeal : Cert.AttnKernelIdeal.Facts) (hAttnReferenceIdeal : Cert.AttnReferenceIdeal.Facts) (hPre_finite_gate : Cert.Pre_finite_gate.Facts) (hPre_finite : Cert.Pre_finite.Facts) (hOn_kept_rows : Cert.On_kept_rows.Facts),
    quiescent_DownKernel (hDownKernel := hDownKernel)
    ∧ quiescent_DownKernelIdeal (hDownKernelIdeal := hDownKernelIdeal)
    ∧ quiescent_DownReferenceIdeal (hDownReferenceIdeal := hDownReferenceIdeal)
    ∧ quiescent_EmbedKernel (hEmbedKernel := hEmbedKernel)
    ∧ quiescent_EmbedKernelIdeal (hEmbedKernelIdeal := hEmbedKernelIdeal)
    ∧ quiescent_EmbedReferenceIdeal (hEmbedReferenceIdeal := hEmbedReferenceIdeal)
    ∧ quiescent_UpKernel (hUpKernel := hUpKernel)
    ∧ quiescent_UpKernelIdeal (hUpKernelIdeal := hUpKernelIdeal)
    ∧ quiescent_UpReferenceIdeal (hUpReferenceIdeal := hUpReferenceIdeal)
    ∧ quiescent_ConvOutKernel (hConvOutKernel := hConvOutKernel)
    ∧ quiescent_ConvOutKernelIdeal (hConvOutKernelIdeal := hConvOutKernelIdeal)
    ∧ quiescent_ConvOutReferenceIdeal (hConvOutReferenceIdeal := hConvOutReferenceIdeal)
    ∧ quiescent_ConvInKernel (hConvInKernel := hConvInKernel)
    ∧ quiescent_ConvInKernelIdeal (hConvInKernelIdeal := hConvInKernelIdeal)
    ∧ quiescent_ConvInReferenceIdeal (hConvInReferenceIdeal := hConvInReferenceIdeal)
    ∧ quiescent_KvKernel (hKvKernel := hKvKernel)
    ∧ quiescent_KvKernelIdeal (hKvKernelIdeal := hKvKernelIdeal)
    ∧ quiescent_KvReferenceIdeal (hKvReferenceIdeal := hKvReferenceIdeal)
    ∧ quiescent_QKernel (hQKernel := hQKernel)
    ∧ quiescent_QKernelIdeal (hQKernelIdeal := hQKernelIdeal)
    ∧ quiescent_QReferenceIdeal (hQReferenceIdeal := hQReferenceIdeal)
    ∧ quiescent_BiasKernel (hBiasKernel := hBiasKernel)
    ∧ quiescent_BiasKernelIdeal (hBiasKernelIdeal := hBiasKernelIdeal)
    ∧ quiescent_BiasKernelIdeal_pre_finite_gate (hBiasKernelIdeal := hBiasKernelIdeal) (hPre_finite_gate := hPre_finite_gate)
    ∧ quiescent_BiasReferenceIdeal (hBiasReferenceIdeal := hBiasReferenceIdeal)
    ∧ quiescent_BiasReferenceIdeal_pre_finite_gate (hBiasReferenceIdeal := hBiasReferenceIdeal) (hPre_finite_gate := hPre_finite_gate)
    ∧ quiescent_AttnKernel (hAttnKernel := hAttnKernel)
    ∧ quiescent_AttnKernelIdeal (hAttnKernelIdeal := hAttnKernelIdeal)
    ∧ quiescent_AttnKernelIdeal_pre_finite (hAttnKernelIdeal := hAttnKernelIdeal) (hPre_finite := hPre_finite)
    ∧ quiescent_AttnReferenceIdeal (hAttnReferenceIdeal := hAttnReferenceIdeal)
    ∧ quiescent_AttnReferenceIdeal_pre_finite (hAttnReferenceIdeal := hAttnReferenceIdeal) (hPre_finite := hPre_finite)
    ∧ preserves_DownKernel_DownKernelIdeal
    ∧ algebraic_DownKernelIdeal_DownReferenceIdeal (hDownKernelIdeal := hDownKernelIdeal) (hDownReferenceIdeal := hDownReferenceIdeal)
    ∧ preserves_EmbedKernel_EmbedKernelIdeal
    ∧ algebraic_EmbedKernelIdeal_EmbedReferenceIdeal (hEmbedKernelIdeal := hEmbedKernelIdeal) (hEmbedReferenceIdeal := hEmbedReferenceIdeal)
    ∧ preserves_UpKernel_UpKernelIdeal
    ∧ algebraic_UpKernelIdeal_UpReferenceIdeal (hUpKernelIdeal := hUpKernelIdeal) (hUpReferenceIdeal := hUpReferenceIdeal)
    ∧ preserves_ConvOutKernel_ConvOutKernelIdeal
    ∧ algebraic_ConvOutKernelIdeal_ConvOutReferenceIdeal (hConvOutKernelIdeal := hConvOutKernelIdeal) (hConvOutReferenceIdeal := hConvOutReferenceIdeal)
    ∧ preserves_ConvInKernel_ConvInKernelIdeal
    ∧ algebraic_ConvInKernelIdeal_ConvInReferenceIdeal (hConvInKernelIdeal := hConvInKernelIdeal) (hConvInReferenceIdeal := hConvInReferenceIdeal)
    ∧ preserves_KvKernel_KvKernelIdeal
    ∧ algebraic_KvKernelIdeal_KvReferenceIdeal (hKvKernelIdeal := hKvKernelIdeal) (hKvReferenceIdeal := hKvReferenceIdeal)
    ∧ preserves_QKernel_QKernelIdeal
    ∧ algebraic_QKernelIdeal_QReferenceIdeal (hQKernelIdeal := hQKernelIdeal) (hQReferenceIdeal := hQReferenceIdeal)
    ∧ preserves_BiasKernel_BiasKernelIdeal
    ∧ algebraic_BiasKernelIdeal_BiasReferenceIdeal_pre_finite_gate (hBiasKernelIdeal := hBiasKernelIdeal) (hBiasReferenceIdeal := hBiasReferenceIdeal) (hPre_finite_gate := hPre_finite_gate)
    ∧ preserves_AttnKernel_AttnKernelIdeal
    ∧ algebraic_AttnKernelIdeal_AttnReferenceIdeal_on_kept_rows_pre_finite (hAttnKernelIdeal := hAttnKernelIdeal) (hAttnReferenceIdeal := hAttnReferenceIdeal) (hPre_finite := hPre_finite) (hOn_kept_rows := hOn_kept_rows)
-- ==== On_kept_rows.lean ====
abbrev S4x4224x16x128 : Shape := ⟨4, ![4, 4224, 16, 128]⟩
abbrev S4x16x4224 : Shape := ⟨3, ![4, 16, 4224]⟩
abbrev S4x4224x2048 : Shape := ⟨3, ![4, 4224, 2048]⟩
abbrev S_ : Shape := ⟨0, ![]⟩
abbrev S16896x2048 : Shape := ⟨2, ![16896, 2048]⟩

class Facts : Prop where
  bcast_S_S4x4224x2048 : S_.BroadcastsInDim S4x4224x2048 (![] : Fin 0 → Fin S4x4224x2048.rank)
  shapeCasts_S4x4224x2048_S16896x2048 : S4x4224x2048.ShapeCasts S16896x2048

variable [Facts]

def fn {F : FTy → Type} [FloatOps F] (main_arg0 : FVec F S4x4224x16x128 .f32) (main_arg1 : FVec F S4x4224x16x128 .f32) (main_arg2 : FVec F S4x4224x16x128 .f32) (main_arg3 : FVec F S4x16x4224 .f32) : IVec S16896x2048 1 :=
  let main_v0 : IVec S4x4224x2048 32 := iotaInDim S4x4224x2048 32 1
  let main_c : IVec S_ 32 := constantI S_ 32 112#32
  let main_v1 : IVec S4x4224x2048 32 := broadcastInDim S4x4224x2048 ![] bcast_S_S4x4224x2048 main_c
  let main_v2 : IVec S4x4224x2048 1 := cmpi .sge main_v0 main_v1
  let main_v3 : IVec S16896x2048 1 := shapeCast S16896x2048 main_v2 shapeCasts_S4x4224x2048_S16896x2048
  main_v3
-- ==== Pre_finite.lean ====
abbrev S4x4224x16x128 : Shape := ⟨4, ![4, 4224, 16, 128]⟩
abbrev S4x16x4224 : Shape := ⟨3, ![4, 16, 4224]⟩
abbrev S_ : Shape := ⟨0, ![]⟩

class Facts : Prop where
  bcast_S_S4x4224x16x128 : S_.BroadcastsInDim S4x4224x16x128 (![] : Fin 0 → Fin S4x4224x16x128.rank)
  bcast_S_S4x16x4224 : S_.BroadcastsInDim S4x16x4224 (![] : Fin 0 → Fin S4x16x4224.rank)

variable [Facts]

def fn {F : FTy → Type} [FloatOps F] (main_arg0 : FVec F S4x4224x16x128 .f32) (main_arg1 : FVec F S4x4224x16x128 .f32) (main_arg2 : FVec F S4x4224x16x128 .f32) (main_arg3 : FVec F S4x16x4224 .f32) : IVec S4x4224x16x128 1 × IVec S4x4224x16x128 1 × IVec S4x16x4224 1 :=
  let main_v0 : FVec F S4x4224x16x128 .f32 := Host.absf main_arg0
  let main_cst : FVec F S_ .f32 := constant S_ .f32 0x7F800000#32
  let main_v1 : FVec F S4x4224x16x128 .f32 := broadcastInDim S4x4224x16x128 ![] bcast_S_S4x4224x16x128 main_cst
  let main_v2 : IVec S4x4224x16x128 1 := cmpf .olt main_v0 main_v1
  let main_v3 : FVec F S4x4224x16x128 .f32 := Host.absf main_arg1
  let main_cst_0 : FVec F S_ .f32 := constant S_ .f32 0x7F800000#32
  let main_v4 : FVec F S4x4224x16x128 .f32 := broadcastInDim S4x4224x16x128 ![] bcast_S_S4x4224x16x128 main_cst_0
  let main_v5 : IVec S4x4224x16x128 1 := cmpf .olt main_v3 main_v4
  let main_v6 : FVec F S4x16x4224 .f32 := Host.absf main_arg3
  let main_cst_1 : FVec F S_ .f32 := constant S_ .f32 0x7F800000#32
  let main_v7 : FVec F S4x16x4224 .f32 := broadcastInDim S4x16x4224 ![] bcast_S_S4x16x4224 main_cst_1
  let main_v8 : IVec S4x16x4224 1 := cmpf .olt main_v6 main_v7
  (main_v2, main_v5, main_v8)
-- ==== Pre_finite_gate.lean ====
abbrev S16896x2048 : Shape := ⟨2, ![16896, 2048]⟩
abbrev S2048 : Shape := ⟨1, ![2048]⟩
abbrev S2048x16 : Shape := ⟨2, ![2048, 16]⟩
abbrev S16 : Shape := ⟨1, ![16]⟩
abbrev S_ : Shape := ⟨0, ![]⟩

class Facts : Prop where
  bcast_S_S16896x2048 : S_.BroadcastsInDim S16896x2048 (![] : Fin 0 → Fin S16896x2048.rank)
  bcast_S_S2048 : S_.BroadcastsInDim S2048 (![] : Fin 0 → Fin S2048.rank)
  bcast_S_S2048x16 : S_.BroadcastsInDim S2048x16 (![] : Fin 0 → Fin S2048x16.rank)
  bcast_S_S16 : S_.BroadcastsInDim S16 (![] : Fin 0 → Fin S16.rank)

variable [Facts]

def fn {F : FTy → Type} [FloatOps F] (main_arg0 : FVec F S16896x2048 .f32) (main_arg1 : FVec F S2048 .f32) (main_arg2 : FVec F S2048x16 .f32) (main_arg3 : FVec F S16 .f32) : IVec S16896x2048 1 × IVec S2048 1 × IVec S2048x16 1 × IVec S16 1 :=
  let main_v0 : FVec F S16896x2048 .f32 := Host.absf main_arg0
  let main_cst : FVec F S_ .f32 := constant S_ .f32 0x7F800000#32
  let main_v1 : FVec F S16896x2048 .f32 := broadcastInDim S16896x2048 ![] bcast_S_S16896x2048 main_cst
  let main_v2 : IVec S16896x2048 1 := cmpf .olt main_v0 main_v1
  let main_v3 : FVec F S2048 .f32 := Host.absf main_arg1
  let main_cst_0 : FVec F S_ .f32 := constant S_ .f32 0x7F800000#32
  let main_v4 : FVec F S2048 .f32 := broadcastInDim S2048 ![] bcast_S_S2048 main_cst_0
  let main_v5 : IVec S2048 1 := cmpf .olt main_v3 main_v4
  let main_v6 : FVec F S2048x16 .f32 := Host.absf main_arg2
  let main_cst_1 : FVec F S_ .f32 := constant S_ .f32 0x7F800000#32
  let main_v7 : FVec F S2048x16 .f32 := broadcastInDim S2048x16 ![] bcast_S_S2048x16 main_cst_1
  let main_v8 : IVec S2048x16 1 := cmpf .olt main_v6 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  (main_v2, main_v5, main_v8, main_v11)
-- ==== DownKernel.lean ====
abbrev S16896x5632 : Shape := ⟨2, ![16896, 5632]⟩
abbrev S4x5632x2048 : Shape := ⟨3, ![4, 5632, 2048]⟩
abbrev S16896x2048 : Shape := ⟨2, ![16896, 2048]⟩
abbrev S512x2816 : Shape := ⟨2, ![512, 2816]⟩
abbrev S1x2816x2048 : Shape := ⟨3, ![1, 2816, 2048]⟩
abbrev S512x2048 : Shape := ⟨2, ![512, 2048]⟩
abbrev S2816x2048 : Shape := ⟨2, ![2816, 2048]⟩
abbrev S16384x2048 : Shape := ⟨2, ![16384, 2048]⟩

abbrev nBuf : Space → Nat
  | .hbm => 6
  | .vmem => 14
  | .smem => 0
  | _ => 0

abbrev bufTy : (tb : Table) → Fin (tcTables nBuf tb) → BufTy
  | .hbm, ⟨0, _⟩ => ⟨S16896x5632, .bf16⟩
  | .hbm, ⟨1, _⟩ => ⟨S4x5632x2048, .f32⟩
  | .hbm, ⟨2, _⟩ => ⟨S16896x2048, .f32⟩
  | .hbm, ⟨3, _⟩ => ⟨S4x5632x2048, .bf16⟩
  | .hbm, ⟨4, _⟩ => ⟨S16896x2048, .f32⟩
  | .hbm, ⟨5, _⟩ => ⟨S16384x2048, .f32⟩
  | .local _ .vmem, ⟨0, _⟩ => ⟨S512x2816, .bf16⟩
  | .local _ .vmem, ⟨1, _⟩ => ⟨S512x2816, .bf16⟩
  | .local _ .vmem, ⟨2, _⟩ => ⟨S1x2816x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2816, .bf16⟩
  | .local _ .vmem, ⟨8, _⟩ => ⟨S512x2816, .bf16⟩
  | .local _ .vmem, ⟨9, _⟩ => ⟨S1x2816x2048, .bf16⟩
  | .local _ .vmem, ⟨10, _⟩ => ⟨S512x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .f32⟩
  | _, _ => ⟨S16896x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2816x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![4, 8], ![false, false]⟩

def k1_mult1 (i : grid1.Coords) : BitVec 32 :=
  let arg0 : BitVec 32 := BitVec.ofNat 32 (i 0).val
  let c4224_i32 : BitVec 32 := 4224#32
  let v0 : BitVec 32 := Scalar.muli arg0 c4224_i32
  let c128_i32 : BitVec 32 := 128#32
  let v1 : BitVec 32 := Scalar.addi v0 c128_i32
  let arg1 : BitVec 32 := BitVec.ofNat 32 (i 1).val
  let c512_i32 : BitVec 32 := 512#32
  let v2 : BitVec 32 := Scalar.muli arg1 c512_i32
  let v3 : BitVec 32 := Scalar.addi v1 v2
  v3
def k1_mult2 (i : grid1.Coords) : BitVec 32 :=
  let arg0 : BitVec 32 := BitVec.ofNat 32 (i 0).val
  let c4224_i32 : BitVec 32 := 4224#32
  let v0 : BitVec 32 := Scalar.muli arg0 c4224_i32
  let c128_i32 : BitVec 32 := 128#32
  let v1 : BitVec 32 := Scalar.addi v0 c128_i32
  let arg1 : BitVec 32 := BitVec.ofNat 32 (i 1).val
  let c512_i32 : BitVec 32 := 512#32
  let v2 : BitVec 32 := Scalar.muli arg1 c512_i32
  let v3 : BitVec 32 := Scalar.addi v1 v2
  v3
def cc1_transform_0 (i : grid1.Coords) : Fin 2 → Nat :=
  let arg0 : BitVec 32 := BitVec.ofNat 32 (i 0).val
  let arg1 : BitVec 32 := BitVec.ofNat 32 (i 1).val
  let c4224_i32 : BitVec 32 := 4224#32
  let v0 : BitVec 32 := Scalar.muli arg0 c4224_i32
  let c128_i32 : BitVec 32 := 128#32
  let v1 : BitVec 32 := Scalar.addi v0 c128_i32
  let c512_i32 : BitVec 32 := 512#32
  let v2 : BitVec 32 := Scalar.muli arg1 c512_i32
  let v3 : BitVec 32 := Scalar.addi v1 v2
  let v4 : BitVec 32 := v3
  let c2816_i32 : BitVec 32 := 2816#32
  let c0_i32 : BitVec 32 := 0#32
  ![v4.toNat, c2816_i32.toNat]

def cc1_transform_1 (i : grid1.Coords) : Fin 3 → Nat :=
  let arg0 : BitVec 32 := BitVec.ofNat 32 (i 0).val
  let arg1 : BitVec 32 := BitVec.ofNat 32 (i 1).val
  let c3_i32 : BitVec 32 := 3#32
  let c1_i32 : BitVec 32 := 1#32
  let c0_i32 : BitVec 32 := 0#32
  let c0_i32_0 : BitVec 32 := 0#32
  ![c3_i32.toNat, c1_i32.toNat, c0_i32.toNat]

def cc1_transform_2 (i : grid1.Coords) : Fin 2 → Nat :=
  let arg0 : BitVec 32 := BitVec.ofNat 32 (i 0).val
  let arg1 : BitVec 32 := BitVec.ofNat 32 (i 1).val
  let c4224_i32 : BitVec 32 := 4224#32
  let v0 : BitVec 32 := Scalar.muli arg0 c4224_i32
  let c128_i32 : BitVec 32 := 128#32
  let v1 : BitVec 32 := Scalar.addi v0 c128_i32
  let c512_i32 : BitVec 32 := 512#32
  let v2 : BitVec 32 := Scalar.muli arg1 c512_i32
  let v3 : BitVec 32 := Scalar.addi v1 v2
  let v4 : BitVec 32 := v3
  let c0_i32 : BitVec 32 := 0#32
  let c0_i32_0 : BitVec 32 := 0#32
  ![v4.toNat, c0_i32.toNat]

def cc1_transform_3 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage1_0 : Fin 2 → Memref sig .tc .vmem S512x2816 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x2816x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S512x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S512x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== DownReferenceIdeal.lean ====
abbrev S16896x5632 : Shape := ⟨2, ![16896, 5632]⟩
abbrev S4x5632x2048 : Shape := ⟨3, ![4, 5632, 2048]⟩
abbrev S16896x2048 : Shape := ⟨2, ![16896, 2048]⟩
abbrev S4x4224x2048 : Shape := ⟨3, ![4, 4224, 2048]⟩
abbrev S1x5632x2048 : Shape := ⟨3, ![1, 5632, 2048]⟩
abbrev S5632x2048 : Shape := ⟨2, ![5632, 2048]⟩
abbrev S4x4096x2048 : Shape := ⟨3, ![4, 4096, 2048]⟩
abbrev S16384x2048 : Shape := ⟨2, ![16384, 2048]⟩

abbrev nBuf : Space → Nat
  | .hbm => 12
  | .vmem => 0
  | .smem => 0
  | _ => 0

abbrev bufTy : (tb : Table) → Fin (tcTables nBuf tb) → BufTy
  | .hbm, ⟨0, _⟩ => ⟨S16896x5632, .bf16⟩
  | .hbm, ⟨1, _⟩ => ⟨S4x5632x2048, .f32⟩
  | .hbm, ⟨2, _⟩ => ⟨S16896x2048, .f32⟩
  | .hbm, ⟨3, _⟩ => ⟨S4x4224x2048, .f32⟩
  | .hbm, ⟨4, _⟩ => ⟨S16896x5632, .f32⟩
  | .hbm, ⟨5, _⟩ => ⟨S1x5632x2048, .f32⟩
  | .hbm, ⟨6, _⟩ => ⟨S5632x2048, .f32⟩
  | .hbm, ⟨7, _⟩ => ⟨S16896x2048, .f32⟩
  | .hbm, ⟨8, _⟩ => ⟨S4x4224x2048, .f32⟩
  | .hbm, ⟨9, _⟩ => ⟨S4x4224x2048, .f32⟩
  | .hbm, ⟨10, _⟩ => ⟨S4x4096x2048, .f32⟩
  | .hbm, ⟨11, _⟩ => ⟨S16384x2048, .f32⟩
  | _, _ => ⟨S16896x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== EmbedKernel.lean ====
abbrev S4x4096x2048 : Shape := ⟨3, ![4, 4096, 2048]⟩
abbrev S16x2048 : Shape := ⟨2, ![16, 2048]⟩
abbrev S16896x2048 : Shape := ⟨2, ![16896, 2048]⟩
abbrev S1x384x2048 : Shape := ⟨3, ![1, 384, 2048]⟩
abbrev S384x2048 : Shape := ⟨2, ![384, 2048]⟩
abbrev S1x256x2048 : Shape := ⟨3, ![1, 256, 2048]⟩
abbrev S256x2048 : Shape := ⟨2, ![256, 2048]⟩
abbrev S112x2048 : Shape := ⟨2, ![112, 2048]⟩
abbrev S16 : Shape := ⟨1, ![16]⟩
abbrev S16x1 : Shape := ⟨2, ![16, 1]⟩
abbrev S256 : Shape := ⟨1, ![256]⟩
abbrev S256x1 : Shape := ⟨2, ![256, 1]⟩
abbrev S384 : Shape := ⟨1, ![384]⟩
abbrev S384x1 : Shape := ⟨2, ![384, 1]⟩

abbrev nBuf : Space → Nat
  | .hbm => 4
  | .vmem => 7
  | .smem => 0
  | _ => 0

abbrev bufTy : (tb : Table) → Fin (tcTables nBuf tb) → BufTy
  | .hbm, ⟨0, _⟩ => ⟨S4x4096x2048, .f32⟩
  | .hbm, ⟨1, _⟩ => ⟨S16x2048, .f32⟩
  | .hbm, ⟨2, _⟩ => ⟨S16896x2048, .f32⟩
  | .hbm, ⟨3, _⟩ => ⟨S16896x2048, .bf16⟩
  | .local _ .vmem, ⟨0, _⟩ => ⟨S1x384x2048, .f32⟩
  | .local _ .vmem, ⟨1, _⟩ => ⟨S1x384x2048, .f32⟩
  | .local _ .vmem, ⟨2, _⟩ => ⟨S16x2048, .f32⟩
  | .local _ .vmem, ⟨3, _⟩ => ⟨S384x2048, .f32⟩
  | .local _ .vmem, ⟨4, _⟩ => ⟨S384x2048, .f32⟩
  | .local _ .vmem, ⟨5, _⟩ => ⟨S384x2048, .bf16⟩
  | .local _ .vmem, ⟨6, _⟩ => ⟨S384x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 11], ![false, false]⟩

def k0_mult1 (i : grid0.Coords) : BitVec 32 :=
  let arg1 : BitVec 32 := BitVec.ofNat 32 (i 1).val
  let c384_i32 : BitVec 32 := 384#32
  let v0 : BitVec 32 := Scalar.muli arg1 c384_i32
  let c128_i32 : BitVec 32 := 128#32
  let v1 : BitVec 32 := Scalar.subi v0 c128_i32
  let c0_i32 : BitVec 32 := 0#32
  let v2 : BitVec 32 := Scalar.maxsi v1 c0_i32
  v2
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 3 → Nat :=
  let arg0 : BitVec 32 := BitVec.ofNat 32 (i 0).val
  let arg1 : BitVec 32 := BitVec.ofNat 32 (i 1).val
  let c384_i32 : BitVec 32 := 384#32
  let v0 : BitVec 32 := Scalar.muli arg1 c384_i32
  let c128_i32 : BitVec 32 := 128#32
  let v1 : BitVec 32 := Scalar.subi v0 c128_i32
  let c0_i32 : BitVec 32 := 0#32
  let v2 : BitVec 32 := Scalar.maxsi v1 c0_i32
  let v3 : BitVec 32 := v2
  let c0_i32_0 : BitVec 32 := 0#32
  let c0_i32_1 : BitVec 32 := 0#32
  ![arg0.toNat, v3.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x384x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S384x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S384x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== EmbedReferenceIdeal.lean ====
abbrev S4x4096x2048 : Shape := ⟨3, ![4, 4096, 2048]⟩
abbrev S16x2048 : Shape := ⟨2, ![16, 2048]⟩
abbrev S1x16x2048 : Shape := ⟨3, ![1, 16, 2048]⟩
abbrev S4x16x2048 : Shape := ⟨3, ![4, 16, 2048]⟩
abbrev S4x4112x2048 : Shape := ⟨3, ![4, 4112, 2048]⟩
abbrev S_ : Shape := ⟨0, ![]⟩
abbrev S4x4112 : Shape := ⟨2, ![4, 4112]⟩
abbrev S4x4112x1 : Shape := ⟨3, ![4, 4112, 1]⟩
abbrev S4x4224x2048 : Shape := ⟨3, ![4, 4224, 2048]⟩
abbrev S16896x2048 : Shape := ⟨2, ![16896, 2048]⟩

abbrev nBuf : Space → Nat
  | .hbm => 27
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S16x2048, .f32⟩
  | .hbm, ⟨2, _⟩ => ⟨S1x16x2048, .f32⟩
  | .hbm, ⟨3, _⟩ => ⟨S4x16x2048, .f32⟩
  | .hbm, ⟨4, _⟩ => ⟨S4x4112x2048, .f32⟩
  | .hbm, ⟨5, _⟩ => ⟨S4x4112x2048, .f32⟩
  | .hbm, ⟨6, _⟩ => ⟨S_, .f32⟩
  | .hbm, ⟨7, _⟩ => ⟨S4x4112, .f32⟩
  | .hbm, ⟨8, _⟩ => ⟨S4x4112x1, .f32⟩
  | .hbm, ⟨9, _⟩ => ⟨S_, .f32⟩
  | .hbm, ⟨10, _⟩ => ⟨S4x4112x1, .f32⟩
  | .hbm, ⟨11, _⟩ => ⟨S4x4112x1, .f32⟩
  | .hbm, ⟨12, _⟩ => ⟨S_, .f32⟩
  | .hbm, ⟨13, _⟩ => ⟨S4x4112x1, .f32⟩
  | .hbm, ⟨14, _⟩ => ⟨S4x4112x1, .f32⟩
  | .hbm, ⟨15, _⟩ => ⟨S4x4112x1, .f32⟩
  | .hbm, ⟨16, _⟩ => ⟨S4x4112x2048, .f32⟩
  | .hbm, ⟨17, _⟩ => ⟨S4x4112x2048, .f32⟩
  | .hbm, ⟨18, _⟩ => ⟨S_, .i32⟩
  | .hbm, ⟨19, _⟩ => ⟨S_, .f32⟩
  | .hbm, ⟨20, _⟩ => ⟨S4x4224x2048, .f32⟩
  | .hbm, ⟨21, _⟩ => ⟨S16896x2048, .f32⟩
  | .hbm, ⟨22, _⟩ => ⟨S_, .i32⟩
  | .hbm, ⟨23, _⟩ => ⟨S_, .f32⟩
  | .hbm, ⟨24, _⟩ => ⟨S4x4224x2048, .f32⟩
  | .hbm, ⟨25, _⟩ => ⟨S16896x2048, .f32⟩
  | .hbm, ⟨26, _⟩ => ⟨S16896x2048, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_call0_v0 : Ref sig .tc := ⟨.hbm, 19, rfl⟩
abbrev main_v13 : Ref sig .tc := ⟨.hbm, 20, rfl⟩
abbrev main_v14 : Ref sig .tc := ⟨.hbm, 21, rfl⟩
abbrev main_c_2 : Ref sig .tc := ⟨.hbm, 22, rfl⟩
abbrev main_call1_v0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== UpKernel.lean ====
abbrev S16896x2048 : Shape := ⟨2, ![16896, 2048]⟩
abbrev S4x2048 : Shape := ⟨2, ![4, 2048]⟩
abbrev S4x2048x11264 : Shape := ⟨3, ![4, 2048, 11264]⟩
abbrev S1x2048 : Shape := ⟨2, ![1, 2048]⟩
abbrev S2048 : Shape := ⟨1, ![2048]⟩
abbrev S2048x1 : Shape := ⟨2, ![2048, 1]⟩
abbrev S16896x5632 : Shape := ⟨2, ![16896, 5632]⟩
abbrev S2112x2048 : Shape := ⟨2, ![2112, 2048]⟩
abbrev S1x2048x512 : Shape := ⟨3, ![1, 2048, 512]⟩
abbrev S2112x512 : Shape := ⟨2, ![2112, 512]⟩
abbrev S2048x1024 : Shape := ⟨2, ![2048, 1024]⟩
abbrev S1x2048x256 : Shape := ⟨3, ![1, 2048, 256]⟩
abbrev S2048x256 : Shape := ⟨2, ![2048, 256]⟩
abbrev S2112x1024 : Shape := ⟨2, ![2112, 1024]⟩
abbrev S2112x256 : Shape := ⟨2, ![2112, 256]⟩

abbrev nBuf : Space → Nat
  | .hbm => 7
  | .vmem => 10
  | .smem => 0
  | _ => 0

abbrev bufTy : (tb : Table) → Fin (tcTables nBuf tb) → BufTy
  | .hbm, ⟨0, _⟩ => ⟨S16896x2048, .bf16⟩
  | .hbm, ⟨1, _⟩ => ⟨S4x2048, .f32⟩
  | .hbm, ⟨2, _⟩ => ⟨S4x2048x11264, .f32⟩
  | .hbm, ⟨3, _⟩ => ⟨S1x2048, .f32⟩
  | .hbm, ⟨4, _⟩ => ⟨S2048, .f32⟩
  | .hbm, ⟨5, _⟩ => ⟨S2048x1, .f32⟩
  | .hbm, ⟨6, _⟩ => ⟨S16896x5632, .bf16⟩
  | .local _ .vmem, ⟨0, _⟩ => ⟨S2112x2048, .bf16⟩
  | .local _ .vmem, ⟨1, _⟩ => ⟨S2112x2048, .bf16⟩
  | .local _ .vmem, ⟨2, _⟩ => ⟨S2048x1, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x2048x512, .f32⟩
  | .local _ .vmem, ⟨7, _⟩ => ⟨S2112x512, .bf16⟩
  | .local _ .vmem, ⟨8, _⟩ => ⟨S2112x512, .bf16⟩
  | .local _ .vmem, ⟨9, _⟩ => ⟨S2048x1024, .bf16⟩
  | _, _ => ⟨S16896x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c3_i32 : BitVec 32 := 3#32
  let c0_i32_0 : BitVec 32 := 0#32
  let c0_i32_1 : BitVec 32 := 0#32
  ![c3_i32.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c3_i32 : BitVec 32 := 3#32
  let c0_i32 : BitVec 32 := 0#32
  let c0_i32_0 : BitVec 32 := 0#32
  ![c3_i32.toNat, c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2112x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2112x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== UpReferenceIdeal.lean ====
abbrev S16896x2048 : Shape := ⟨2, ![16896, 2048]⟩
abbrev S4x2048 : Shape := ⟨2, ![4, 2048]⟩
abbrev S4x2048x11264 : Shape := ⟨3, ![4, 2048, 11264]⟩
abbrev S1x2048 : Shape := ⟨2, ![1, 2048]⟩
abbrev S2048 : Shape := ⟨1, ![2048]⟩
abbrev S1x2048x11264 : Shape := ⟨3, ![1, 2048, 11264]⟩
abbrev S2048x11264 : Shape := ⟨2, ![2048, 11264]⟩
abbrev S16896x11264 : Shape := ⟨2, ![16896, 11264]⟩
abbrev S16896x5632 : Shape := ⟨2, ![16896, 5632]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S16896x2048, .bf16⟩
  | .hbm, ⟨1, _⟩ => ⟨S4x2048, .f32⟩
  | .hbm, ⟨2, _⟩ => ⟨S4x2048x11264, .f32⟩
  | .hbm, ⟨3, _⟩ => ⟨S16896x2048, .f32⟩
  | .hbm, ⟨4, _⟩ => ⟨S1x2048, .f32⟩
  | .hbm, ⟨5, _⟩ => ⟨S2048, .f32⟩
  | .hbm, ⟨6, _⟩ => ⟨S1x2048, .f32⟩
  | .hbm, ⟨7, _⟩ => ⟨S16896x2048, .f32⟩
  | .hbm, ⟨8, _⟩ => ⟨S16896x2048, .f32⟩
  | .hbm, ⟨9, _⟩ => ⟨S1x2048x11264, .f32⟩
  | .hbm, ⟨10, _⟩ => ⟨S2048x11264, .f32⟩
  | .hbm, ⟨11, _⟩ => ⟨S16896x11264, .f32⟩
  | .hbm, ⟨12, _⟩ => ⟨S16896x5632, .f32⟩
  | .hbm, ⟨13, _⟩ => ⟨S16896x5632, .f32⟩
  | .hbm, ⟨14, _⟩ => ⟨S16896x5632, .f32⟩
  | .hbm, ⟨15, _⟩ => ⟨S16896x5632, .f32⟩
  | .hbm, ⟨16, _⟩ => ⟨S_, .f32⟩
  | .hbm, ⟨17, _⟩ => ⟨S16896x5632, .f32⟩
  | .hbm, ⟨18, _⟩ => ⟨S16896x5632, .f32⟩
  | .hbm, ⟨19, _⟩ => ⟨S_, .f32⟩
  | .hbm, ⟨20, _⟩ => ⟨S16896x5632, .f32⟩
  | .hbm, ⟨21, _⟩ => ⟨S16896x5632, .f32⟩
  | .hbm, ⟨22, _⟩ => ⟨S16896x5632, .f32⟩
  | .hbm, ⟨23, _⟩ => ⟨S16896x5632, .f32⟩
  | .hbm, ⟨24, _⟩ => ⟨S16896x5632, .bf16⟩
  | _, _ => ⟨S16896x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩

abbrev nD : Nat := 1
abbrev τ : Topo := Topo.v7x

variable {F : FTy → Type} [FloatOps F]
-- ==== ConvOutKernel.lean ====
abbrev S16896x2048 : Shape := ⟨2, ![16896, 2048]⟩
abbrev S2x2048x2048 : Shape := ⟨3, ![2, 2048, 2048]⟩
abbrev S512x2048 : Shape := ⟨2, ![512, 2048]⟩
abbrev S1x2048x2048 : Shape := ⟨3, ![1, 2048, 2048]⟩
abbrev S2048x2048 : Shape := ⟨2, ![2048, 2048]⟩
abbrev S512 : Shape := ⟨1, ![512]⟩
abbrev S512x1 : Shape := ⟨2, ![512, 1]⟩

abbrev nBuf : Space → Nat
  | .hbm => 6
  | .vmem => 9
  | .smem => 0
  | _ => 0

abbrev bufTy : (tb : Table) → Fin (tcTables nBuf tb) → BufTy
  | .hbm, ⟨0, _⟩ => ⟨S16896x2048, .bf16⟩
  | .hbm, ⟨1, _⟩ => ⟨S2x2048x2048, .f32⟩
  | .hbm, ⟨2, _⟩ => ⟨S16896x2048, .f32⟩
  | .hbm, ⟨3, _⟩ => ⟨S2x2048x2048, .bf16⟩
  | .hbm, ⟨4, _⟩ => ⟨S16896x2048, .f32⟩
  | .hbm, ⟨5, _⟩ => ⟨S16896x2048, .bf16⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .bf16⟩
  | .local _ .vmem, ⟨8, _⟩ => ⟨S512x2048, .bf16⟩
  | _, _ => ⟨S16896x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ConvOutReferenceIdeal.lean ====
abbrev S16896x2048 : Shape := ⟨2, ![16896, 2048]⟩
abbrev S2x2048x2048 : Shape := ⟨3, ![2, 2048, 2048]⟩
abbrev S1x2048x2048 : Shape := ⟨3, ![1, 2048, 2048]⟩
abbrev S2048x2048 : Shape := ⟨2, ![2048, 2048]⟩
abbrev S_ : Shape := ⟨0, ![]⟩
abbrev S16896 : Shape := ⟨1, ![16896]⟩
abbrev S16896x1 : Shape := ⟨2, ![16896, 1]⟩

abbrev nBuf : Space → Nat
  | .hbm => 22
  | .vmem => 0
  | .smem => 0
  | _ => 0

abbrev bufTy : (tb : Table) → Fin (tcTables nBuf tb) → BufTy
  | .hbm, ⟨0, _⟩ => ⟨S16896x2048, .bf16⟩
  | .hbm, ⟨1, _⟩ => ⟨S2x2048x2048, .f32⟩
  | .hbm, ⟨2, _⟩ => ⟨S16896x2048, .f32⟩
  | .hbm, ⟨3, _⟩ => ⟨S16896x2048, .f32⟩
  | .hbm, ⟨4, _⟩ => ⟨S1x2048x2048, .f32⟩
  | .hbm, ⟨5, _⟩ => ⟨S2048x2048, .f32⟩
  | .hbm, ⟨6, _⟩ => ⟨S16896x2048, .f32⟩
  | .hbm, ⟨7, _⟩ => ⟨S16896x2048, .f32⟩
  | .hbm, ⟨8, _⟩ => ⟨S16896x2048, .f32⟩
  | .hbm, ⟨9, _⟩ => ⟨S_, .f32⟩
  | .hbm, ⟨10, _⟩ => ⟨S16896, .f32⟩
  | .hbm, ⟨11, _⟩ => ⟨S16896x1, .f32⟩
  | .hbm, ⟨12, _⟩ => ⟨S_, .f32⟩
  | .hbm, ⟨13, _⟩ => ⟨S16896x1, .f32⟩
  | .hbm, ⟨14, _⟩ => ⟨S16896x1, .f32⟩
  | .hbm, ⟨15, _⟩ => ⟨S_, .f32⟩
  | .hbm, ⟨16, _⟩ => ⟨S16896x1, .f32⟩
  | .hbm, ⟨17, _⟩ => ⟨S16896x1, .f32⟩
  | .hbm, ⟨18, _⟩ => ⟨S16896x1, .f32⟩
  | .hbm, ⟨19, _⟩ => ⟨S16896x2048, .f32⟩
  | .hbm, ⟨20, _⟩ => ⟨S16896x2048, .f32⟩
  | .hbm, ⟨21, _⟩ => ⟨S16896x2048, .bf16⟩
  | _, _ => ⟨S16896x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== ConvInKernel.lean ====
abbrev S4x4112x2048 : Shape := ⟨3, ![4, 4112, 2048]⟩
abbrev S2x2048 : Shape := ⟨2, ![2, 2048]⟩
abbrev S2x2048x6144 : Shape := ⟨3, ![2, 2048, 6144]⟩
abbrev S2x3x2048 : Shape := ⟨3, ![2, 3, 2048]⟩
abbrev S_ : Shape := ⟨0, ![]⟩
abbrev S4x4224x2048 : Shape := ⟨3, ![4, 4224, 2048]⟩
abbrev S16896x2048 : Shape := ⟨2, ![16896, 2048]⟩
abbrev S1x2048 : Shape := ⟨2, ![1, 2048]⟩
abbrev S2048 : Shape := ⟨1, ![2048]⟩
abbrev S1x3x2048 : Shape := ⟨3, ![1, 3, 2048]⟩
abbrev S3x2048 : Shape := ⟨2, ![3, 2048]⟩
abbrev S2048x1 : Shape := ⟨2, ![2048, 1]⟩
abbrev S1056x2048 : Shape := ⟨2, ![1056, 2048]⟩
abbrev S1x2048x512 : Shape := ⟨3, ![1, 2048, 512]⟩
abbrev S3x512 : Shape := ⟨2, ![3, 512]⟩
abbrev S1056x512 : Shape := ⟨2, ![1056, 512]⟩
abbrev S2048x1536 : Shape := ⟨2, ![2048, 1536]⟩
abbrev S8x512 : Shape := ⟨2, ![8, 512]⟩
abbrev S1064x512 : Shape := ⟨2, ![1064, 512]⟩
abbrev S1x2048x256 : Shape := ⟨3, ![1, 2048, 256]⟩
abbrev S2048x256 : Shape := ⟨2, ![2048, 256]⟩
abbrev S1056x1536 : Shape := ⟨2, ![1056, 1536]⟩
abbrev S1056x256 : Shape := ⟨2, ![1056, 256]⟩
abbrev S1x512 : Shape := ⟨2, ![1, 512]⟩

abbrev nBuf : Space → Nat
  | .hbm => 14
  | .vmem => 16
  | .smem => 0
  | _ => 0

abbrev bufTy : (tb : Table) → Fin (tcTables nBuf tb) → BufTy
  | .hbm, ⟨0, _⟩ => ⟨S4x4112x2048, .bf16⟩
  | .hbm, ⟨1, _⟩ => ⟨S2x2048, .f32⟩
  | .hbm, ⟨2, _⟩ => ⟨S2x2048x6144, .f32⟩
  | .hbm, ⟨3, _⟩ => ⟨S2x3x2048, .f32⟩
  | .hbm, ⟨4, _⟩ => ⟨S_, .i32⟩
  | .hbm, ⟨5, _⟩ => ⟨S_, .bf16⟩
  | .hbm, ⟨6, _⟩ => ⟨S4x4224x2048, .bf16⟩
  | .hbm, ⟨7, _⟩ => ⟨S16896x2048, .bf16⟩
  | .hbm, ⟨8, _⟩ => ⟨S1x2048, .f32⟩
  | .hbm, ⟨9, _⟩ => ⟨S2048, .f32⟩
  | .hbm, ⟨10, _⟩ => ⟨S1x3x2048, .f32⟩
  | .hbm, ⟨11, _⟩ => ⟨S3x2048, .f32⟩
  | .hbm, ⟨12, _⟩ => ⟨S2048x1, .f32⟩
  | .hbm, ⟨13, _⟩ => ⟨S16896x2048, .bf16⟩
  | .local _ .vmem, ⟨0, _⟩ => ⟨S1056x2048, .bf16⟩
  | .local _ .vmem, ⟨1, _⟩ => ⟨S1056x2048, .bf16⟩
  | .local _ .vmem, ⟨2, _⟩ => ⟨S2048x1, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x2048x512, .f32⟩
  | .local _ .vmem, ⟨7, _⟩ => ⟨S1x2048x512, .f32⟩
  | .local _ .vmem, ⟨8, _⟩ => ⟨S1x2048x512, .f32⟩
  | .local _ .vmem, ⟨9, _⟩ => ⟨S3x512, .f32⟩
  | .local _ .vmem, ⟨10, _⟩ => ⟨S3x512, .f32⟩
  | .local _ .vmem, ⟨11, _⟩ => ⟨S1056x512, .bf16⟩
  | .local _ .vmem, ⟨12, _⟩ => ⟨S1056x512, .bf16⟩
  | .local _ .vmem, ⟨13, _⟩ => ⟨S2048x1536, .bf16⟩
  | .local _ .vmem, ⟨14, _⟩ => ⟨S8x512, .f32⟩
  | .local _ .vmem, ⟨15, _⟩ => ⟨S1064x512, .f32⟩
  | _, _ => ⟨S4x4112x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  let c0_i32_1 : BitVec 32 := 0#32
  ![c0_i32.toNat, c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  let c0_i32_1 : BitVec 32 := 0#32
  ![c0_i32.toNat, c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1056x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ConvInReferenceIdeal.lean ====
abbrev S4x4112x2048 : Shape := ⟨3, ![4, 4112, 2048]⟩
abbrev S2x2048 : Shape := ⟨2, ![2, 2048]⟩
abbrev S2x2048x6144 : Shape := ⟨3, ![2, 2048, 6144]⟩
abbrev S2x3x2048 : Shape := ⟨3, ![2, 3, 2048]⟩
abbrev S1x2048 : Shape := ⟨2, ![1, 2048]⟩
abbrev S2048 : Shape := ⟨1, ![2048]⟩
abbrev S1x1x2048 : Shape := ⟨3, ![1, 1, 2048]⟩
abbrev S1x2048x6144 : Shape := ⟨3, ![1, 2048, 6144]⟩
abbrev S2048x6144 : Shape := ⟨2, ![2048, 6144]⟩
abbrev S4x4112x6144 : Shape := ⟨3, ![4, 4112, 6144]⟩
abbrev S_ : Shape := ⟨0, ![]⟩
abbrev S4x4114x2048 : Shape := ⟨3, ![4, 4114, 2048]⟩
abbrev S4x4224x2048 : Shape := ⟨3, ![4, 4224, 2048]⟩
abbrev S16896x2048 : Shape := ⟨2, ![16896, 2048]⟩

abbrev nBuf : Space → Nat
  | .hbm => 49
  | .vmem => 0
  | .smem => 0
  | _ => 0

abbrev bufTy : (tb : Table) → Fin (tcTables nBuf tb) → BufTy
  | .hbm, ⟨0, _⟩ => ⟨S4x4112x2048, .bf16⟩
  | .hbm, ⟨1, _⟩ => ⟨S2x2048, .f32⟩
  | .hbm, ⟨2, _⟩ => ⟨S2x2048x6144, .f32⟩
  | .hbm, ⟨3, _⟩ => ⟨S2x3x2048, .f32⟩
  | .hbm, ⟨4, _⟩ => ⟨S4x4112x2048, .f32⟩
  | .hbm, ⟨5, _⟩ => ⟨S1x2048, .f32⟩
  | .hbm, ⟨6, _⟩ => ⟨S2048, .f32⟩
  | .hbm, ⟨7, _⟩ => ⟨S1x1x2048, .f32⟩
  | .hbm, ⟨8, _⟩ => ⟨S4x4112x2048, .f32⟩
  | .hbm, ⟨9, _⟩ => ⟨S4x4112x2048, .f32⟩
  | .hbm, ⟨10, _⟩ => ⟨S1x2048x6144, .f32⟩
  | .hbm, ⟨11, _⟩ => ⟨S2048x6144, .f32⟩
  | .hbm, ⟨12, _⟩ => ⟨S4x4112x6144, .f32⟩
  | .hbm, ⟨13, _⟩ => ⟨S4x4112x2048, .f32⟩
  | .hbm, ⟨14, _⟩ => ⟨S4x4112x2048, .f32⟩
  | .hbm, ⟨15, _⟩ => ⟨S4x4112x2048, .f32⟩
  | .hbm, ⟨16, _⟩ => ⟨S4x4112x2048, .f32⟩
  | .hbm, ⟨17, _⟩ => ⟨S_, .i32⟩
  | .hbm, ⟨18, _⟩ => ⟨S_, .f32⟩
  | .hbm, ⟨19, _⟩ => ⟨S4x4114x2048, .f32⟩
  | .hbm, ⟨20, _⟩ => ⟨S4x4112x2048, .f32⟩
  | .hbm, ⟨21, _⟩ => ⟨S1x1x2048, .f32⟩
  | .hbm, ⟨22, _⟩ => ⟨S2048, .f32⟩
  | .hbm, ⟨23, _⟩ => ⟨S1x1x2048, .f32⟩
  | .hbm, ⟨24, _⟩ => ⟨S4x4112x2048, .f32⟩
  | .hbm, ⟨25, _⟩ => ⟨S4x4112x2048, .f32⟩
  | .hbm, ⟨26, _⟩ => ⟨S_, .f32⟩
  | .hbm, ⟨27, _⟩ => ⟨S4x4112x2048, .f32⟩
  | .hbm, ⟨28, _⟩ => ⟨S4x4112x2048, .f32⟩
  | .hbm, ⟨29, _⟩ => ⟨S4x4112x2048, .f32⟩
  | .hbm, ⟨30, _⟩ => ⟨S1x1x2048, .f32⟩
  | .hbm, ⟨31, _⟩ => ⟨S2048, .f32⟩
  | .hbm, ⟨32, _⟩ => ⟨S1x1x2048, .f32⟩
  | .hbm, ⟨33, _⟩ => ⟨S4x4112x2048, .f32⟩
  | .hbm, ⟨34, _⟩ => ⟨S4x4112x2048, .f32⟩
  | .hbm, ⟨35, _⟩ => ⟨S4x4112x2048, .f32⟩
  | .hbm, ⟨36, _⟩ => ⟨S4x4112x2048, .f32⟩
  | .hbm, ⟨37, _⟩ => ⟨S1x1x2048, .f32⟩
  | .hbm, ⟨38, _⟩ => ⟨S2048, .f32⟩
  | .hbm, ⟨39, _⟩ => ⟨S1x1x2048, .f32⟩
  | .hbm, ⟨40, _⟩ => ⟨S4x4112x2048, .f32⟩
  | .hbm, ⟨41, _⟩ => ⟨S4x4112x2048, .f32⟩
  | .hbm, ⟨42, _⟩ => ⟨S4x4112x2048, .f32⟩
  | .hbm, ⟨43, _⟩ => ⟨S4x4112x2048, .f32⟩
  | .hbm, ⟨44, _⟩ => ⟨S_, .i32⟩
  | .hbm, ⟨45, _⟩ => ⟨S_, .f32⟩
  | .hbm, ⟨46, _⟩ => ⟨S4x4224x2048, .f32⟩
  | .hbm, ⟨47, _⟩ => ⟨S16896x2048, .f32⟩
  | .hbm, ⟨48, _⟩ => ⟨S16896x2048, .bf16⟩
  | _, _ => ⟨S4x4112x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c : Ref sig .tc := ⟨.hbm, 17, rfl⟩
abbrev main_call0_v0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_c_0 : Ref sig .tc := ⟨.hbm, 44, rfl⟩
abbrev main_call1_v0 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩

abbrev nD : Nat := 1
abbrev τ : Topo := Topo.v7x

variable {F : FTy → Type} [FloatOps F]
-- ==== KvKernel.lean ====
abbrev S16896x2048 : Shape := ⟨2, ![16896, 2048]⟩
abbrev S2048 : Shape := ⟨1, ![2048]⟩
abbrev S2048x4096 : Shape := ⟨2, ![2048, 4096]⟩
abbrev S128 : Shape := ⟨1, ![128]⟩
abbrev S1x2048x4096 : Shape := ⟨3, ![1, 2048, 4096]⟩
abbrev S1x128 : Shape := ⟨2, ![1, 128]⟩
abbrev S2048x1 : Shape := ⟨2, ![2048, 1]⟩
abbrev S1536x2048 : Shape := ⟨2, ![1536, 2048]⟩
abbrev S1x2048x512 : Shape := ⟨3, ![1, 2048, 512]⟩
abbrev S1536x512 : Shape := ⟨2, ![1536, 512]⟩
abbrev S2048x1024 : Shape := ⟨2, ![2048, 1024]⟩
abbrev S2048x512 : Shape := ⟨2, ![2048, 512]⟩
abbrev S1536x128 : Shape := ⟨2, ![1536, 128]⟩
abbrev S1536 : Shape := ⟨1, ![1536]⟩
abbrev S1536x1 : Shape := ⟨2, ![1536, 1]⟩

abbrev nBuf : Space → Nat
  | .hbm => 9
  | .vmem => 13
  | .smem => 0
  | _ => 0

abbrev bufTy : (tb : Table) → Fin (tcTables nBuf tb) → BufTy
  | .hbm, ⟨0, _⟩ => ⟨S16896x2048, .bf16⟩
  | .hbm, ⟨1, _⟩ => ⟨S2048, .f32⟩
  | .hbm, ⟨2, _⟩ => ⟨S2048x4096, .f32⟩
  | .hbm, ⟨3, _⟩ => ⟨S128, .f32⟩
  | .hbm, ⟨4, _⟩ => ⟨S1x2048x4096, .f32⟩
  | .hbm, ⟨5, _⟩ => ⟨S1x128, .f32⟩
  | .hbm, ⟨6, _⟩ => ⟨S2048x1, .f32⟩
  | .hbm, ⟨7, _⟩ => ⟨S16896x2048, .bf16⟩
  | .hbm, ⟨8, _⟩ => ⟨S16896x2048, .bf16⟩
  | .local _ .vmem, ⟨0, _⟩ => ⟨S1536x2048, .bf16⟩
  | .local _ .vmem, ⟨1, _⟩ => ⟨S1536x2048, .bf16⟩
  | .local _ .vmem, ⟨2, _⟩ => ⟨S2048x1, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x2048x512, .f32⟩
  | .local _ .vmem, ⟨7, _⟩ => ⟨S1x128, .f32⟩
  | .local _ .vmem, ⟨8, _⟩ => ⟨S1536x512, .bf16⟩
  | .local _ .vmem, ⟨9, _⟩ => ⟨S1536x512, .bf16⟩
  | .local _ .vmem, ⟨10, _⟩ => ⟨S1536x512, .bf16⟩
  | .local _ .vmem, ⟨11, _⟩ => ⟨S1536x512, .bf16⟩
  | .local _ .vmem, ⟨12, _⟩ => ⟨S2048x1024, .bf16⟩
  | _, _ => ⟨S16896x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  let c0_i32_1 : BitVec 32 := 0#32
  ![c0_i32.toNat, c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1536x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1536x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1536x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KvReferenceIdeal.lean ====
abbrev S16896x2048 : Shape := ⟨2, ![16896, 2048]⟩
abbrev S2048 : Shape := ⟨1, ![2048]⟩
abbrev S2048x4096 : Shape := ⟨2, ![2048, 4096]⟩
abbrev S128 : Shape := ⟨1, ![128]⟩
abbrev S1x2048 : Shape := ⟨2, ![1, 2048]⟩
abbrev S16896x4096 : Shape := ⟨2, ![16896, 4096]⟩
abbrev S16896x16x128 : Shape := ⟨3, ![16896, 16, 128]⟩
abbrev S_ : Shape := ⟨0, ![]⟩
abbrev S16896x16 : Shape := ⟨2, ![16896, 16]⟩
abbrev S16896x16x1 : Shape := ⟨3, ![16896, 16, 1]⟩
abbrev S1x1x128 : Shape := ⟨3, ![1, 1, 128]⟩

abbrev nBuf : Space → Nat
  | .hbm => 31
  | .vmem => 0
  | .smem => 0
  | _ => 0

abbrev bufTy : (tb : Table) → Fin (tcTables nBuf tb) → BufTy
  | .hbm, ⟨0, _⟩ => ⟨S16896x2048, .bf16⟩
  | .hbm, ⟨1, _⟩ => ⟨S2048, .f32⟩
  | .hbm, ⟨2, _⟩ => ⟨S2048x4096, .f32⟩
  | .hbm, ⟨3, _⟩ => ⟨S128, .f32⟩
  | .hbm, ⟨4, _⟩ => ⟨S16896x2048, .f32⟩
  | .hbm, ⟨5, _⟩ => ⟨S1x2048, .f32⟩
  | .hbm, ⟨6, _⟩ => ⟨S16896x2048, .f32⟩
  | .hbm, ⟨7, _⟩ => ⟨S16896x2048, .f32⟩
  | .hbm, ⟨8, _⟩ => ⟨S16896x4096, .f32⟩
  | .hbm, ⟨9, _⟩ => ⟨S16896x2048, .f32⟩
  | .hbm, ⟨10, _⟩ => ⟨S16896x2048, .f32⟩
  | .hbm, ⟨11, _⟩ => ⟨S16896x16x128, .f32⟩
  | .hbm, ⟨12, _⟩ => ⟨S16896x16x128, .f32⟩
  | .hbm, ⟨13, _⟩ => ⟨S_, .f32⟩
  | .hbm, ⟨14, _⟩ => ⟨S16896x16, .f32⟩
  | .hbm, ⟨15, _⟩ => ⟨S16896x16x1, .f32⟩
  | .hbm, ⟨16, _⟩ => ⟨S_, .f32⟩
  | .hbm, ⟨17, _⟩ => ⟨S16896x16x1, .f32⟩
  | .hbm, ⟨18, _⟩ => ⟨S16896x16x1, .f32⟩
  | .hbm, ⟨19, _⟩ => ⟨S_, .f32⟩
  | .hbm, ⟨20, _⟩ => ⟨S16896x16x1, .f32⟩
  | .hbm, ⟨21, _⟩ => ⟨S16896x16x1, .f32⟩
  | .hbm, ⟨22, _⟩ => ⟨S16896x16x1, .f32⟩
  | .hbm, ⟨23, _⟩ => ⟨S16896x16x128, .f32⟩
  | .hbm, ⟨24, _⟩ => ⟨S16896x16x128, .f32⟩
  | .hbm, ⟨25, _⟩ => ⟨S1x1x128, .f32⟩
  | .hbm, ⟨26, _⟩ => ⟨S16896x16x128, .f32⟩
  | .hbm, ⟨27, _⟩ => ⟨S16896x16x128, .f32⟩
  | .hbm, ⟨28, _⟩ => ⟨S16896x2048, .f32⟩
  | .hbm, ⟨29, _⟩ => ⟨S16896x2048, .bf16⟩
  | .hbm, ⟨30, _⟩ => ⟨S16896x2048, .bf16⟩
  | _, _ => ⟨S16896x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== QKernel.lean ====
abbrev S16896x2048 : Shape := ⟨2, ![16896, 2048]⟩
abbrev S2x2048 : Shape := ⟨2, ![2, 2048]⟩
abbrev S2x2048x2048 : Shape := ⟨3, ![2, 2048, 2048]⟩
abbrev S2x128 : Shape := ⟨2, ![2, 128]⟩
abbrev S1x2048 : Shape := ⟨2, ![1, 2048]⟩
abbrev S2048 : Shape := ⟨1, ![2048]⟩
abbrev S1x128 : Shape := ⟨2, ![1, 128]⟩
abbrev S128 : Shape := ⟨1, ![128]⟩
abbrev S2048x1 : Shape := ⟨2, ![2048, 1]⟩
abbrev S768x2048 : Shape := ⟨2, ![768, 2048]⟩
abbrev S1x2048x1024 : Shape := ⟨3, ![1, 2048, 1024]⟩
abbrev S768x1024 : Shape := ⟨2, ![768, 1024]⟩
abbrev S2048x1024 : Shape := ⟨2, ![2048, 1024]⟩
abbrev S1x2048x256 : Shape := ⟨3, ![1, 2048, 256]⟩
abbrev S2048x256 : Shape := ⟨2, ![2048, 256]⟩
abbrev S768x256 : Shape := ⟨2, ![768, 256]⟩
abbrev S768x128 : Shape := ⟨2, ![768, 128]⟩
abbrev S768 : Shape := ⟨1, ![768]⟩
abbrev S768x1 : Shape := ⟨2, ![768, 1]⟩

abbrev nBuf : Space → Nat
  | .hbm => 11
  | .vmem => 9
  | .smem => 0
  | _ => 0

abbrev bufTy : (tb : Table) → Fin (tcTables nBuf tb) → BufTy
  | .hbm, ⟨0, _⟩ => ⟨S16896x2048, .bf16⟩
  | .hbm, ⟨1, _⟩ => ⟨S2x2048, .f32⟩
  | .hbm, ⟨2, _⟩ => ⟨S2x2048x2048, .f32⟩
  | .hbm, ⟨3, _⟩ => ⟨S2x128, .f32⟩
  | .hbm, ⟨4, _⟩ => ⟨S1x2048, .f32⟩
  | .hbm, ⟨5, _⟩ => ⟨S2048, .f32⟩
  | .hbm, ⟨6, _⟩ => ⟨S1x128, .f32⟩
  | .hbm, ⟨7, _⟩ => ⟨S128, .f32⟩
  | .hbm, ⟨8, _⟩ => ⟨S1x128, .f32⟩
  | .hbm, ⟨9, _⟩ => ⟨S2048x1, .f32⟩
  | .hbm, ⟨10, _⟩ => ⟨S16896x2048, .bf16⟩
  | .local _ .vmem, ⟨0, _⟩ => ⟨S768x2048, .bf16⟩
  | .local _ .vmem, ⟨1, _⟩ => ⟨S768x2048, .bf16⟩
  | .local _ .vmem, ⟨2, _⟩ => ⟨S2048x1, .f32⟩
  | .local _ .vmem, ⟨3, _⟩ => ⟨S1x2048x1024, .f32⟩
  | .local _ .vmem, ⟨4, _⟩ => ⟨S1x2048x1024, .f32⟩
  | .local _ .vmem, ⟨5, _⟩ => ⟨S1x128, .f32⟩
  | .local _ .vmem, ⟨6, _⟩ => ⟨S768x1024, .bf16⟩
  | .local _ .vmem, ⟨7, _⟩ => ⟨S768x1024, .bf16⟩
  | .local _ .vmem, ⟨8, _⟩ => ⟨S2048x1024, .bf16⟩
  | _, _ => ⟨S16896x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S768x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== QKernelIdeal.lean ====
variable {F : FTy → Type} [FloatOps F] [Named F]
def κ : String → Option EReal := fun
  | "score_scale" => some (((Real.log 2)⁻¹ * (Real.sqrt 128)⁻¹ : ℝ) : EReal)
  | _ => none
-- ==== QReferenceIdeal.lean ====
abbrev S16896x2048 : Shape := ⟨2, ![16896, 2048]⟩
abbrev S2x2048 : Shape := ⟨2, ![2, 2048]⟩
abbrev S2x2048x2048 : Shape := ⟨3, ![2, 2048, 2048]⟩
abbrev S2x128 : Shape := ⟨2, ![2, 128]⟩
abbrev S1x2048 : Shape := ⟨2, ![1, 2048]⟩
abbrev S2048 : Shape := ⟨1, ![2048]⟩
abbrev S1x2048x2048 : Shape := ⟨3, ![1, 2048, 2048]⟩
abbrev S2048x2048 : Shape := ⟨2, ![2048, 2048]⟩
abbrev S16896x16x128 : Shape := ⟨3, ![16896, 16, 128]⟩
abbrev S1x128 : Shape := ⟨2, ![1, 128]⟩
abbrev S128 : Shape := ⟨1, ![128]⟩
abbrev S_ : Shape := ⟨0, ![]⟩
abbrev S16896x16 : Shape := ⟨2, ![16896, 16]⟩
abbrev S16896x16x1 : Shape := ⟨3, ![16896, 16, 1]⟩
abbrev S1x1x128 : Shape := ⟨3, ![1, 1, 128]⟩

abbrev nBuf : Space → Nat
  | .hbm => 42
  | .vmem => 0
  | .smem => 0
  | _ => 0

abbrev bufTy : (tb : Table) → Fin (tcTables nBuf tb) → BufTy
  | .hbm, ⟨0, _⟩ => ⟨S16896x2048, .bf16⟩
  | .hbm, ⟨1, _⟩ => ⟨S2x2048, .f32⟩
  | .hbm, ⟨2, _⟩ => ⟨S2x2048x2048, .f32⟩
  | .hbm, ⟨3, _⟩ => ⟨S2x128, .f32⟩
  | .hbm, ⟨4, _⟩ => ⟨S16896x2048, .f32⟩
  | .hbm, ⟨5, _⟩ => ⟨S1x2048, .f32⟩
  | .hbm, ⟨6, _⟩ => ⟨S2048, .f32⟩
  | .hbm, ⟨7, _⟩ => ⟨S1x2048, .f32⟩
  | .hbm, ⟨8, _⟩ => ⟨S16896x2048, .f32⟩
  | .hbm, ⟨9, _⟩ => ⟨S16896x2048, .f32⟩
  | .hbm, ⟨10, _⟩ => ⟨S1x2048x2048, .f32⟩
  | .hbm, ⟨11, _⟩ => ⟨S2048x2048, .f32⟩
  | .hbm, ⟨12, _⟩ => ⟨S16896x2048, .f32⟩
  | .hbm, ⟨13, _⟩ => ⟨S16896x16x128, .f32⟩
  | .hbm, ⟨14, _⟩ => ⟨S1x128, .f32⟩
  | .hbm, ⟨15, _⟩ => ⟨S128, .f32⟩
  | .hbm, ⟨16, _⟩ => ⟨S16896x16x128, .f32⟩
  | .hbm, ⟨17, _⟩ => ⟨S_, .f32⟩
  | .hbm, ⟨18, _⟩ => ⟨S16896x16, .f32⟩
  | .hbm, ⟨19, _⟩ => ⟨S16896x16x1, .f32⟩
  | .hbm, ⟨20, _⟩ => ⟨S_, .f32⟩
  | .hbm, ⟨21, _⟩ => ⟨S16896x16x1, .f32⟩
  | .hbm, ⟨22, _⟩ => ⟨S16896x16x1, .f32⟩
  | .hbm, ⟨23, _⟩ => ⟨S_, .f32⟩
  | .hbm, ⟨24, _⟩ => ⟨S16896x16x1, .f32⟩
  | .hbm, ⟨25, _⟩ => ⟨S16896x16x1, .f32⟩
  | .hbm, ⟨26, _⟩ => ⟨S16896x16x1, .f32⟩
  | .hbm, ⟨27, _⟩ => ⟨S16896x16x128, .f32⟩
  | .hbm, ⟨28, _⟩ => ⟨S16896x16x128, .f32⟩
  | .hbm, ⟨29, _⟩ => ⟨S1x1x128, .f32⟩
  | .hbm, ⟨30, _⟩ => ⟨S16896x16x128, .f32⟩
  | .hbm, ⟨31, _⟩ => ⟨S16896x16x128, .f32⟩
  | .hbm, ⟨32, _⟩ => ⟨S_, .f32⟩
  | .hbm, ⟨33, _⟩ => ⟨S_, .f32⟩
  | .hbm, ⟨34, _⟩ => ⟨S16896x16x128, .f32⟩
  | .hbm, ⟨35, _⟩ => ⟨S16896x16x128, .f32⟩
  | .hbm, ⟨36, _⟩ => ⟨S_, .f32⟩
  | .hbm, ⟨37, _⟩ => ⟨S_, .f32⟩
  | .hbm, ⟨38, _⟩ => ⟨S16896x16x128, .f32⟩
  | .hbm, ⟨39, _⟩ => ⟨S16896x16x128, .f32⟩
  | .hbm, ⟨40, _⟩ => ⟨S16896x2048, .f32⟩
  | .hbm, ⟨41, _⟩ => ⟨S16896x2048, .bf16⟩
  | _, _ => ⟨S16896x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]
-- ==== BiasKernel.lean ====
abbrev S16896x2048 : Shape := ⟨2, ![16896, 2048]⟩
abbrev S2048 : Shape := ⟨1, ![2048]⟩
abbrev S2048x16 : Shape := ⟨2, ![2048, 16]⟩
abbrev S16 : Shape := ⟨1, ![16]⟩
abbrev S_ : Shape := ⟨0, ![]⟩
abbrev S2048x128 : Shape := ⟨2, ![2048, 128]⟩
abbrev S1 : Shape := ⟨1, ![1]⟩
abbrev S2048x256 : Shape := ⟨2, ![2048, 256]⟩
abbrev S1x128 : Shape := ⟨2, ![1, 128]⟩
abbrev S2 : Shape := ⟨1, ![2]⟩
abbrev S1x2048 : Shape := ⟨2, ![1, 2048]⟩
abbrev S4x16x4224 : Shape := ⟨3, ![4, 16, 4224]⟩
abbrev S384x2048 : Shape := ⟨2, ![384, 2048]⟩
abbrev S1x16x384 : Shape := ⟨3, ![1, 16, 384]⟩
abbrev S128x128 : Shape := ⟨2, ![128, 128]⟩
abbrev S384 : Shape := ⟨1, ![384]⟩
abbrev S384x1 : Shape := ⟨2, ![384, 1]⟩
abbrev S384x256 : Shape := ⟨2, ![384, 256]⟩
abbrev S384x128 : Shape := ⟨2, ![384, 128]⟩
abbrev S128x384 : Shape := ⟨2, ![128, 384]⟩
abbrev S384x384 : Shape := ⟨2, ![384, 384]⟩
abbrev S128x1 : Shape := ⟨2, ![128, 1]⟩
abbrev S16x384 : Shape := ⟨2, ![16, 384]⟩

abbrev nBuf : Space → Nat
  | .hbm => 24
  | .vmem => 8
  | .smem => 0
  | _ => 0

abbrev bufTy : (tb : Table) → Fin (tcTables nBuf tb) → BufTy
  | .hbm, ⟨0, _⟩ => ⟨S16896x2048, .f32⟩
  | .hbm, ⟨1, _⟩ => ⟨S2048, .f32⟩
  | .hbm, ⟨2, _⟩ => ⟨S2048x16, .f32⟩
  | .hbm, ⟨3, _⟩ => ⟨S16, .f32⟩
  | .hbm, ⟨4, _⟩ => ⟨S_, .f32⟩
  | .hbm, ⟨5, _⟩ => ⟨S2048x128, .f32⟩
  | .hbm, ⟨6, _⟩ => ⟨S_, .i32⟩
  | .hbm, ⟨7, _⟩ => ⟨S1, .i32⟩
  | .hbm, ⟨8, _⟩ => ⟨S2048x128, .f32⟩
  | .hbm, ⟨9, _⟩ => ⟨S2048x128, .bf16⟩
  | .hbm, ⟨10, _⟩ => ⟨S2048x128, .f32⟩
  | .hbm, ⟨11, _⟩ => ⟨S2048x128, .f32⟩
  | .hbm, ⟨12, _⟩ => ⟨S2048x128, .bf16⟩
  | .hbm, ⟨13, _⟩ => ⟨S2048x256, .bf16⟩
  | .hbm, ⟨14, _⟩ => ⟨S_, .f32⟩
  | .hbm, ⟨15, _⟩ => ⟨S1x128, .f32⟩
  | .hbm, ⟨16, _⟩ => ⟨S_, .i32⟩
  | .hbm, ⟨17, _⟩ => ⟨S1, .i32⟩
  | .hbm, ⟨18, _⟩ => ⟨S_, .i32⟩
  | .hbm, ⟨19, _⟩ => ⟨S1, .i32⟩
  | .hbm, ⟨20, _⟩ => ⟨S2, .i32⟩
  | .hbm, ⟨21, _⟩ => ⟨S1x128, .f32⟩
  | .hbm, ⟨22, _⟩ => ⟨S1x2048, .f32⟩
  | .hbm, ⟨23, _⟩ => ⟨S4x16x4224, .f32⟩
  | .local _ .vmem, ⟨0, _⟩ => ⟨S384x2048, .f32⟩
  | .local _ .vmem, ⟨1, _⟩ => ⟨S384x2048, .f32⟩
  | .local _ .vmem, ⟨2, _⟩ => ⟨S1x2048, .f32⟩
  | .local _ .vmem, ⟨3, _⟩ => ⟨S2048x256, .bf16⟩
  | .local _ .vmem, ⟨4, _⟩ => ⟨S1x128, .f32⟩
  | .local _ .vmem, ⟨5, _⟩ => ⟨S1x16x384, .f32⟩
  | .local _ .vmem, ⟨6, _⟩ => ⟨S1x16x384, .f32⟩
  | .local _ .vmem, ⟨7, _⟩ => ⟨S128x128, .f32⟩
  | _, _ => ⟨S16896x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S384x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x16x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== BiasKernelIdeal.lean ====
variable {F : FTy → Type} [FloatOps F] [Named F]
def κ : String → Option EReal := fun
  | "neg_inf" => some ⊥
  | "neg_log2e" => some ((-((Real.log 2)⁻¹) : ℝ) : EReal)
  | _ => none
-- ==== BiasReferenceIdeal.lean ====
abbrev S16896x2048 : Shape := ⟨2, ![16896, 2048]⟩
abbrev S2048 : Shape := ⟨1, ![2048]⟩
abbrev S2048x16 : Shape := ⟨2, ![2048, 16]⟩
abbrev S16 : Shape := ⟨1, ![16]⟩
abbrev S_ : Shape := ⟨0, ![]⟩
abbrev S16896 : Shape := ⟨1, ![16896]⟩
abbrev S16896x1 : Shape := ⟨2, ![16896, 1]⟩
abbrev S1x2048 : Shape := ⟨2, ![1, 2048]⟩
abbrev S16896x16 : Shape := ⟨2, ![16896, 16]⟩
abbrev S1x16 : Shape := ⟨2, ![1, 16]⟩
abbrev S4x4224x16 : Shape := ⟨3, ![4, 4224, 16]⟩
abbrev S4224 : Shape := ⟨1, ![4224]⟩
abbrev S1x4224x1 : Shape := ⟨3, ![1, 4224, 1]⟩
abbrev S4x16x4224 : Shape := ⟨3, ![4, 16, 4224]⟩

abbrev nBuf : Space → Nat
  | .hbm => 68
  | .vmem => 0
  | .smem => 0
  | _ => 0

abbrev bufTy : (tb : Table) → Fin (tcTables nBuf tb) → BufTy
  | .hbm, ⟨0, _⟩ => ⟨S16896x2048, .f32⟩
  | .hbm, ⟨1, _⟩ => ⟨S2048, .f32⟩
  | .hbm, ⟨2, _⟩ => ⟨S2048x16, .f32⟩
  | .hbm, ⟨3, _⟩ => ⟨S16, .f32⟩
  | .hbm, ⟨4, _⟩ => ⟨S16896x2048, .f32⟩
  | .hbm, ⟨5, _⟩ => ⟨S_, .f32⟩
  | .hbm, ⟨6, _⟩ => ⟨S16896, .f32⟩
  | .hbm, ⟨7, _⟩ => ⟨S16896x1, .f32⟩
  | .hbm, ⟨8, _⟩ => ⟨S_, .f32⟩
  | .hbm, ⟨9, _⟩ => ⟨S16896x1, .f32⟩
  | .hbm, ⟨10, _⟩ => ⟨S16896x1, .f32⟩
  | .hbm, ⟨11, _⟩ => ⟨S_, .f32⟩
  | .hbm, ⟨12, _⟩ => ⟨S16896x1, .f32⟩
  | .hbm, ⟨13, _⟩ => ⟨S16896x1, .f32⟩
  | .hbm, ⟨14, _⟩ => ⟨S16896x1, .f32⟩
  | .hbm, ⟨15, _⟩ => ⟨S16896x2048, .f32⟩
  | .hbm, ⟨16, _⟩ => ⟨S16896x2048, .f32⟩
  | .hbm, ⟨17, _⟩ => ⟨S1x2048, .f32⟩
  | .hbm, ⟨18, _⟩ => ⟨S16896x2048, .f32⟩
  | .hbm, ⟨19, _⟩ => ⟨S16896x2048, .f32⟩
  | .hbm, ⟨20, _⟩ => ⟨S16896x16, .f32⟩
  | .hbm, ⟨21, _⟩ => ⟨S1x16, .f32⟩
  | .hbm, ⟨22, _⟩ => ⟨S16896x16, .f32⟩
  | .hbm, ⟨23, _⟩ => ⟨S16896x16, .f32⟩
  | .hbm, ⟨24, _⟩ => ⟨S16896x16, .f32⟩
  | .hbm, ⟨25, _⟩ => ⟨S_, .f32⟩
  | .hbm, ⟨26, _⟩ => ⟨S16896x16, .f32⟩
  | .hbm, ⟨27, _⟩ => ⟨S16896x16, .f32⟩
  | .hbm, ⟨28, _⟩ => ⟨S16896x16, .f32⟩
  | .hbm, ⟨29, _⟩ => ⟨S16896x16, .f32⟩
  | .hbm, ⟨30, _⟩ => ⟨S16896x16, .i1⟩
  | .hbm, ⟨31, _⟩ => ⟨S16896x16, .f32⟩
  | .hbm, ⟨32, _⟩ => ⟨S16896x16, .f32⟩
  | .hbm, ⟨33, _⟩ => ⟨S16896x16, .f32⟩
  | .hbm, ⟨34, _⟩ => ⟨S16896x16, .f32⟩
  | .hbm, ⟨35, _⟩ => ⟨S16896x16, .f32⟩
  | .hbm, ⟨36, _⟩ => ⟨S16896x16, .f32⟩
  | .hbm, ⟨37, _⟩ => ⟨S16896x16, .f32⟩
  | .hbm, ⟨38, _⟩ => ⟨S16896x16, .f32⟩
  | .hbm, ⟨39, _⟩ => ⟨S16896x16, .f32⟩
  | .hbm, ⟨40, _⟩ => ⟨S4x4224x16, .f32⟩
  | .hbm, ⟨41, _⟩ => ⟨S4224, .i32⟩
  | .hbm, ⟨42, _⟩ => ⟨S_, .i32⟩
  | .hbm, ⟨43, _⟩ => ⟨S4224, .i32⟩
  | .hbm, ⟨44, _⟩ => ⟨S4224, .i1⟩
  | .hbm, ⟨45, _⟩ => ⟨S1x4224x1, .i1⟩
  | .hbm, ⟨46, _⟩ => ⟨S_, .f32⟩
  | .hbm, ⟨47, _⟩ => ⟨S_, .f32⟩
  | .hbm, ⟨48, _⟩ => ⟨S4x4224x16, .i1⟩
  | .hbm, ⟨49, _⟩ => ⟨S4x4224x16, .f32⟩
  | .hbm, ⟨50, _⟩ => ⟨S4x4224x16, .f32⟩
  | .hbm, ⟨51, _⟩ => ⟨S_, .f32⟩
  | .hbm, ⟨52, _⟩ => ⟨S_, .f32⟩
  | .hbm, ⟨53, _⟩ => ⟨S4x4224x16, .f32⟩
  | .hbm, ⟨54, _⟩ => ⟨S4x16x4224, .f32⟩
  | .hbm, ⟨55, _⟩ => ⟨S4x16x4224, .f32⟩
  | .hbm, ⟨56, _⟩ => ⟨S_, .f32⟩
  | .hbm, ⟨57, _⟩ => ⟨S_, .f32⟩
  | .hbm, ⟨58, _⟩ => ⟨S4x16x4224, .f32⟩
  | .hbm, ⟨59, _⟩ => ⟨S4x16x4224, .f32⟩
  | .hbm, ⟨60, _⟩ => ⟨S_, .i32⟩
  | .hbm, ⟨61, _⟩ => ⟨S4224, .i32⟩
  | .hbm, ⟨62, _⟩ => ⟨S4224, .i1⟩
  | .hbm, ⟨63, _⟩ => ⟨S_, .f32⟩
  | .hbm, ⟨64, _⟩ => ⟨S_, .f32⟩
  | .hbm, ⟨65, _⟩ => ⟨S4x16x4224, .i1⟩
  | .hbm, ⟨66, _⟩ => ⟨S4x16x4224, .f32⟩
  | .hbm, ⟨67, _⟩ => ⟨S4x16x4224, .f32⟩
  | _, _ => ⟨S16896x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_c : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_2 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v23 : Ref sig .tc := ⟨.hbm, 50, rfl⟩
abbrev main_call2_call0_cst : Ref sig .tc := ⟨.hbm, 51, rfl⟩
abbrev main_call2_call0_v0 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_cst_3 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_c_4 : Ref sig .tc := ⟨.hbm, 60, rfl⟩
abbrev main_v30 : Ref sig .tc := ⟨.hbm, 61, rfl⟩
abbrev main_v31 : Ref sig .tc := ⟨.hbm, 62, rfl⟩
abbrev main_cst_5 : Ref sig .tc := ⟨.hbm, 63, rfl⟩
abbrev main_call3_v0 : Ref sig .tc := ⟨.hbm, 64, rfl⟩
abbrev main_call3_v1 : Ref sig .tc := ⟨.hbm, 65, rfl⟩
abbrev main_call3_v2 : Ref sig .tc := ⟨.hbm, 66, rfl⟩
abbrev main_v32 : Ref sig .tc := ⟨.hbm, 67, rfl⟩

abbrev nD : Nat := 1
abbrev τ : Topo := Topo.v7x

variable {F : FTy → Type} [FloatOps F]
-- ==== AttnKernel.lean ====
abbrev S4x4224x16x128 : Shape := ⟨4, ![4, 4224, 16, 128]⟩
abbrev S4x16x4224 : Shape := ⟨3, ![4, 16, 4224]⟩
abbrev S_ : Shape := ⟨0, ![]⟩
abbrev S16896x2048 : Shape := ⟨2, ![16896, 2048]⟩
abbrev S64x1x4224 : Shape := ⟨3, ![64, 1, 4224]⟩
abbrev S384x128 : Shape := ⟨2, ![384, 128]⟩
abbrev S4224x128 : Shape := ⟨2, ![4224, 128]⟩
abbrev S1x1x4224 : Shape := ⟨3, ![1, 1, 4224]⟩
abbrev S384x1 : Shape := ⟨2, ![384, 1]⟩
abbrev S384x384 : Shape := ⟨2, ![384, 384]⟩
abbrev S1x1x384 : Shape := ⟨3, ![1, 1, 384]⟩
abbrev S1x384 : Shape := ⟨2, ![1, 384]⟩
abbrev S384 : Shape := ⟨1, ![384]⟩

abbrev nBuf : Space → Nat
  | .hbm => 16
  | .vmem => 13
  | .smem => 0
  | _ => 0

abbrev bufTy : (tb : Table) → Fin (tcTables nBuf tb) → BufTy
  | .hbm, ⟨0, _⟩ => ⟨S4x4224x16x128, .f32⟩
  | .hbm, ⟨1, _⟩ => ⟨S4x4224x16x128, .f32⟩
  | .hbm, ⟨2, _⟩ => ⟨S4x4224x16x128, .f32⟩
  | .hbm, ⟨3, _⟩ => ⟨S4x16x4224, .f32⟩
  | .hbm, ⟨4, _⟩ => ⟨S_, .f32⟩
  | .hbm, ⟨5, _⟩ => ⟨S_, .f32⟩
  | .hbm, ⟨6, _⟩ => ⟨S4x4224x16x128, .f32⟩
  | .hbm, ⟨7, _⟩ => ⟨S4x4224x16x128, .f32⟩
  | .hbm, ⟨8, _⟩ => ⟨S4x4224x16x128, .bf16⟩
  | .hbm, ⟨9, _⟩ => ⟨S16896x2048, .bf16⟩
  | .hbm, ⟨10, _⟩ => ⟨S4x4224x16x128, .bf16⟩
  | .hbm, ⟨11, _⟩ => ⟨S16896x2048, .bf16⟩
  | .hbm, ⟨12, _⟩ => ⟨S4x4224x16x128, .bf16⟩
  | .hbm, ⟨13, _⟩ => ⟨S16896x2048, .bf16⟩
  | .hbm, ⟨14, _⟩ => ⟨S64x1x4224, .f32⟩
  | .hbm, ⟨15, _⟩ => ⟨S16896x2048, .bf16⟩
  | .local _ .vmem, ⟨0, _⟩ => ⟨S384x128, .bf16⟩
  | .local _ .vmem, ⟨1, _⟩ => ⟨S384x128, .bf16⟩
  | .local _ .vmem, ⟨2, _⟩ => ⟨S4224x128, .bf16⟩
  | .local _ .vmem, ⟨3, _⟩ => ⟨S4224x128, .bf16⟩
  | .local _ .vmem, ⟨4, _⟩ => ⟨S4224x128, .bf16⟩
  | .local _ .vmem, ⟨5, _⟩ => ⟨S4224x128, .bf16⟩
  | .local _ .vmem, ⟨6, _⟩ => ⟨S1x1x4224, .f32⟩
  | .local _ .vmem, ⟨7, _⟩ => ⟨S1x1x4224, .f32⟩
  | .local _ .vmem, ⟨8, _⟩ => ⟨S384x128, .bf16⟩
  | .local _ .vmem, ⟨9, _⟩ => ⟨S384x128, .bf16⟩
  | .local _ .vmem, ⟨10, _⟩ => ⟨S384x1, .f32⟩
  | .local _ .vmem, ⟨11, _⟩ => ⟨S384x1, .f32⟩
  | .local _ .vmem, ⟨12, _⟩ => ⟨S384x128, .f32⟩
  | _, _ => ⟨S4x4224x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 16, 11], ![false, false, false]⟩

@[reducible] def k0_t1_loop (i : grid0.Coords) : Scf.Loop 32 :=
  let c0_i32_10 : BitVec 32 := 0#32
  let arg2 : BitVec 32 := BitVec.ofNat 32 (i 2).val
  let c1_i32 : BitVec 32 := 1#32
  let v15 : BitVec 32 := Scalar.addi arg2 c1_i32
  let c1_i32_9 : BitVec 32 := 1#32
  let v16 : BitVec 32 := Scalar.muli v15 c1_i32_9
  let v17 : BitVec 32 := Scalar.subi v16 c0_i32_10
  let c1_i32_11 : BitVec 32 := 1#32
  let v19 : BitVec 32 := Scalar.divsi v17 c1_i32_11
  let v20 : BitVec 32 := Scalar.muli v19 c1_i32_11
  let v21 : BitVec 32 := Scalar.addi c0_i32_10 v20
  let c1_i32_12 : BitVec 32 := 1#32
  ⟨c0_i32_10, v21, c1_i32_12⟩
def k0_mult1 (i : grid0.Coords) (k0_t1 : Fin (k0_t1_loop i).trips) : BitVec 32 :=
  let c0_i32_10 : BitVec 32 := 0#32
  let c1_i32_12 : BitVec 32 := 1#32
  let arg11 : BitVec 32 := Scf.iv c0_i32_10 c1_i32_12 k0_t1
  let c384_i32_20 : BitVec 32 := 384#32
  let v28 : BitVec 32 := Scalar.muli arg11 c384_i32_20
  v28
def k0_off1 (i : grid0.Coords) (k0_t1 : Fin (k0_t1_loop i).trips) : Fin 2 → Nat :=
  let c0_i32_10 : BitVec 32 := 0#32
  let c1_i32_12 : BitVec 32 := 1#32
  let arg11 : BitVec 32 := Scf.iv c0_i32_10 c1_i32_12 k0_t1
  let c384_i32_20 : BitVec 32 := 384#32
  let v28 : BitVec 32 := Scalar.muli arg11 c384_i32_20
  let v29 : BitVec 32 := v28
  let v30 : Index := Scalar.indexCast v29
  let c0_21 : Index := 0#32
  ![v30.toNat, 0]
def k0_off2 (i : grid0.Coords) (k0_t1 : Fin (k0_t1_loop i).trips) : Fin 3 → Nat :=
  let c0_24 : Index := 0#32
  let c0_25 : Index := 0#32
  let c0_i32_10 : BitVec 32 := 0#32
  let c1_i32_12 : BitVec 32 := 1#32
  let arg11 : BitVec 32 := Scf.iv c0_i32_10 c1_i32_12 k0_t1
  let c384_i32_20 : BitVec 32 := 384#32
  let v28 : BitVec 32 := Scalar.muli arg11 c384_i32_20
  let v29 : BitVec 32 := v28
  let v37 : Index := Scalar.indexCast v29
  ![0, 0, v37.toNat]
@[reducible] def k0_t2_loop (i : grid0.Coords) : Scf.Loop 32 :=
  let c0_i32_10 : BitVec 32 := 0#32
  let arg2 : BitVec 32 := BitVec.ofNat 32 (i 2).val
  let c1_i32 : BitVec 32 := 1#32
  let v15 : BitVec 32 := Scalar.addi arg2 c1_i32
  let c1_i32_9 : BitVec 32 := 1#32
  let v16 : BitVec 32 := Scalar.muli v15 c1_i32_9
  let v17 : BitVec 32 := Scalar.subi v16 c0_i32_10
  let c1_i32_11 : BitVec 32 := 1#32
  let v19 : BitVec 32 := Scalar.divsi v17 c1_i32_11
  let v20 : BitVec 32 := Scalar.muli v19 c1_i32_11
  let v21 : BitVec 32 := Scalar.addi c0_i32_10 v20
  let v18 : BitVec 32 := Scalar.addi c0_i32_10 v17
  let c1_i32_13 : BitVec 32 := 1#32
  ⟨v21, v18, c1_i32_13⟩
def k0_mult2 (i : grid0.Coords) (k0_t2 : Fin (k0_t2_loop i).trips) : BitVec 32 :=
  let c0_i32_10 : BitVec 32 := 0#32
  let arg2 : BitVec 32 := BitVec.ofNat 32 (i 2).val
  let c1_i32 : BitVec 32 := 1#32
  let v15 : BitVec 32 := Scalar.addi arg2 c1_i32
  let c1_i32_9 : BitVec 32 := 1#32
  let v16 : BitVec 32 := Scalar.muli v15 c1_i32_9
  let v17 : BitVec 32 := Scalar.subi v16 c0_i32_10
  let c1_i32_11 : BitVec 32 := 1#32
  let v19 : BitVec 32 := Scalar.divsi v17 c1_i32_11
  let v20 : BitVec 32 := Scalar.muli v19 c1_i32_11
  let v21 : BitVec 32 := Scalar.addi c0_i32_10 v20
  let c1_i32_13 : BitVec 32 := 1#32
  let arg11 : BitVec 32 := Scf.iv v21 c1_i32_13 k0_t2
  let c384_i32_20 : BitVec 32 := 384#32
  let v28 : BitVec 32 := Scalar.muli arg11 c384_i32_20
  v28
def k0_off3 (i : grid0.Coords) (k0_t2 : Fin (k0_t2_loop i).trips) : Fin 2 → Nat :=
  let c0_i32_10 : BitVec 32 := 0#32
  let arg2 : BitVec 32 := BitVec.ofNat 32 (i 2).val
  let c1_i32 : BitVec 32 := 1#32
  let v15 : BitVec 32 := Scalar.addi arg2 c1_i32
  let c1_i32_9 : BitVec 32 := 1#32
  let v16 : BitVec 32 := Scalar.muli v15 c1_i32_9
  let v17 : BitVec 32 := Scalar.subi v16 c0_i32_10
  let c1_i32_11 : BitVec 32 := 1#32
  let v19 : BitVec 32 := Scalar.divsi v17 c1_i32_11
  let v20 : BitVec 32 := Scalar.muli v19 c1_i32_11
  let v21 : BitVec 32 := Scalar.addi c0_i32_10 v20
  let c1_i32_13 : BitVec 32 := 1#32
  let arg11 : BitVec 32 := Scf.iv v21 c1_i32_13 k0_t2
  let c384_i32_20 : BitVec 32 := 384#32
  let v28 : BitVec 32 := Scalar.muli arg11 c384_i32_20
  let v29 : BitVec 32 := v28
  let v30 : Index := Scalar.indexCast v29
  let c0_21 : Index := 0#32
  ![v30.toNat, 0]
def k0_off4 (i : grid0.Coords) (k0_t2 : Fin (k0_t2_loop i).trips) : Fin 3 → Nat :=
  let c0_24 : Index := 0#32
  let c0_25 : Index := 0#32
  let c0_i32_10 : BitVec 32 := 0#32
  let arg2 : BitVec 32 := BitVec.ofNat 32 (i 2).val
  let c1_i32 : BitVec 32 := 1#32
  let v15 : BitVec 32 := Scalar.addi arg2 c1_i32
  let c1_i32_9 : BitVec 32 := 1#32
  let v16 : BitVec 32 := Scalar.muli v15 c1_i32_9
  let v17 : BitVec 32 := Scalar.subi v16 c0_i32_10
  let c1_i32_11 : BitVec 32 := 1#32
  let v19 : BitVec 32 := Scalar.divsi v17 c1_i32_11
  let v20 : BitVec 32 := Scalar.muli v19 c1_i32_11
  let v21 : BitVec 32 := Scalar.addi c0_i32_10 v20
  let c1_i32_13 : BitVec 32 := 1#32
  let arg11 : BitVec 32 := Scf.iv v21 c1_i32_13 k0_t2
  let c384_i32_20 : BitVec 32 := 384#32
  let v28 : BitVec 32 := Scalar.muli arg11 c384_i32_20
  let v29 : BitVec 32 := v28
  let v37 : Index := Scalar.indexCast v29
  ![0, 0, v37.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.muli arg0 c11_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.muli arg0 c11_i32
  let v1 : BitVec 32 := Scalar.addi v0 arg2
  let c0_i32 : BitVec 32 := 0#32
  ![v1.toNat, arg1.toNat]

abbrev stage0_0 : Fin 2 → Memref sig .tc .vmem S384x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4224x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4224x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x4224 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S384x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== AttnKernelIdeal.lean ====
variable {F : FTy → Type} [FloatOps F] [Named F]
def κ : String → Option EReal := fun
  | "neg_inf" => some ⊥
  | _ => none
-- ==== AttnReferenceIdeal.lean ====
abbrev S4x4224x16x128 : Shape := ⟨4, ![4, 4224, 16, 128]⟩
abbrev S4x16x4224 : Shape := ⟨3, ![4, 16, 4224]⟩
abbrev S4x16x4224x4224 : Shape := ⟨4, ![4, 16, 4224, 4224]⟩
abbrev S_ : Shape := ⟨0, ![]⟩
abbrev S4x16x4224x1 : Shape := ⟨4, ![4, 16, 4224, 1]⟩
abbrev S4x16x1x4224 : Shape := ⟨4, ![4, 16, 1, 4224]⟩
abbrev S4224 : Shape := ⟨1, ![4224]⟩
abbrev S1x4224 : Shape := ⟨2, ![1, 4224]⟩
abbrev S4224x1 : Shape := ⟨2, ![4224, 1]⟩
abbrev S4224x4224 : Shape := ⟨2, ![4224, 4224]⟩
abbrev S4x16x128x4224 : Shape := ⟨4, ![4, 16, 128, 4224]⟩
abbrev S16896x2048 : Shape := ⟨2, ![16896, 2048]⟩

abbrev nBuf : Space → Nat
  | .hbm => 50
  | .vmem => 0
  | .smem => 0
  | _ => 0

abbrev bufTy : (tb : Table) → Fin (tcTables nBuf tb) → BufTy
  | .hbm, ⟨0, _⟩ => ⟨S4x4224x16x128, .f32⟩
  | .hbm, ⟨1, _⟩ => ⟨S4x4224x16x128, .f32⟩
  | .hbm, ⟨2, _⟩ => ⟨S4x4224x16x128, .f32⟩
  | .hbm, ⟨3, _⟩ => ⟨S4x16x4224, .f32⟩
  | .hbm, ⟨4, _⟩ => ⟨S4x16x4224x4224, .f32⟩
  | .hbm, ⟨5, _⟩ => ⟨S_, .f32⟩
  | .hbm, ⟨6, _⟩ => ⟨S_, .f32⟩
  | .hbm, ⟨7, _⟩ => ⟨S4x16x4224x4224, .f32⟩
  | .hbm, ⟨8, _⟩ => ⟨S4x16x4224x4224, .f32⟩
  | .hbm, ⟨9, _⟩ => ⟨S4x16x4224x1, .f32⟩
  | .hbm, ⟨10, _⟩ => ⟨S4x16x1x4224, .f32⟩
  | .hbm, ⟨11, _⟩ => ⟨S4x16x4224x4224, .f32⟩
  | .hbm, ⟨12, _⟩ => ⟨S4x16x4224x4224, .f32⟩
  | .hbm, ⟨13, _⟩ => ⟨S4x16x4224x4224, .f32⟩
  | .hbm, ⟨14, _⟩ => ⟨S4x16x4224x4224, .f32⟩
  | .hbm, ⟨15, _⟩ => ⟨S4224, .i32⟩
  | .hbm, ⟨16, _⟩ => ⟨S1x4224, .i32⟩
  | .hbm, ⟨17, _⟩ => ⟨S4224x1, .i32⟩
  | .hbm, ⟨18, _⟩ => ⟨S4224x4224, .i32⟩
  | .hbm, ⟨19, _⟩ => ⟨S4224x4224, .i32⟩
  | .hbm, ⟨20, _⟩ => ⟨S4224x4224, .i1⟩
  | .hbm, ⟨21, _⟩ => ⟨S1x4224, .i32⟩
  | .hbm, ⟨22, _⟩ => ⟨S_, .i32⟩
  | .hbm, ⟨23, _⟩ => ⟨S1x4224, .i32⟩
  | .hbm, ⟨24, _⟩ => ⟨S1x4224, .i1⟩
  | .hbm, ⟨25, _⟩ => ⟨S4224x4224, .i1⟩
  | .hbm, ⟨26, _⟩ => ⟨S4224x4224, .i1⟩
  | .hbm, ⟨27, _⟩ => ⟨S_, .f32⟩
  | .hbm, ⟨28, _⟩ => ⟨S_, .f32⟩
  | .hbm, ⟨29, _⟩ => ⟨S4x16x4224x4224, .i1⟩
  | .hbm, ⟨30, _⟩ => ⟨S4x16x4224x4224, .f32⟩
  | .hbm, ⟨31, _⟩ => ⟨S4x16x4224x4224, .f32⟩
  | .hbm, ⟨32, _⟩ => ⟨S_, .f32⟩
  | .hbm, ⟨33, _⟩ => ⟨S4x16x4224, .f32⟩
  | .hbm, ⟨34, _⟩ => ⟨S_, .f32⟩
  | .hbm, ⟨35, _⟩ => ⟨S4x16x4224, .f32⟩
  | .hbm, ⟨36, _⟩ => ⟨S4x16x4224, .f32⟩
  | .hbm, ⟨37, _⟩ => ⟨S4x16x4224x1, .f32⟩
  | .hbm, ⟨38, _⟩ => ⟨S4x16x4224x4224, .f32⟩
  | .hbm, ⟨39, _⟩ => ⟨S4x16x4224x4224, .f32⟩
  | .hbm, ⟨40, _⟩ => ⟨S4x16x4224x4224, .f32⟩
  | .hbm, ⟨41, _⟩ => ⟨S_, .f32⟩
  | .hbm, ⟨42, _⟩ => ⟨S4x16x4224, .f32⟩
  | .hbm, ⟨43, _⟩ => ⟨S4x16x4224x1, .f32⟩
  | .hbm, ⟨44, _⟩ => ⟨S4x16x4224x4224, .f32⟩
  | .hbm, ⟨45, _⟩ => ⟨S4x16x4224x4224, .f32⟩
  | .hbm, ⟨46, _⟩ => ⟨S4x16x128x4224, .f32⟩
  | .hbm, ⟨47, _⟩ => ⟨S4x4224x16x128, .f32⟩
  | .hbm, ⟨48, _⟩ => ⟨S16896x2048, .f32⟩
  | .hbm, ⟨49, _⟩ => ⟨S16896x2048, .bf16⟩
  | _, _ => ⟨S4x4224x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Proof.Down.Value.lean ====
module

public import proofs.«01_k».proof.Proof.Gen.DownKernelIdeal.Frame
public import Idealize.ShloMosaic.Lib.Pipeline.ValueKit
public import Idealize.ShloMosaic.Lib.Pointwise
public import Idealize.ShloMosaic.Lib.Claim

/-! The down projection's two kernel regions, at their values: what each leaves in its output array, and the run. -/

set_option maxRecDepth 16384

@[expose] public section

noncomputable section

namespace Cert.DownKernelIdeal.Value

open Cert.DownKernelIdeal Cert.DownKernelIdeal.Gen
open Idealize.ShloMosaic Idealize.ShloMosaic.TcCoe Idealize.SL.Sem Idealize.ShloMosaic.Pointwise
open Idealize.ShloMosaic.Pipeline (Dat)

/-- Row `r` of the packed result sits at this row of the padded array: 4096 rows of each 4224, from row 128. -/
def srcRow (r : Fin 16384) : Fin 16896 := ⟨r.val / 4096 * 4224 + 128 + r.val % 4096, by omega⟩

/-- The residual plus the product over the first half of the contraction. -/
def part0 (act : FVec Ideal S16896x5632 .bf16) (w : FVec Ideal S4x5632x2048 .bf16) (h : FVec Ideal S16896x2048 .f32) :
    FVec Ideal S16896x2048 .f32 := fun i =>
  h (ix2 (i 0) (i 1)) + ∑ k : Fin 2816, act (ix2 (i 0) (⟨k.val, by omega⟩ : Fin 5632)) * w (ix3 (3 : Fin 4) (⟨k.val, by omega⟩ : Fin 5632) (i 1))

/-- The rows kept of a partial result plus the product over the second half of the contraction. -/
def part1 (act : FVec Ideal S16896x5632 .bf16) (w : FVec Ideal S4x5632x2048 .bf16) (p : FVec Ideal S16896x2048 .f32) :
    FVec Ideal S16384x2048 .f32 := fun i =>
  p (ix2 (srcRow (i 0)) (i 1)) + ∑ k : Fin 2816, act (ix2 (srcRow (i 0)) (⟨2816 + k.val, by omega⟩ : Fin 5632)) * w (ix3 (3 : Fin 4) (⟨2816 + k.val, by omega⟩ : Fin 5632) (i 1))

/-- The first region's index maps at every point. -/
theorem idx0 : ∀ t : Fin cfg0.N, win0_0.index t = ![t.val, 0] ∧ win0_1.index t = ![3, 0, 0]
    ∧ win0_2.index t = ![t.val, 0] ∧ win0_3.index t = ![t.val, 0] :=
  (by decide +kernel : ∀ t : Fin grid0.N, _)

/-- The second region's index maps at every point: the operands start at element offsets. -/
theorem idx1 : ∀ t : Fin cfg1.N, win1_0.index t = ![t.val / 8 * 4224 + 128 + t.val % 8 * 512, 2816] ∧ win1_1.index t = ![3, 1, 0]
    ∧ win1_2.index t = ![t.val / 8 * 4224 + 128 + t.val % 8 * 512, 0] ∧ win1_3.index t = ![t.val, 0] :=
  (by decide +kernel : ∀ t : Fin grid1.N, _)

/-- The second region's first operand, at coordinates: the element offset plus the index in the block. -/
theorem emb1_0 (t : Fin cfg1.N) (y : S512x2816.Idx) (a : Fin 2) :
    (((View.whole main_arg0).slice (win1_0.rect t)).emb y a).val = win1_0.index t a + (y a).val := by
  show win1_0.index t a + 1 * (y a).val = _
  omega

/-- The second region's residual operand, at coordinates: the element offset plus the index in the block. -/
theorem emb1_2 (t : Fin cfg1.N) (y : S512x2048.Idx) (a : Fin 2) :
    (((View.whole main_v1).slice (win1_2.rect t)).emb y a).val = win1_2.index t a + (y a).val := by
  show win1_2.index t a + 1 * (y a).val = _
  omega

section
variable (V : (c : Dev nD) → (b : Ref sig .tc) → Buf (Elt Ideal) ((c : Thread nD τ).loc b))

/-- The first region leaves the residual plus the first half of the product. -/
theorem final0 (c : Dev nD) : (dat0 V c).arrAt 3 cfg0.N = part0 (V c main_arg0) (V c main_v0) (V c main_arg2) := by
  refine (dat0 V c).arrAt_eq_of_covers 3 _ (by decide +kernel) fun t hf y => ?_
  blk_simp
  rw [after0_3]; frame_out
  pointwise [k0_pay1, part0]
  blk_point [iblk0, idx0 t]

/-- The second region leaves the kept rows of the partial result plus the second half of the product. -/
theorem final1 (c : Dev nD) : (dat1 V c).arrAt 3 cfg1.N = part1 (V c main_arg0) (V c main_v0) (V c main_v1) := by
  refine (dat1 V c).arrAt_eq_of_covers 3 _ (by decide +kernel) fun t hf y => ?_
  blk_simp
  rw [after1_3]; frame_out
  pointwise [k1_pay1, part1, srcRow]
  obtain ⟨e0, -, e2, -⟩ := idx1 t
  blk_point [iblk1, idx1 t]
  · rw [emb1_2, e2]
    show t.val / 8 * 4224 + 128 + t.val % 8 * 512 + (y 0).val = _
    omega
  · rw [emb1_2, e2]
    exact Nat.zero_add _
  · rw [emb1_0, e0]
    show t.val / 8 * 4224 + 128 + t.val % 8 * 512 + (y 0).val = _
    omega
  · rw [emb1_0, e0]
    rfl
end

variable (m : (ℓ : Loc nD τ sig) → Buf (Elt Ideal) ℓ) (ρ : Dev nD → PrngReg)

/-- The result as one function of the arguments. -/
def result (act : FVec Ideal S16896x5632 .bf16) (w : FVec Ideal S4x5632x2048 .f32) (h : FVec Ideal S16896x2048 .f32) :
    FVec Ideal S16384x2048 .f32 :=
  part1 act w (part0 act w h)

/-- The weights the first region is entered with are the argument's, cast. -/
theorem entry_w (c : Dev nD) : V1 m ρ c main_v0 = (m ((c : Thread nD τ).loc main_arg1) : FVec Ideal S4x5632x2048 .f32) := by
  show StableHlo.after hostOps0 (W0 m ρ c) (Proc.devRef .tc main_v0) = _
  after_results <;> rfl

/-- What the two regions leave in the result array. -/
theorem final (c : Dev nD) : W3 m ρ c (Proc.devRef .tc main_v2)
    = result (m ((c : Thread nD τ).loc main_arg0)) (m ((c : Thread nD τ).loc main_arg1)) (m ((c : Thread nD τ).loc main_arg2)) := by
  refine (W3_arr m ρ c 3).trans ((final1 (V2 m ρ) c).trans ?_)
  have e1 : V2 m ρ c main_v1 = part0 (V1 m ρ c main_arg0) (V1 m ρ c main_v0) (V1 m ρ c main_arg2) :=
    (W2_arr m ρ c 3).trans (final0 (V1 m ρ) c)
  have e0 : V2 m ρ c main_arg0 = m ((c : Thread nD τ).loc main_arg0) := W2_args m ρ c main_arg0 (by decide)
  have ew : V2 m ρ c main_v0 = V1 m ρ c main_v0 := W2_of m ρ c main_v0 (by decide)
  have f0 : V1 m ρ c main_arg0 = m ((c : Thread nD τ).loc main_arg0) := W1_args m ρ c main_arg0 (by decide)
  have f2 : V1 m ρ c main_arg2 = m ((c : Thread nD τ).loc main_arg2) := W1_args m ρ c main_arg2 (by decide)
  rw [e1, e0, ew, f0, f2, entry_w]
  rfl

end Cert.DownKernelIdeal.Value

end
-- ==== Proof.Down.Claim.lean ====
module

public import proofs.«01_k».proof.Proof.Down.Value
public import proofs.«01_k».proof.Proof.Gen.DownReferenceIdeal.Run
public import proofs.«01_k».proof.Defs

/-! The down projection's claim: the two regions' run at its value, and the comparison with the reference. -/

set_option maxRecDepth 16384

@[expose] public section

noncomputable section

namespace Cert.DownKernelIdeal.Value

open Cert.DownKernelIdeal Cert.DownKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

local notation "𝕄" => MT nD τ sig Unit (Elt Ideal) ℕ (UR sig nD τ) ℕ

set_option backward.isDefEq.respectTransparency.types false in
/-- Every run ends with the result array at `result` of the arguments, the arguments unchanged. -/
theorem run : θ_run defs (onTc (τ := τ) (main (F := Ideal))) ⟨m, fun _ => 0, ρ⟩ (fun r => ∀ c : Dev nD,
      r.2.mem ((c.tc : Thread nD τ).loc main_v2)
        = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v2 (by decide))).trans (final m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)

end Cert.DownKernelIdeal.Value

namespace Cert.DownReferenceIdeal.Pure

open Cert.DownReferenceIdeal Cert.DownReferenceIdeal.Gen
open Idealize.ShloMosaic Idealize.ShloMosaic.TcCoe Idealize.SL.Sem

/-- The reference's result over its arguments. -/
def REF (act : FVec Ideal S16896x5632 .bf16) (w : FVec Ideal S4x5632x2048 .f32) (h : FVec Ideal S16896x2048 .f32) :
    FVec Ideal S16384x2048 .f32 :=
  shapeCast _ (extractStridedSlice S4x4096x2048 ![0, 128, 0] (addf (shapeCast _ h shapeCasts_S16896x2048_S4x4224x2048) (shapeCast _ (Host.dotGeneral dot_S16896x5632_S5632x2048_S16896x2048_1_0_0_1_n_n none (extf .f32 act bitsLt_bf16_f32) (shapeCast _ (extractStridedSlice S1x5632x2048 ![3, 0, 0] w slices_S4x5632x2048_S1x5632x2048_3_0_0) shapeCasts_S1x5632x2048_S5632x2048)) shapeCasts_S16896x2048_S4x4224x2048)) slices_S4x4224x2048_S4x4096x2048_0_128_0) shapeCasts_S4x4096x2048_S16384x2048

/-- Adding the product half by half is adding the whole product. -/
theorem result_eq (act : FVec Ideal S16896x5632 .bf16) (w : FVec Ideal S4x5632x2048 .f32) (h : FVec Ideal S16896x2048 .f32) :
    Cert.DownKernelIdeal.Value.result act w h = REF act w h := by
  funext i
  idx_vars i
  pointwise [Cert.DownKernelIdeal.Value.result, Cert.DownKernelIdeal.Value.part0, Cert.DownKernelIdeal.Value.part1, Cert.DownKernelIdeal.Value.srcRow, REF]
  have hr : i0.val / 4096 * 4224 + (128 + i0.val % 4096) = i0.val / 4096 * 4224 + 128 + i0.val % 4096 := by omega
  simp only [hr]
  rw [add_assoc]
  refine congrArg _ ?_
  exact (Fin.sum_univ_add (a := 2816) (b := 2816) fun k : Fin 5632 =>
    act (ix2 (⟨i0.val / 4096 * 4224 + 128 + i0.val % 4096, by omega⟩ : Fin 16896) k) * w (ix3 (3 : Fin 4) k i1)).symm

end Cert.DownReferenceIdeal.Pure

namespace Cert.Proof

open Idealize.ShloMosaic Idealize.ShloMosaic.TcCoe Idealize.SL.Sem

/-- The down projection's kernel and reference end with equal results. -/
theorem algebraic_Down : Cert.algebraic_DownKernelIdeal_DownReferenceIdeal := by
  pair_intro
  · run_from Cert.DownKernelIdeal.Value.run m g
  · run_from Cert.DownReferenceIdeal.Value.run m' g'
    exact (Cert.DownReferenceIdeal.Pure.result_eq _ _ _).symm

end Cert.Proof

end
-- ==== Proof.Embed.Value.lean ====
module

public import proofs.«01_k».proof.Proof.Gen.EmbedKernelIdeal.Frame
public import proofs.«01_k».proof.Proof.Gen.EmbedKernelIdeal.Value
public import proofs.«01_k».proof.Proof.Gen.EmbedReferenceIdeal.Run
public import proofs.«01_k».proof.Defs
public import Idealize.ShloMosaic.Lib.Pipeline.ValueKit
public import Idealize.ShloMosaic.Lib.Pointwise
public import Idealize.ShloMosaic.Lib.KernelVsHost
public import Idealize.ShloMosaic.Lib.Claim

/-! The padded stream of meta and input rows and its unit-RMS normalisation, read at element offsets of the input. -/

set_option maxRecDepth 16384

@[expose] public section

noncomputable section

namespace Cert.EmbedReferenceIdeal.Pure

open Cert.EmbedReferenceIdeal Cert.EmbedReferenceIdeal.Gen
open Idealize.ShloMosaic Idealize.ShloMosaic.TcCoe Idealize.SL.Sem

/-- The meta rows in front of each batch's input rows. -/
def REFc (x : FVec Ideal S4x4096x2048 .f32) (mt : FVec Ideal S16x2048 .f32) : FVec Ideal S4x4112x2048 .f32 :=
  (concatenate S4x4112x2048 1 [⟨S4x16x2048, (broadcastInDim S4x16x2048 ![0, 1, 2] bcast_S1x16x2048_S4x16x2048_0_1_2 (broadcastInDim S1x16x2048 ![1, 2] bcast_S16x2048_S1x16x2048_1_2 mt))⟩, ⟨S4x4096x2048, x⟩] concatenates_S4x16x2048_S4x4096x2048_S4x4112x2048_d1)

/-- Those rows over their root mean square. -/
def REFn (x : FVec Ideal S4x4096x2048 .f32) (mt : FVec Ideal S16x2048 .f32) : FVec Ideal S4x4112x2048 .f32 :=
  (mulf (REFc x mt) (broadcastInDim S4x4112x2048 ![0, 1, 2] bcast_S4x4112x1_S4x4112x2048_0_1_2 (Host.rsqrt (addf (Host.divf (broadcastInDim S4x4112x1 ![0, 1] bcast_S4x4112_S4x4112x1_0_1 (Host.reduceAdd (mulf (REFc x mt) (REFc x mt)) (constant S_ .f32 0x00000000#32) reducesTo_S4x4112x2048_S4x4112_d2 h_S_)) (broadcastInDim S4x4112x1 ![] bcast_S_S4x4112x1 (constant S_ .f32 0x45000000#32))) (broadcastInDim S4x4112x1 ![] bcast_S_S4x4112x1 (constant S_ .f32 0x358637BD#32))))))

/-- The reference's stream: the rows behind the zero rows, flat. -/
def REFh (x : FVec Ideal S4x4096x2048 .f32) (mt : FVec Ideal S16x2048 .f32) : FVec Ideal S16896x2048 .f32 :=
  shapeCast _ (pad S4x4224x2048 ![0, 112, 0] ![0, 0, 0] ![0, 0, 0] (REFc x mt) (sitofp .f32 (constantI S_ 32 0#32)) pads_S4x4112x2048_S4x4224x2048_000_11200_000 h_S_) shapeCasts_S4x4224x2048_S16896x2048

/-- The reference's normalised stream, flat. -/
def REFx (x : FVec Ideal S4x4096x2048 .f32) (mt : FVec Ideal S16x2048 .f32) : FVec Ideal S16896x2048 .bf16 :=
  truncf .bf16 (shapeCast _ (pad S4x4224x2048 ![0, 112, 0] ![0, 0, 0] ![0, 0, 0] (REFn x mt) (sitofp .f32 (constantI S_ 32 0#32)) pads_S4x4112x2048_S4x4224x2048_000_11200_000 h_S_) shapeCasts_S4x4224x2048_S16896x2048) bitsLt_bf16_f32

end Cert.EmbedReferenceIdeal.Pure

namespace Cert.EmbedKernelIdeal.Value

open Cert.EmbedKernelIdeal Cert.EmbedKernelIdeal.Gen Cert.EmbedReferenceIdeal.Pure
open Idealize.ShloMosaic Idealize.ShloMosaic.TcCoe Idealize.SL.Sem
open Idealize.ShloMosaic.Pipeline (Dat)

variable (m : (ℓ : Loc nD τ sig) → Buf (Elt Ideal) ℓ)

/-- The index maps at every point: the input starts at an element offset, the results move with the point. -/
theorem idx : ∀ t : Fin cfg0.N, win0_0.index t = ![t.val / 11, t.val % 11 * 384 - 128, 0] ∧ win0_1.index t = ![0, 0]
    ∧ win0_2.index t = ![t.val, 0] ∧ win0_3.index t = ![t.val, 0] :=
  (by decide +kernel : ∀ t : Fin grid0.N, _)

/-- The input operand's batch at coordinates. -/
theorem emb_0 (t : Fin cfg0.N) (Y : S1x384x2048.Idx) :
    (((View.whole main_arg0).slice (win0_0.rect t)).emb Y 0).val = t.val / 11 := by
  obtain ⟨e, -⟩ := idx t
  have h : (((View.whole main_arg0).slice (win0_0.rect t)).emb Y 0).val = win0_0.index t 0 + 1 * (Y 0).val := rfl
  rw [h, e]
  show t.val / 11 + 1 * (Y 0).val = _
  have : (Y 0).val < 1 := (Y 0).isLt
  omega

/-- The input operand's row at coordinates: the element offset plus the row in the block. -/
theorem emb_1 (t : Fin cfg0.N) (Y : S1x384x2048.Idx) :
    (((View.whole main_arg0).slice (win0_0.rect t)).emb Y 1).val = t.val % 11 * 384 - 128 + (Y 1).val := by
  obtain ⟨e, -⟩ := idx t
  have h : (((View.whole main_arg0).slice (win0_0.rect t)).emb Y 1).val = win0_0.index t 1 + 1 * (Y 1).val := rfl
  rw [h, e]
  show t.val % 11 * 384 - 128 + 1 * (Y 1).val = _
  omega

/-- The input operand's column at coordinates. -/
theorem emb_2 (t : Fin cfg0.N) (Y : S1x384x2048.Idx) :
    (((View.whole main_arg0).slice (win0_0.rect t)).emb Y 2).val = (Y 2).val := by
  obtain ⟨e, -⟩ := idx t
  have h : (((View.whole main_arg0).slice (win0_0.rect t)).emb Y 2).val = win0_0.index t 2 + 1 * (Y 2).val := rfl
  rw [h, e]
  show 0 + 1 * (Y 2).val = _
  omega

/-- The stream the kernel leaves is the reference's. -/
theorem final_h (c : Dev nD) : (dats m 0 c).arrAt 2 cfg0.N
    = REFh (m ((c : Thread nD τ).loc main_arg0)) (m ((c : Thread nD τ).loc main_arg1)) := by
  refine (dats m 0 c).arrAt_eq_of_covers 2 _ (by decide +kernel) fun t hf y => ?_
  have ht : t.val < 44 := lt_of_lt_of_eq t.isLt (by decide)
  blk_simp
  rw [after0_2]
  generalize hj : (((View.whole main_v0_0).slice (win0_2.rect t)).emb y : S16896x2048.Idx) = j
  have hj0 : (j 0 : ℕ) = t.val * 384 + y 0 := by rw [← hj]; blk_simp [idx t]
  have hj1 : (j 1 : ℕ) = y 1 := by rw [← hj]; blk_simp [idx t]
  have hy : (y 0 : ℕ) < 384 := (y 0).isLt
  clear hj
  obtain ⟨z, hz⟩ : ∃ z : S384x2048.Idx, z = y := ⟨y, rfl⟩
  subst hz
  by_cases h0 : t.val % 11 = 0
  · rw [outsAt0_A m c t h0 (by omega)]; frame_out
    canon_tiles q h using (View.cover_of_tiledBy _ ![16, 2048] (by sl_kernel_rfl) z)
    all_goals (pointwise [k0_pay3, k0_pay4, REFh, REFc])
    · rw [dif_pos ⟨by omega, by omega, by omega⟩]
      simp only [dif_neg (show ¬ (j 0 : ℕ) % 4224 - 112 < 16 by omega)]
      blk_point [iblk, V, idx t]
      all_goals first
          | (rw [emb_0]; omega)
          | (rw [emb_1]; change t.val % 11 * 384 - 128 + (q 0).val = _; omega)
          | (rw [emb_2]; first | rfl | (change (q 1).val = _; omega))
    · have hq : (q 0 : ℕ) < 16 := (q 0).isLt
      rw [dif_pos ⟨by omega, by omega, by omega⟩]
      simp only [dif_pos (show (j 0 : ℕ) % 4224 - 112 < 16 by omega)]
      blk_point [iblk, V, idx t]
    · rw [dif_neg (by omega)]
      exact sitofp_zero.symm
  · rw [outsAt0_B m c t h0 (by omega)]; frame_out
    pointwise [k0_pay1, REFh, REFc]
    rw [dif_pos ⟨by omega, by omega, by omega⟩]
    simp only [dif_neg (show ¬ (j 0 : ℕ) % 4224 - 112 < 16 by omega)]
    blk_point [iblk, V, idx t]
    all_goals first
          | (rw [emb_0]; omega)
          | (rw [emb_1]; change t.val % 11 * 384 - 128 + (z 0).val = _; omega)
          | (rw [emb_2]; first | rfl | (change (z 1).val = _; omega))

/-- The normalised stream the kernel leaves is the reference's. -/
theorem final_x (c : Dev nD) : (dats m 0 c).arrAt 3 cfg0.N
    = REFx (m ((c : Thread nD τ).loc main_arg0)) (m ((c : Thread nD τ).loc main_arg1)) := by
  refine (dats m 0 c).arrAt_eq_of_covers 3 _ (by decide +kernel) fun t hf y => ?_
  have ht : t.val < 44 := lt_of_lt_of_eq t.isLt (by decide)
  blk_simp
  rw [after0_3]
  generalize hj : (((View.whole main_v0_1).slice (win0_3.rect t)).emb y : S16896x2048.Idx) = j
  have hj0 : (j 0 : ℕ) = t.val * 384 + y 0 := by rw [← hj]; blk_simp [idx t]
  have hj1 : (j 1 : ℕ) = y 1 := by rw [← hj]; blk_simp [idx t]
  have hy : (y 0 : ℕ) < 384 := (y 0).isLt
  clear hj
  obtain ⟨z, hz⟩ : ∃ z : S384x2048.Idx, z = y := ⟨y, rfl⟩
  subst hz
  by_cases h0 : t.val % 11 = 0
  · rw [outsAt0_A m c t h0 (by omega)]; frame_out
    canon_tiles q h using (View.cover_of_tiledBy _ ![16, 2048] (by sl_kernel_rfl) z)
    all_goals (pointwise [k0_pay5, k0_pay6, k0_pay7, k0_pay3, REFx, REFn, REFc])
    · rw [dif_pos ⟨by omega, by omega, by omega⟩]
      simp only [dif_neg (show ¬ (j 0 : ℕ) % 4224 - 112 < 16 by omega)]
      blk_point [iblk, V, idx t]
      all_goals first
          | (rw [emb_0]; omega)
          | (rw [emb_1]; change t.val % 11 * 384 - 128 + (q 0).val = _; omega)
          | (rw [emb_2]; first | rfl | (change (q 1).val = _; omega))
    · have hq : (q 0 : ℕ) < 16 := (q 0).isLt
      rw [dif_pos ⟨by omega, by omega, by omega⟩]
      simp only [dif_pos (show (j 0 : ℕ) % 4224 - 112 < 16 by omega)]
      blk_point [iblk, V, idx t]
    · rw [dif_neg (by omega)]
      exact sitofp_zero.symm
  · rw [outsAt0_B m c t h0 (by omega)]; frame_out
    pointwise [k0_pay2, k0_pay1, REFx, REFn, REFc]
    rw [dif_pos ⟨by omega, by omega, by omega⟩]
    simp only [dif_neg (show ¬ (j 0 : ℕ) % 4224 - 112 < 16 by omega)]
    blk_point [iblk, V, idx t]
    all_goals first
          | (rw [emb_0]; omega)
          | (rw [emb_1]; change t.val % 11 * 384 - 128 + (z 0).val = _; omega)
          | (rw [emb_2]; first | rfl | (change (z 1).val = _; omega))

end Cert.EmbedKernelIdeal.Value

namespace Cert.Proof

open Idealize.ShloMosaic Idealize.ShloMosaic.TcCoe Idealize.SL.Sem

/-- The embedding's kernel and reference end with equal results. -/
theorem algebraic_Embed : Cert.algebraic_EmbedKernelIdeal_EmbedReferenceIdeal := by
  pair_intro
  · run_from Cert.EmbedKernelIdeal.Value.run_blocks m g
  · run_from Cert.EmbedReferenceIdeal.Value.run m' g'
    · exact (Cert.EmbedKernelIdeal.Value.final_h m c).symm
    · exact (Cert.EmbedKernelIdeal.Value.final_x m c).symm

end Cert.Proof

end
-- ==== Proof.Up.Value.lean ====
module

public import proofs.«01_k».proof.Proof.Gen.UpKernelIdeal.Frame
public import proofs.«01_k».proof.Proof.Gen.UpKernelIdeal.Value
public import proofs.«01_k».proof.Proof.Gen.UpReferenceIdeal.Run
public import proofs.«01_k».proof.Defs
public import Idealize.ShloMosaic.Lib.Pipeline.ValueKit
public import Idealize.ShloMosaic.Lib.Pipeline.ValueKit.Held
public import Idealize.ShloMosaic.Lib.Pipeline.ReadBack
public import Idealize.ShloMosaic.Lib.VecWindow
public import Idealize.ShloMosaic.Lib.Pointwise
public import Idealize.ShloMosaic.Lib.Claim

/-! The gated up projection: gain times weights kept in scratch along a column tile, then one product per row tile. -/

set_option maxRecDepth 16384

@[expose] public section

noncomputable section

namespace Cert.UpReferenceIdeal.Pure

open Cert.UpReferenceIdeal Cert.UpReferenceIdeal.Gen
open Idealize.ShloMosaic Idealize.ShloMosaic.TcCoe Idealize.SL.Sem

/-- The reference's projection of the scaled rows, gate and up halves side by side. -/
def REFz (x : FVec Ideal S16896x2048 .bf16) (g : FVec Ideal S4x2048 .f32) (w : FVec Ideal S4x2048x11264 .f32) :
    FVec Ideal S16896x11264 .f32 :=
  (Host.dotGeneral dot_S16896x2048_S2048x11264_S16896x11264_1_0_0_1_n_n none (mulf (extf .f32 x bitsLt_bf16_f32) (broadcastInDim S16896x2048 ![0, 1] bcast_S1x2048_S16896x2048_0_1 (broadcastInDim S1x2048 ![1] bcast_S2048_S1x2048_1 (shapeCast _ (extractStridedSlice S1x2048 ![3, 0] g slices_S4x2048_S1x2048_3_0) shapeCasts_S1x2048_S2048)))) (shapeCast _ (extractStridedSlice S1x2048x11264 ![3, 0, 0] w slices_S4x2048x11264_S1x2048x11264_3_0_0) shapeCasts_S1x2048x11264_S2048x11264))

/-- The reference's result: the gate through `silu`, times the up half. -/
def REF (x : FVec Ideal S16896x2048 .bf16) (g : FVec Ideal S4x2048 .f32) (w : FVec Ideal S4x2048x11264 .f32) :
    FVec Ideal S16896x5632 .bf16 :=
  truncf .bf16 (mulf (mulf (extractStridedSlice S16896x5632 ![0, 0] (REFz x g w) slices_S16896x11264_S16896x5632_0_0) (Host.divf (broadcastInDim S16896x5632 ![] bcast_S_S16896x5632 (constant S_ .f32 0x3F800000#32)) (addf (broadcastInDim S16896x5632 ![] bcast_S_S16896x5632 (constant S_ .f32 0x3F800000#32)) (Host.exp (Host.negf (extractStridedSlice S16896x5632 ![0, 0] (REFz x g w) slices_S16896x11264_S16896x5632_0_0)))))) (extractStridedSlice S16896x5632 ![0, 5632] (REFz x g w) slices_S16896x11264_S16896x5632_0_5632)) bitsLt_bf16_f32

end Cert.UpReferenceIdeal.Pure

namespace Cert.UpKernelIdeal.Value

open Cert.UpKernelIdeal Cert.UpKernelIdeal.Gen Cert.UpReferenceIdeal.Pure
open Idealize.ShloMosaic Idealize.ShloMosaic.TcCoe Idealize.SL.Sem
open Idealize.ShloMosaic.Pipeline (Dat)

variable (m : (ℓ : Loc nD τ sig) → Buf (Elt Ideal) ℓ)

/-- The index maps at every point: eight row tiles under each of eleven column tiles. -/
theorem idx : ∀ t : Fin cfg0.N, win0_0.index t = ![t.val % 8, 0] ∧ win0_1.index t = ![0, 0]
    ∧ win0_2.index t = ![3, 0, t.val / 8] ∧ win0_3.index t = ![3, 0, t.val / 8 + 11]
    ∧ win0_4.index t = ![t.val % 8, t.val / 8] :=
  (by decide +kernel : ∀ t : Fin grid0.N, _)

/-- An entry of the weights times an entry of the gains. -/
def scaled (W : FVec Ideal S4x2048x11264 .f32) (G : FVec Ideal S4x2048 .f32) (p : S4x2048x11264.Idx) (r : S4x2048.Idx) : EReal := W p * G r

/-- What the first point of a column tile writes to scratch: the tile's weights times the gain. -/
theorem scr_first (c : Dev nD) (t : Fin cfg0.N) (h0 : t.val % 8 = 0) (i : S2048x1024.Idx) (p : S4x2048x11264.Idx) (r : S4x2048.Idx)
    (hp0 : (p 0 : ℕ) = 3) (hp1 : (p 1 : ℕ) = i 0)
    (hp2 : (p 2 : ℕ) = 5632 * ((i 1 : ℕ) / 256 % 2) + 512 * (t.val / 8) + 256 * ((i 1 : ℕ) / 512) + (i 1 : ℕ) % 256)
    (hr0 : (r 0 : ℕ) = 3) (hr1 : (r 1 : ℕ) = i 0) :
    (outsAt0 m c t.val t.isLt).2 i
      = scaled (m ((c : Thread nD τ).loc main_arg2)) (m ((c : Thread nD τ).loc main_arg1)) p r := by
  rw [outsAt0_A m c t h0]; frame_out
  canon_tiles x h
  all_goals (pointwise [k0_pay3, k0_pay4, k0_pay5, k0_pay6, k0_pay2, scaled])
  all_goals (blk_point [iblk, V, idx t])

/-- So at every point the scratch holds its column tile's weights times the gain. -/
theorem scr (c : Dev nD) (t : Fin cfg0.N) (i : S2048x1024.Idx) (p : S4x2048x11264.Idx) (r : S4x2048.Idx)
    (hp0 : (p 0 : ℕ) = 3) (hp1 : (p 1 : ℕ) = i 0)
    (hp2 : (p 2 : ℕ) = 5632 * ((i 1 : ℕ) / 256 % 2) + 512 * (t.val / 8) + 256 * ((i 1 : ℕ) / 512) + (i 1 : ℕ) % 256)
    (hr0 : (r 0 : ℕ) = 3) (hr1 : (r 1 : ℕ) = i 0) :
    (outsAt0 m c t.val t.isLt).2 i
      = scaled (m ((c : Thread nD τ).loc main_arg2)) (m ((c : Thread nD τ).loc main_arg1)) p r := by
  rw [Pipeline.eq_of_write_hold_apply (fun n h => (outsAt0 m c n h).2) 8 (fun t => (outsAt0 m c t.val t.isLt).2)
    (fun _ _ _ => rfl) (fun t h i => by rw [outsAt0_B m c t h]; rfl) t i]
  exact scr_first m c _ (Nat.mul_mod_right 8 _) i p r hp0 hp1 (by rw [hp2]; show _ = _ + 512 * (8 * (t.val / 8) / 8) + _ + _; omega) hr0 hr1

/-- Three factors, the last two exchanged and regrouped. -/
theorem mul_swap (a b d : EReal) : a * (b * d) = a * d * b := by rw [mul_comm b d, mul_assoc]

/-- The product of a row tile and the scratch, where the scratch holds the tile's scaled weights, is the reference's block. -/
theorem core (c : Dev nD) (t : Fin cfg0.N) (S : FVec Ideal S2048x1024 .bf16)
    (hS : ∀ (i : S2048x1024.Idx) (p : S4x2048x11264.Idx) (r : S4x2048.Idx), (p 0 : ℕ) = 3 → (p 1 : ℕ) = i 0 →
      (p 2 : ℕ) = 5632 * ((i 1 : ℕ) / 256 % 2) + 512 * (t.val / 8) + 256 * ((i 1 : ℕ) / 512) + (i 1 : ℕ) % 256 →
      (r 0 : ℕ) = 3 → (r 1 : ℕ) = i 0 → S i = scaled (m ((c : Thread nD τ).loc main_arg2)) (m ((c : Thread nD τ).loc main_arg1)) p r)
    (y : S2112x512.Idx) (j : S16896x5632.Idx) (hj0 : (j 0 : ℕ) = t.val % 8 * 2112 + y 0) (hj1 : (j 1 : ℕ) = t.val / 8 * 512 + y 1) :
    k0_pay1 (F := Ideal) (iblk m c 0 t) S y
      = REF (m ((c : Thread nD τ).loc main_arg0)) (m ((c : Thread nD τ).loc main_arg1)) (m ((c : Thread nD τ).loc main_arg2)) j := by
  have hy := (y 1).isLt
  change (y 1 : ℕ) < 512 at hy
  have half : ∀ (u : ℕ) (hu : u < 1024) (v : ℕ) (hv : v < 11264),
      v = 5632 * (u / 256 % 2) + 512 * (t.val / 8) + 256 * (u / 512) + u % 256 →
      (∑ k : Fin 2048, (show FVec Ideal S2112x2048 .bf16 from iblk m c 0 t) (ix2 (y 0) k) * S (ix2 k ⟨u, hu⟩))
        = ∑ k : Fin 2048, (show FVec Ideal S16896x2048 .bf16 from m ((c : Thread nD τ).loc main_arg0)) (ix2 (j 0) k)
            * (show FVec Ideal S4x2048 .f32 from m ((c : Thread nD τ).loc main_arg1)) (ix2 3 k)
            * (show FVec Ideal S4x2048x11264 .f32 from m ((c : Thread nD τ).loc main_arg2)) (ix3 3 k ⟨v, hv⟩) := by
    intro u hu v hv e
    refine Finset.sum_congr rfl fun k _ => ?_
    rw [hS (ix2 k ⟨u, hu⟩) (ix3 3 k ⟨v, hv⟩) (ix2 3 k) rfl rfl e rfl rfl]
    refine (mul_swap _ _ _).trans ?_
    blk_point [iblk, V, idx t]
  pointwise [k0_pay1, REF, REFz]
  unfold Ideal.logistic
  split
  · exact congrArg₂ (fun a b : EReal => a * Ideal.div 1 (1 + Ideal.exp (-a)) * b)
      (half (y 1) (by omega) _ (by have := (j 1).isLt; change (j 1 : ℕ) < 5632 at this; omega) (by omega)) (half (256 + y 1) (by omega) _ (by have := (j 1).isLt; change (j 1 : ℕ) < 5632 at this; omega) (by omega))
  · exact congrArg₂ (fun a b : EReal => a * Ideal.div 1 (1 + Ideal.exp (-a)) * b)
      (half (512 + (y 1 - 256)) (by omega) _ (by have := (j 1).isLt; change (j 1 : ℕ) < 5632 at this; omega) (by omega)) (half (768 + (y 1 - 256)) (by omega) _ (by have := (j 1).isLt; change (j 1 : ℕ) < 5632 at this; omega) (by omega))

/-- The kernel's result is the reference's. -/
theorem final (c : Dev nD) : (dats m 0 c).arrAt 4 cfg0.N
    = REF (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  by_cases h0 : t.val % 8 = 0
  · rw [outsAt0_A m c t h0]; frame_out
    refine core m c t _ (fun i p r hp0 hp1 hp2 hr0 hr1 => ?_) y _ (by blk_simp [idx t]) (by blk_simp [idx t])
    refine Eq.trans ?_ (scr_first m c t h0 i p r hp0 hp1 hp2 hr0 hr1)
    rw [View.readCov_eq_canon', outsAt0_A m c t h0]; frame_out
    exact congrArg _ (Rect.emb_unit_full _ _)
  · have hs := scr m c t
    rw [outsAt0_B m c t h0] at hs ⊢
    frame_out
    rw [read_unread_whole]
    refine core m c t _ (fun i p r hp0 hp1 hp2 hr0 hr1 => ?_) y _ (by blk_simp [idx t]) (by blk_simp [idx t])
    exact (rfl : _ = _).trans (hs i p r hp0 hp1 hp2 hr0 hr1)

end Cert.UpKernelIdeal.Value

namespace Cert.Proof

open Idealize.ShloMosaic Idealize.ShloMosaic.TcCoe Idealize.SL.Sem

/-- The up projection's kernel and reference end with equal results. -/
theorem algebraic_Up : Cert.algebraic_UpKernelIdeal_UpReferenceIdeal := by
  pair_intro
  · run_from Cert.UpKernelIdeal.Value.run_blocks m g
  · run_from Cert.UpReferenceIdeal.Value.run m' g'
    exact (Cert.UpKernelIdeal.Value.final m c).symm

end Cert.Proof

end
-- ==== Proof.ConvOut.Value.lean ====
module

public import proofs.«01_k».proof.Proof.Gen.ConvOutKernelIdeal.Frame
public import proofs.«01_k».proof.Proof.Gen.ConvOutKernelIdeal.Value
public import proofs.«01_k».proof.Proof.Gen.ConvOutReferenceIdeal.Run
public import proofs.«01_k».proof.Defs
public import Idealize.ShloMosaic.Lib.Pipeline.ValueKit
public import Idealize.ShloMosaic.Lib.Pointwise
public import Idealize.ShloMosaic.Lib.Claim

/-! The output projection of the short convolution: the residual stream and its unit-RMS normalisation, row block by row block. -/

set_option maxRecDepth 16384

@[expose] public section

noncomputable section

namespace Cert.ConvOutReferenceIdeal.Pure

open Cert.ConvOutReferenceIdeal Cert.ConvOutReferenceIdeal.Gen
open Idealize.ShloMosaic Idealize.ShloMosaic.TcCoe Idealize.SL.Sem

/-- The reference's residual stream over its arguments. -/
def REFh (act : FVec Ideal S16896x2048 .bf16) (w : FVec Ideal S2x2048x2048 .f32) (h : FVec Ideal S16896x2048 .f32) :
    FVec Ideal S16896x2048 .f32 :=
  addf h (Host.dotGeneral dot_S16896x2048_S2048x2048_S16896x2048_1_0_0_1_n_n none (extf .f32 act bitsLt_bf16_f32) (shapeCast _ (extractStridedSlice S1x2048x2048 ![0, 0, 0] w slices_S2x2048x2048_S1x2048x2048_0_0_0) shapeCasts_S1x2048x2048_S2048x2048))

/-- The reference's normalised stream over its arguments. -/
def REFx (act : FVec Ideal S16896x2048 .bf16) (w : FVec Ideal S2x2048x2048 .f32) (h : FVec Ideal S16896x2048 .f32) :
    FVec Ideal S16896x2048 .bf16 :=
  truncf .bf16 (mulf (REFh act w h) (broadcastInDim S16896x2048 ![0, 1] bcast_S16896x1_S16896x2048_0_1 (Host.rsqrt (addf (Host.divf (broadcastInDim S16896x1 ![0] bcast_S16896_S16896x1_0 (Host.reduceAdd (mulf (REFh act w h) (REFh act w h)) (constant S_ .f32 0x00000000#32) reducesTo_S16896x2048_S16896_d1 h_S_)) (broadcastInDim S16896x1 ![] bcast_S_S16896x1 (constant S_ .f32 0x45000000#32))) (broadcastInDim S16896x1 ![] bcast_S_S16896x1 (constant S_ .f32 0x358637BD#32)))))) bitsLt_bf16_f32

end Cert.ConvOutReferenceIdeal.Pure

namespace Cert.ConvOutKernelIdeal.Value

open Cert.ConvOutKernelIdeal Cert.ConvOutKernelIdeal.Gen Cert.ConvOutReferenceIdeal.Pure
open Idealize.ShloMosaic Idealize.ShloMosaic.TcCoe Idealize.SL.Sem
open Idealize.ShloMosaic.Pipeline (Dat)

variable (m : (ℓ : Loc nD τ sig) → Buf (Elt Ideal) ℓ)

/-- The index maps at every point: the rows move with the point, the weights stay. -/
theorem idx : ∀ t : Fin cfg0.N, win0_0.index t = ![t.val, 0] ∧ win0_1.index t = ![0, 0, 0]
    ∧ win0_2.index t = ![t.val, 0] ∧ win0_3.index t = ![t.val, 0] ∧ win0_4.index t = ![t.val, 0] :=
  (by decide +kernel : ∀ t : Fin grid0.N, _)

/-- The residual stream the kernel leaves is the reference's. -/
theorem final_h (c : Dev nD) : (dats m 0 c).arrAt 3 cfg0.N
    = REFh (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]; frame_out
  pointwise [k0_pay1, REFh]
  blk_point [iblk, V, idx t]

/-- The normalised stream the kernel leaves is the reference's. -/
theorem final_x (c : Dev nD) : (dats m 0 c).arrAt 4 cfg0.N
    = REFx (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]; frame_out
  pointwise [k0_pay2, k0_pay1, REFx, REFh]
  blk_point [iblk, V, idx t]

end Cert.ConvOutKernelIdeal.Value

namespace Cert.Proof

open Idealize.ShloMosaic Idealize.ShloMosaic.TcCoe Idealize.SL.Sem

/-- The output projection's kernel and reference end with equal results. -/
theorem algebraic_ConvOut : Cert.algebraic_ConvOutKernelIdeal_ConvOutReferenceIdeal := by
  pair_intro
  · run_from Cert.ConvOutKernelIdeal.Value.run_blocks m g
  · run_from Cert.ConvOutReferenceIdeal.Value.run m' g'
    · exact (Cert.ConvOutKernelIdeal.Value.final_h m c).symm
    · exact (Cert.ConvOutKernelIdeal.Value.final_x m c).symm

end Cert.Proof

end
-- ==== Proof.ConvIn.Value.lean ====
module

public import proofs.«01_k».proof.Proof.Gen.ConvInKernelIdeal.Frame
public import proofs.«01_k».proof.Proof.Gen.ConvInKernelIdeal.Value
public import proofs.«01_k».proof.Proof.Gen.ConvInReferenceIdeal.Run
public import proofs.«01_k».proof.Defs
public import Idealize.ShloMosaic.Lib.Pipeline.ValueKit
public import Idealize.ShloMosaic.Lib.Pipeline.ValueKit.Held
public import Idealize.ShloMosaic.Lib.Pipeline.ReadBack
public import Idealize.ShloMosaic.Lib.VecWindow
public import Idealize.ShloMosaic.Lib.Pointwise
public import Idealize.ShloMosaic.Lib.KernelVsHost
public import Idealize.ShloMosaic.Lib.Claim

/-! The short convolution's input call: one projection into three streams against scaled weights kept in scratch, then a
    causal filter along the rows, the last rows of a tile kept in scratch for the next. -/

set_option maxRecDepth 16384

@[expose] public section

noncomputable section

namespace Cert.ConvInReferenceIdeal.Pure

open Cert.ConvInReferenceIdeal Cert.ConvInReferenceIdeal.Gen
open Idealize.ShloMosaic Idealize.ShloMosaic.TcCoe Idealize.SL.Sem

/-- An entry of the padded stream of rows: zero in the padding before each batch. -/
def xrow (x : FVec Ideal S4x4112x2048 .bf16) (r : ℕ) (k : Fin 2048) : EReal :=
  if h : 112 ≤ r % 4224 ∧ r < 16896 then x (ix3 ⟨r / 4224, by omega⟩ ⟨r % 4224 - 112, by omega⟩ k) else 0

/-- A padded row projected to a column of the three streams. -/
def proj (x : FVec Ideal S4x4112x2048 .bf16) (g : FVec Ideal S2x2048 .f32) (w : FVec Ideal S2x2048x6144 .f32) (r n : ℕ) : EReal :=
  if hn : n < 6144 then ∑ k : Fin 2048, xrow x r k * g (ix2 0 k) * w (ix3 0 k ⟨n, hn⟩) else 0

/-- A padding row projects to zero. -/
theorem proj_pad (x : FVec Ideal S4x4112x2048 .bf16) (g : FVec Ideal S2x2048 .f32) (w : FVec Ideal S2x2048x6144 .f32) (r n : ℕ)
    (h : r % 4224 < 112) : proj x g w r n = 0 := by
  unfold proj; split
  · refine Finset.sum_eq_zero fun k _ => ?_
    rw [xrow, dif_neg (by omega), zero_mul, zero_mul]
  · rfl

/-- The filtered product of the second and third streams, gated by the first, at padded row `r` and column `n`. -/
def spec (x : FVec Ideal S4x4112x2048 .bf16) (g : FVec Ideal S2x2048 .f32) (w : FVec Ideal S2x2048x6144 .f32) (cw : FVec Ideal S2x3x2048 .f32)
    (r : ℕ) (n : Fin 2048) : EReal :=
  proj x g w r n * (proj x g w (r - 2) (2048 + n) * proj x g w (r - 2) (4096 + n) * cw (ix3 0 0 n)
    + proj x g w (r - 1) (2048 + n) * proj x g w (r - 1) (4096 + n) * cw (ix3 0 1 n)
    + proj x g w r (2048 + n) * proj x g w r (4096 + n) * cw (ix3 0 2 n))

/-- The reference's projection of the scaled rows to the three streams. -/
def REFz (x : FVec Ideal S4x4112x2048 .bf16) (g : FVec Ideal S2x2048 .f32) (w : FVec Ideal S2x2048x6144 .f32) : FVec Ideal S4x4112x6144 .f32 :=
  Host.dotGeneral dot_S4x4112x2048_S2048x6144_S4x4112x6144_2_0_01_1_n_n none (mulf (extf .f32 x bitsLt_bf16_f32) (broadcastInDim S4x4112x2048 ![0, 1, 2] bcast_S1x1x2048_S4x4112x2048_0_1_2 (broadcastInDim S1x1x2048 ![2] bcast_S2048_S1x1x2048_2 (shapeCast _ (extractStridedSlice S1x2048 ![0, 0] g slices_S2x2048_S1x2048_0_0) shapeCasts_S1x2048_S2048)))) (shapeCast _ (extractStridedSlice S1x2048x6144 ![0, 0, 0] w slices_S2x2048x6144_S1x2048x6144_0_0_0) shapeCasts_S1x2048x6144_S2048x6144)

/-- The reference's product of the second and third streams, two zero rows before each batch. -/
def REFu (x : FVec Ideal S4x4112x2048 .bf16) (g : FVec Ideal S2x2048 .f32) (w : FVec Ideal S2x2048x6144 .f32) : FVec Ideal S4x4114x2048 .f32 :=
  pad S4x4114x2048 ![0, 2, 0] ![0, 0, 0] ![0, 0, 0] (mulf (extractStridedSlice S4x4112x2048 ![0, 0, 2048] (REFz x g w) slices_S4x4112x6144_S4x4112x2048_0_0_2048) (extractStridedSlice S4x4112x2048 ![0, 0, 4096] (REFz x g w) slices_S4x4112x6144_S4x4112x2048_0_0_4096)) (sitofp .f32 (constantI S_ 32 0#32)) pads_S4x4112x2048_S4x4114x2048_000_200_000 h_S_

/-- The reference's result. -/
def REF (x : FVec Ideal S4x4112x2048 .bf16) (g : FVec Ideal S2x2048 .f32) (w : FVec Ideal S2x2048x6144 .f32) (cw : FVec Ideal S2x3x2048 .f32) : FVec Ideal S16896x2048 .bf16 :=
  truncf .bf16 (shapeCast _ (pad S4x4224x2048 ![0, 112, 0] ![0, 0, 0] ![0, 0, 0] (mulf (extractStridedSlice S4x4112x2048 ![0, 0, 0] (REFz x g w) slices_S4x4112x6144_S4x4112x2048_0_0_0) (addf (addf (addf (broadcastInDim S4x4112x2048 ![] bcast_S_S4x4112x2048 (constant S_ .f32 0x00000000#32)) (mulf (extractStridedSlice S4x4112x2048 ![0, 0, 0] (REFu x g w) slices_S4x4114x2048_S4x4112x2048_0_0_0) (broadcastInDim S4x4112x2048 ![0, 1, 2] bcast_S1x1x2048_S4x4112x2048_0_1_2 (broadcastInDim S1x1x2048 ![2] bcast_S2048_S1x1x2048_2 (shapeCast _ (extractStridedSlice S1x1x2048 ![0, 0, 0] cw slices_S2x3x2048_S1x1x2048_0_0_0) shapeCasts_S1x1x2048_S2048))))) (mulf (extractStridedSlice S4x4112x2048 ![0, 1, 0] (REFu x g w) slices_S4x4114x2048_S4x4112x2048_0_1_0) (broadcastInDim S4x4112x2048 ![0, 1, 2] bcast_S1x1x2048_S4x4112x2048_0_1_2 (broadcastInDim S1x1x2048 ![2] bcast_S2048_S1x1x2048_2 (shapeCast _ (extractStridedSlice S1x1x2048 ![0, 1, 0] cw slices_S2x3x2048_S1x1x2048_0_1_0) shapeCasts_S1x1x2048_S2048))))) (mulf (extractStridedSlice S4x4112x2048 ![0, 2, 0] (REFu x g w) slices_S4x4114x2048_S4x4112x2048_0_2_0) (broadcastInDim S4x4112x2048 ![0, 1, 2] bcast_S1x1x2048_S4x4112x2048_0_1_2 (broadcastInDim S1x1x2048 ![2] bcast_S2048_S1x1x2048_2 (shapeCast _ (extractStridedSlice S1x1x2048 ![0, 2, 0] cw slices_S2x3x2048_S1x1x2048_0_2_0) shapeCasts_S1x1x2048_S2048)))))) (sitofp .f32 (constantI S_ 32 0#32)) pads_S4x4112x2048_S4x4224x2048_000_11200_000 h_S_) shapeCasts_S4x4224x2048_S16896x2048) bitsLt_bf16_f32

/-- A projected entry. -/
theorem z_at (x : FVec Ideal S4x4112x2048 .bf16) (g : FVec Ideal S2x2048 .f32) (w : FVec Ideal S2x2048x6144 .f32) (b : Fin 4) (q : Fin 4112) (n : Fin 6144) :
    REFz x g w (ix3 b q n) = proj x g w (b * 4224 + 112 + q) n := by
  have hb := b.isLt
  have hq := q.isLt
  rw [proj, dif_pos n.isLt]
  pointwise [REFz]
  refine Finset.sum_congr rfl fun k _ => ?_
  rw [xrow, dif_pos ⟨by omega, by omega⟩]
  have e0 : (⟨((b : ℕ) * 4224 + 112 + q) / 4224, by omega⟩ : Fin 4) = b := Fin.ext (by show _ / _ = _; omega)
  have e1 : (⟨((b : ℕ) * 4224 + 112 + q) % 4224 - 112, by omega⟩ : Fin 4112) = q := Fin.ext (by show _ % _ - _ = _; omega)
  rw [e0, e1]

/-- A product entry: before the batch's first row both factors are zero. -/
theorem u_at (x : FVec Ideal S4x4112x2048 .bf16) (g : FVec Ideal S2x2048 .f32) (w : FVec Ideal S2x2048x6144 .f32) (b : Fin 4) (q : Fin 4114) (n : Fin 2048) :
    REFu x g w (ix3 b q n) = proj x g w (b * 4224 + 110 + q) (2048 + n) * proj x g w (b * 4224 + 110 + q) (4096 + n) := by
  have hb := b.isLt
  have hq := q.isLt
  have hn := n.isLt
  by_cases h : (q : ℕ) < 2
  · rw [proj_pad _ _ _ _ (2048 + n) (by omega), zero_mul]
    pointwise [REFu]
    rw [dif_neg (by omega)]
    exact sitofp_zero
  · pointwise [REFu]
    rw [dif_pos ⟨by omega, by omega⟩, z_at, z_at]
    have e : (b : ℕ) * 4224 + 112 + (q - 2) = b * 4224 + 110 + q := by omega
    exact congrArg₂ (fun r r' => proj x g w r _ * proj x g w r' _) e e

/-- The reference's result at an index. -/
theorem ref_at (x : FVec Ideal S4x4112x2048 .bf16) (g : FVec Ideal S2x2048 .f32) (w : FVec Ideal S2x2048x6144 .f32) (cw : FVec Ideal S2x3x2048 .f32) (j : S16896x2048.Idx) :
    REF x g w cw j = spec x g w cw (j 0) (j 1) := by
  have hj0 : (j 0 : ℕ) < 16896 := (j 0).isLt
  have hj1 : (j 1 : ℕ) < 2048 := (j 1).isLt
  by_cases hp : (j 0 : ℕ) % 4224 < 112
  · unfold spec
    rw [proj_pad _ _ _ _ _ hp, zero_mul]
    pointwise [REF]
    rw [dif_neg (by omega)]
    exact sitofp_zero
  · pointwise [REF]
    rw [dif_pos ⟨by omega, by omega, by omega⟩]
    simp only [z_at, spec, zero_add]
    have e0 : (j 0 : ℕ) / 4224 * 4224 + 112 + ((j 0 : ℕ) % 4224 - 112) = j 0 := by omega
    have e1 : (j 0 : ℕ) / 4224 * 4224 + 110 + ((j 0 : ℕ) % 4224 - 112) = j 0 - 2 := by omega
    have e2 : (j 0 : ℕ) / 4224 * 4224 + 110 + (1 + ((j 0 : ℕ) % 4224 - 112)) = j 0 - 1 := by omega
    have e3 : (j 0 : ℕ) / 4224 * 4224 + 110 + (2 + ((j 0 : ℕ) % 4224 - 112)) = j 0 := by omega
    refine congrArg₂ (· * ·) (congrArg₂ (proj x g w) e0 rfl) (congrArg₂ (· + ·) (congrArg₂ (· + ·) (congrArg₂ (· * ·) ?_ rfl) (congrArg₂ (· * ·) ?_ rfl)) (congrArg₂ (· * ·) ?_ rfl))
    · exact (u_at x g w _ _ (j 1)).trans (by rw [show _ = (j 0 : ℕ) - 2 from e1])
    · exact (u_at x g w _ _ (j 1)).trans (by rw [show _ = (j 0 : ℕ) - 1 from e2])
    · exact (u_at x g w _ _ (j 1)).trans (by rw [show _ = (j 0 : ℕ) from e3])

end Cert.ConvInReferenceIdeal.Pure

namespace Cert.ConvInKernelIdeal.Value

open Cert.ConvInKernelIdeal Cert.ConvInKernelIdeal.Gen Cert.ConvInReferenceIdeal.Pure
open Idealize.ShloMosaic Idealize.ShloMosaic.TcCoe Idealize.SL.Sem
open Idealize.ShloMosaic.Pipeline (Dat)

variable (m : (ℓ : Loc nD τ sig) → Buf (Elt Ideal) ℓ)

/-- The index maps at every point: sixteen row tiles under each of four column tiles. -/
theorem idx : ∀ t : Fin cfg0.N, win0_0.index t = ![t.val % 16, 0] ∧ win0_1.index t = ![0, 0]
    ∧ win0_2.index t = ![0, 0, t.val / 16] ∧ win0_3.index t = ![0, 0, t.val / 16 + 4] ∧ win0_4.index t = ![0, 0, t.val / 16 + 8]
    ∧ win0_5.index t = ![0, t.val / 16] ∧ win0_6.index t = ![t.val % 16, t.val / 16] :=
  (by decide +kernel : ∀ t : Fin grid0.N, _)

/-- The rows the call takes: the batches' rows, zeros before each. -/
theorem V_x (c : Dev nD) : V m c main_v1 = shapeCast S16896x2048 (pad S4x4224x2048 ![0, 112, 0] ![0, 0, 0] ![0, 0, 0] (m ((c : Thread nD τ).loc main_arg0))
    (sitofp (F := Ideal) .bf16 (constantI S_ 32 0#32)) pads_S4x4112x2048_S4x4224x2048_000_11200_000 h_S_) shapeCasts_S4x4224x2048_S16896x2048 := by
  show StableHlo.after [hostOps0, hostOps0_1, hostOps0_2].flatten (fun b => m (c, b)) (Proc.tc.devRef main_v1) = _
  simp only [hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results_simp <;> rfl

/-- The gain the call takes: a column. -/
theorem V_g (c : Dev nD) : V m c main_v6 = shapeCast S2048x1 (shapeCast S2048 (extractStridedSlice S1x2048 ![0, 0] (m ((c : Thread nD τ).loc main_arg1))
    slices_S2x2048_S1x2048_0_0) shapeCasts_S1x2048_S2048) shapeCasts_S2048_S2048x1 := by
  show StableHlo.after [hostOps0, hostOps0_1, hostOps0_2].flatten (fun b => m (c, b)) (Proc.tc.devRef main_v6) = _
  simp only [hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results_simp <;> rfl

/-- The filter the call takes. -/
theorem V_c (c : Dev nD) : V m c main_v5 = shapeCast S3x2048 (extractStridedSlice S1x3x2048 ![0, 0, 0] (m ((c : Thread nD τ).loc main_arg3))
    slices_S2x3x2048_S1x3x2048_0_0_0) shapeCasts_S1x3x2048_S3x2048 := by
  show StableHlo.after [hostOps0, hostOps0_1, hostOps0_2].flatten (fun b => m (c, b)) (Proc.tc.devRef main_v5) = _
  simp only [hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results_simp <;> rfl

/-- The padded rows at an index. -/
theorem padded_at (x : FVec Ideal S4x4112x2048 .bf16) (r : ℕ) (hr : r < 16896) (k : Fin 2048) :
    (shapeCast S16896x2048 (pad S4x4224x2048 ![0, 112, 0] ![0, 0, 0] ![0, 0, 0] x
      (sitofp (F := Ideal) .bf16 (constantI S_ 32 0#32)) pads_S4x4112x2048_S4x4224x2048_000_11200_000 h_S_) shapeCasts_S4x4224x2048_S16896x2048 : FVec Ideal S16896x2048 .bf16) (ix2 ⟨r, hr⟩ k) = xrow x r k := by
  unfold xrow
  pointwise []
  by_cases h : 112 ≤ r % 4224
  · rw [dif_pos ⟨by omega, by omega⟩, dif_pos ⟨by omega, by omega⟩]
  · rw [dif_neg (by omega), dif_neg (fun h' => h h'.1)]
    exact sitofp_zero

/-- The gain the call takes, at an index. -/
theorem V_g_at (c : Dev nD) (q : S2048x1.Idx) (r : S2x2048.Idx) (h0 : (r 0 : ℕ) = 0) (h1 : (r 1 : ℕ) = q 0) :
    V m c main_v6 q = m ((c : Thread nD τ).loc main_arg1) r := by
  rw [V_g]
  pointwise []
  blk_point []

/-- The filter the call takes, at an index. -/
theorem V_c_at (c : Dev nD) (q : S3x2048.Idx) (r : S2x3x2048.Idx) (h0 : (r 0 : ℕ) = 0) (h1 : (r 1 : ℕ) = q 0) (h2 : (r 2 : ℕ) = q 1) :
    V m c main_v5 q = m ((c : Thread nD τ).loc main_arg3) r := by
  rw [V_c]
  pointwise []
  blk_point []

/-- An entry of the weights times an entry of the gains. -/
def scaled (W : FVec Ideal S2x2048x6144 .f32) (G : FVec Ideal S2x2048 .f32) (p : S2x2048x6144.Idx) (r : S2x2048.Idx) : EReal := W p * G r

/-- A scratch that holds a column tile's scaled weights, the three streams taking turns. -/
def Holds (c : Dev nD) (t : ℕ) (S : FVec Ideal S2048x1536 .bf16) : Prop :=
  ∀ (i : S2048x1536.Idx) (p : S2x2048x6144.Idx) (r : S2x2048.Idx), (p 0 : ℕ) = 0 → (p 1 : ℕ) = i 0 →
    (p 2 : ℕ) = 2048 * ((i 1 : ℕ) / 256 % 3) + 512 * (t / 16) + 256 * ((i 1 : ℕ) / 768) + (i 1 : ℕ) % 256 →
    (r 0 : ℕ) = 0 → (r 1 : ℕ) = i 0 →
    S i = scaled (m ((c : Thread nD τ).loc main_arg2)) (m ((c : Thread nD τ).loc main_arg1)) p r

/-- What the first point of a column tile writes to scratch: the tile's weights times the gain. -/
theorem scr_first (c : Dev nD) (t : Fin cfg0.N) (h0 : t.val % 16 = 0) : Holds m c t.val (outsAt0 m c t.val t.isLt).2.1 := by
  intro i p r hp0 hp1 hp2 hr0 hr1
  rw [outsAt0_A m c t h0]; frame_out
  canon_tiles x h
  all_goals (pointwise [k0_pay3, k0_pay4, k0_pay5, k0_pay6, k0_pay7, k0_pay8, k0_pay2, scaled])
  all_goals (blk_point [iblk, idx t])
  all_goals (refine V_g_at m c _ _ hr0 ?_; rw [hr1]; blk_simp [idx t]; omega)

/-- So at every point the scratch holds its column tile's weights times the gain. -/
theorem scr (c : Dev nD) (t : Fin cfg0.N) : Holds m c t.val (outsAt0 m c t.val t.isLt).2.1 := by
  intro i p r hp0 hp1 hp2 hr0 hr1
  rw [Pipeline.eq_of_write_hold_apply (fun n h => (outsAt0 m c n h).2.1) 16 (fun t => (outsAt0 m c t.val t.isLt).2.1)
    (fun _ _ _ => rfl) (fun t h i => by rw [outsAt0_B m c t h]; rfl) t i]
  exact scr_first m c _ (Nat.mul_mod_right 16 _) i p r hp0 hp1 (by rw [hp2]; show _ = _ + 512 * (16 * (t.val / 16) / 16) + _ + _; omega) hr0 hr1

/-- Three factors, the last two exchanged and regrouped. -/
theorem mul_swap (a b d : EReal) : a * (b * d) = a * d * b := by rw [mul_comm b d, mul_assoc]

/-- A row of the staged tile is a padded row. -/
theorem xblk (c : Dev nD) (t : Fin cfg0.N) (y : Fin 1056) (k : Fin 2048) :
    (show FVec Ideal S1056x2048 .bf16 from iblk m c 0 t) (ix2 y k) = xrow (m ((c : Thread nD τ).loc main_arg0)) (t.val % 16 * 1056 + y) k := by
  have ht : t.val < 64 := lt_of_lt_of_eq t.isLt (by decide)
  have hy := y.isLt
  show V m c main_v1 ((win0_0.blk t).view.emb (ix2 y k)) = _
  have e : (win0_0.blk t).view.emb (ix2 y k) = (ix2 ⟨t.val % 16 * 1056 + y, by omega⟩ k : S16896x2048.Idx) := by
    funext a; apply Fin.ext
    fin_cases a <;> blk_simp [idx t] <;> rfl
  rw [V_x, e]
  exact padded_at _ _ _ _

/-- A product of a staged row and a held column. -/
theorem dot (c : Dev nD) (t : Fin cfg0.N) (S : FVec Ideal S2048x1536 .bf16) (hS : Holds m c t.val S) (y : Fin 1056) (u : ℕ) (hu : u < 1536) (v : ℕ)
    (e : v = 2048 * (u / 256 % 3) + 512 * (t.val / 16) + 256 * (u / 768) + u % 256) :
    (∑ k : Fin 2048, (show FVec Ideal S1056x2048 .bf16 from iblk m c 0 t) (ix2 y k) * S (ix2 k ⟨u, hu⟩))
      = proj (m ((c : Thread nD τ).loc main_arg0)) (m ((c : Thread nD τ).loc main_arg1)) (m ((c : Thread nD τ).loc main_arg2)) (t.val % 16 * 1056 + y) v := by
  have ht : t.val < 64 := lt_of_lt_of_eq t.isLt (by decide)
  have hv : v < 6144 := by omega
  rw [proj, dif_pos hv]
  refine Finset.sum_congr rfl fun k _ => ?_
  rw [hS (ix2 k ⟨u, hu⟩) (ix3 0 k ⟨v, hv⟩) (ix2 0 k) rfl rfl e rfl rfl, xblk]
  exact mul_swap _ _ _

/-- The product of the second and third streams over a tile. -/
theorem prod_at (c : Dev nD) (t : Fin cfg0.N) (S : FVec Ideal S2048x1536 .bf16) (hS : Holds m c t.val S) (y : S1056x512.Idx) :
    k0_pay12 (F := Ideal) (iblk m c 0 t) S y
      = proj (m ((c : Thread nD τ).loc main_arg0)) (m ((c : Thread nD τ).loc main_arg1)) (m ((c : Thread nD τ).loc main_arg2)) (t.val % 16 * 1056 + y 0) (2048 + (512 * (t.val / 16) + y 1))
        * proj (m ((c : Thread nD τ).loc main_arg0)) (m ((c : Thread nD τ).loc main_arg1)) (m ((c : Thread nD τ).loc main_arg2)) (t.val % 16 * 1056 + y 0) (4096 + (512 * (t.val / 16) + y 1)) := by
  have hy : (y 1 : ℕ) < 512 := (y 1).isLt
  pointwise [k0_pay12, k0_pay10]
  split
  · exact congrArg₂ (· * ·) (dot m c t S hS _ _ _ _ (by omega)) (dot m c t S hS _ _ _ _ (by omega))
  · exact congrArg₂ (· * ·) (dot m c t S hS _ _ _ _ (by omega)) (dot m c t S hS _ _ _ _ (by omega))

/-- The first stream over a tile. -/
theorem gate_at (c : Dev nD) (t : Fin cfg0.N) (S : FVec Ideal S2048x1536 .bf16) (hS : Holds m c t.val S) (y : S1056x512.Idx) :
    k0_pay11 (F := Ideal) (iblk m c 0 t) S y
      = proj (m ((c : Thread nD τ).loc main_arg0)) (m ((c : Thread nD τ).loc main_arg1)) (m ((c : Thread nD τ).loc main_arg2)) (t.val % 16 * 1056 + y 0) (512 * (t.val / 16) + y 1) := by
  have hy : (y 1 : ℕ) < 512 := (y 1).isLt
  pointwise [k0_pay11, k0_pay10]
  split
  · exact dot m c t S hS _ _ _ _ (by omega)
  · exact dot m c t S hS _ _ _ _ (by omega)

/-- A row of a read of the joined rows. -/
theorem emb_0 (o : ℕ) (inb : ∀ a, (![o, 0] : Fin 2 → ℕ) a + (![1056, 512] : Fin 2 → ℕ) a ≤ S1064x512.size a)
    (i : (Rect.unit (s := S1064x512) ![o, 0] ![1056, 512] inb).shape.Idx) : ((Rect.unit (s := S1064x512) ![o, 0] ![1056, 512] inb).emb i 0 : ℕ) = o + i 0 := by
  rw [Rect.emb_apply]; show o + 1 * (i 0 : ℕ) = _; omega

/-- A column of a read of the joined rows. -/
theorem emb_1 (o : ℕ) (inb : ∀ a, (![o, 0] : Fin 2 → ℕ) a + (![1056, 512] : Fin 2 → ℕ) a ≤ S1064x512.size a)
    (i : (Rect.unit (s := S1064x512) ![o, 0] ![1056, 512] inb).shape.Idx) : ((Rect.unit (s := S1064x512) ![o, 0] ![1056, 512] inb).emb i 1 : ℕ) = i 1 := by
  rw [Rect.emb_apply]; show 0 + 1 * (i 1 : ℕ) = _; omega

/-- The kept rows joined with a tile's rows, at an index. -/
theorem joined0 (U : FVec Ideal S1056x512 .f32) (H : FVec Ideal S8x512 .f32) (q : S1064x512.Idx) (v : EReal)
    (hU : ∀ x : S1056x512.Idx, (q 0 : ℕ) = 8 + x 0 → (q 1 : ℕ) = x 1 → U x = v)
    (hH : ∀ x : S8x512.Idx, (q 0 : ℕ) = x 0 → (q 1 : ℕ) = x 1 → H x = v) :
    View.canon (Val := Elt Ideal) (s := S1064x512) (e := .f32)
    [⟨Rect.unit ![8, 0] ![1056, 512] inb_S1064x512_S1056x512_8_0, U⟩, ⟨Rect.unit ![0, 0] ![8, 512] inb_S1064x512_S8x512_0_0, H⟩] q = v := by
  have hc := View.cover_of_tiledBy (Val := Elt Ideal) (s := S1064x512) (e := .f32)
    [⟨Rect.unit ![8, 0] ![1056, 512] inb_S1064x512_S1056x512_8_0, U⟩, ⟨Rect.unit ![0, 0] ![8, 512] inb_S1064x512_S8x512_0_0, H⟩] ![8, 512] (by sl_kernel_rfl) q
  canon_tiles x h using hc
  · exact hU x (by omega) (by omega)
  · exact hH x (by omega) (by omega)

/-- A row read of the kept rows joined with a tile's rows is one of the tile's or one of the kept. -/
theorem joined (U : FVec Ideal S1056x512 .f32) (H : FVec Ideal S8x512 .f32) (o : ℕ)
    (inb : ∀ a, (![o, 0] : Fin 2 → ℕ) a + (![1056, 512] : Fin 2 → ℕ) a ≤ S1064x512.size a) (i : S1056x512.Idx) (v : EReal)
    (hU : ∀ x : S1056x512.Idx, o + (i 0 : ℕ) = 8 + x 0 → (i 1 : ℕ) = x 1 → U x = v)
    (hH : ∀ x : S8x512.Idx, o + (i 0 : ℕ) = x 0 → (i 1 : ℕ) = x 1 → H x = v) :
    (View.whole cc0_scratch2).readCov (Val := Elt Ideal)
        [⟨Rect.unit ![8, 0] ![1056, 512] inb_S1064x512_S1056x512_8_0, U⟩, ⟨Rect.unit ![0, 0] ![8, 512] inb_S1064x512_S8x512_0_0, H⟩]
        (Rect.unit (s := S1064x512) ![o, 0] ![1056, 512] inb).toLoadRect i = v := by
  rw [View.readCov_eq_canon']
  have e0 := emb_0 o inb i
  have e1 := emb_1 o inb i
  exact joined0 U H _ v (fun x a b => hU x (e0.symm.trans a) (e1.symm.trans b)) (fun x a b => hH x (e0.symm.trans a) (e1.symm.trans b))

/-- A product of the second and third streams at a row and a column. -/
def prd (c : Dev nD) (r n : ℕ) : EReal :=
  proj (m ((c : Thread nD τ).loc main_arg0)) (m ((c : Thread nD τ).loc main_arg1)) (m ((c : Thread nD τ).loc main_arg2)) r (2048 + n)
    * proj (m ((c : Thread nD τ).loc main_arg0)) (m ((c : Thread nD τ).loc main_arg1)) (m ((c : Thread nD τ).loc main_arg2)) r (4096 + n)

/-- A tile's last rows, kept for the next. -/
theorem last_at (c : Dev nD) (t : Fin cfg0.N) (S : FVec Ideal S2048x1536 .bf16) (hS : Holds m c t.val S) (y : S8x512.Idx) :
    k0_pay15 (F := Ideal) (iblk m c 0 t) S y = prd m c (t.val % 16 * 1056 + 1048 + y 0) (512 * (t.val / 16) + y 1) := by
  pointwise [k0_pay15]
  refine (prod_at m c t S hS _).trans ?_
  show prd m c _ _ = _
  exact congrArg₂ (prd m c) (by show _ + (1048 + (y 0 : ℕ)) = _; omega) rfl

/-- The filter's block at an index. -/
theorem cblk (c : Dev nD) (t : Fin cfg0.N) (i : Fin 3) (k : Fin 512) (n : Fin 2048) (e : (n : ℕ) = t.val / 16 * 512 + k) :
    (show FVec Ideal S3x512 .f32 from iblk m c 5 t) (ix2 i k) = m ((c : Thread nD τ).loc main_arg3) (ix3 0 i n) := by
  have ht : t.val < 64 := lt_of_lt_of_eq t.isLt (by decide)
  exact V_c_at m c _ _ rfl (by blk_simp [idx t]) (by blk_simp [idx t]; omega)

/-- What a point leaves in the result: the gate times the filtered products. -/
theorem point (c : Dev nD) (t : Fin cfg0.N) (S : FVec Ideal S2048x1536 .bf16) (hS : Holds m c t.val S) (A B : FVec Ideal S1056x512 .f32)
    (y : S1056x512.Idx) (j : S16896x2048.Idx) (hj0 : (j 0 : ℕ) = t.val % 16 * 1056 + y 0) (hj1 : (j 1 : ℕ) = t.val / 16 * 512 + y 1)
    (hA : 112 ≤ (j 0 : ℕ) % 4224 → A y = prd m c (j 0 - 2) (j 1)) (hB : 112 ≤ (j 0 : ℕ) % 4224 → B y = prd m c (j 0 - 1) (j 1)) :
    k0_pay1 (F := Ideal) (k0_pay11 (iblk m c 0 t) S) (k0_pay12 (iblk m c 0 t) S) (k0_pay16 (iblk m c 5 t)) (k0_pay17 (iblk m c 5 t) A) B y
      = spec (m ((c : Thread nD τ).loc main_arg0)) (m ((c : Thread nD τ).loc main_arg1)) (m ((c : Thread nD τ).loc main_arg2)) (m ((c : Thread nD τ).loc main_arg3)) (j 0) (j 1) := by
  have hg := (gate_at m c t S hS y).trans (congrArg₂ (proj _ _ _) hj0.symm (show _ = (j 1 : ℕ) by omega))
  have hp := (prod_at m c t S hS y).trans (congrArg₂ (prd m c) hj0.symm (show _ = (j 1 : ℕ) by omega))
  pointwise [k0_pay1, k0_pay16, k0_pay17]
  unfold spec
  by_cases h : (j 0 : ℕ) % 4224 < 112
  · rw [hg, proj_pad _ _ _ _ _ h, zero_mul, zero_mul]
  · have c0 := cblk m c t 0 (y 1) (j 1) hj1
    have c1 := cblk m c t 1 (y 1) (j 1) hj1
    have c2 := cblk m c t 2 (y 1) (j 1) hj1
    rw [hg, hp, hA (by omega), hB (by omega)]
    exact congrArg₂ (· * ·) rfl (congrArg₂ (· + ·) (congrArg₂ (· + ·) (congrArg₂ (· * ·) rfl c0) (congrArg₂ (· * ·) rfl c1)) (congrArg₂ (· * ·) rfl c2))

/-- The products as they are stored. -/
theorem kept_at (c : Dev nD) (t : Fin cfg0.N) (S : FVec Ideal S2048x1536 .bf16) (hS : Holds m c t.val S) (y : S1056x512.Idx) :
    k0_pay14 (F := Ideal) (iblk m c 0 t) S y = prd m c (t.val % 16 * 1056 + y 0) (512 * (t.val / 16) + y 1) := by
  pointwise [k0_pay14]
  exact prod_at m c t S hS y

/-- The scaled weights as a later point of the column tile finds them. -/
theorem held (c : Dev nD) (t : Fin cfg0.N) (hc : ¬t.val % 16 = 0) :
    Holds m c t.val (outsAt0 m c (t.val - 1) (Nat.lt_of_le_of_lt (Nat.sub_le _ _) t.isLt)).2.1 := by
  intro i p r q1 q2 q3 q4 q5
  exact scr m c ⟨t.val - 1, Nat.lt_of_le_of_lt (Nat.sub_le _ _) t.isLt⟩ i p r q1 q2 (by rw [q3]; show _ = _ + 512 * ((t.val - 1) / 16) + _ + _; omega) q4 q5

/-- The scaled weights as the first point of a column tile reads them back. -/
theorem first (c : Dev nD) (t : Fin cfg0.N) (hc : t.val % 16 = 0) : Holds m c t.val
    (View.readCov (Val := Elt Ideal) (View.whole cc0_scratch0)
        [⟨Rect.unit ![0, 1280] ![2048, 256] inb_S2048x1536_S2048x256_0_1280, k0_pay8 (k0_pay2 (iblk m c 1 t))
            (View.ld (iblk m c 4 t) (Rect.unit ![0, 0, 256] ![1, 2048, 256] inb_S1x2048x512_S1x2048x256_0_0_256))⟩,
          ⟨Rect.unit ![0, 1024] ![2048, 256] inb_S2048x1536_S2048x256_0_1024, k0_pay7 (k0_pay2 (iblk m c 1 t))
            (View.ld (iblk m c 3 t) (Rect.unit ![0, 0, 256] ![1, 2048, 256] inb_S1x2048x512_S1x2048x256_0_0_256))⟩,
          ⟨Rect.unit ![0, 768] ![2048, 256] inb_S2048x1536_S2048x256_0_768, k0_pay6 (iblk m c 1 t)
            (View.ld (iblk m c 2 t) (Rect.unit ![0, 0, 256] ![1, 2048, 256] inb_S1x2048x512_S1x2048x256_0_0_256))⟩,
          ⟨Rect.unit ![0, 512] ![2048, 256] inb_S2048x1536_S2048x256_0_512, k0_pay5 (iblk m c 1 t)
            (View.ld (iblk m c 4 t) (Rect.unit ![0, 0, 0] ![1, 2048, 256] inb_S1x2048x512_S1x2048x256_0_0_0))⟩,
          ⟨Rect.unit ![0, 256] ![2048, 256] inb_S2048x1536_S2048x256_0_256, k0_pay4 (iblk m c 1 t)
            (View.ld (iblk m c 3 t) (Rect.unit ![0, 0, 0] ![1, 2048, 256] inb_S1x2048x512_S1x2048x256_0_0_0))⟩,
          ⟨Rect.unit ![0, 0] ![2048, 256] inb_S2048x1536_S2048x256_0_0, k0_pay3 (iblk m c 1 t)
            (View.ld (iblk m c 2 t) (Rect.unit ![0, 0, 0] ![1, 2048, 256] inb_S1x2048x512_S1x2048x256_0_0_0))⟩]
        (Rect.unit (s := S2048x1536) ![0, 0] ![2048, 1536] inb_S2048x1536_S2048x1536_0_0).toLoadRect) := by
  intro i p r q1 q2 q3 q4 q5
  refine Eq.trans ?_ (scr m c t i p r q1 q2 q3 q4 q5)
  rw [View.readCov_eq_canon', outsAt0_A m c t hc]; frame_out
  show View.canon _ ((Rect.unit (s := S2048x1536) ![0, 0] ![2048, 1536] inb_S2048x1536_S2048x1536_0_0).emb i) = _
  exact congrArg _ (Rect.emb_unit_full (s := S2048x1536) inb_S2048x1536_S2048x1536_0_0 i)

/-- What a point keeps of its tile for the next. -/
theorem halo (c : Dev nD) (t : Fin cfg0.N) (y : S8x512.Idx) :
    (outsAt0 m c t.val t.isLt).2.2 y = prd m c (t.val % 16 * 1056 + 1048 + y 0) (512 * (t.val / 16) + y 1) := by
  by_cases hc : t.val % 16 = 0
  · rw [outsAt0_A m c t hc]
    frame_out
    exact last_at m c t _ (first m c t hc) y
  · rw [outsAt0_B m c t hc]
    frame_out
    rw [read_unread_whole]
    exact last_at m c t _ (held m c t hc) y

/-- The kernel's result is the reference's. -/
theorem final (c : Dev nD) : (dats m 0 c).arrAt 6 cfg0.N
    = REF (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  have ht : t.val < 64 := lt_of_lt_of_eq t.isLt (by decide)
  blk_simp
  rw [after0_6]
  generalize hj : (((View.whole main_v7).slice (win0_6.rect t)).emb y : S16896x2048.Idx) = j
  have hj0 : (j 0 : ℕ) = t.val % 16 * 1056 + y 0 := by rw [← hj]; blk_simp [idx t]
  have hj1 : (j 1 : ℕ) = t.val / 16 * 512 + y 1 := by rw [← hj]; blk_simp [idx t]
  have hy : (y 0 : ℕ) < 1056 := (y 0).isLt
  clear hj
  have hy1 : (y 1 : ℕ) < 512 := (y 1).isLt
  rw [ref_at]
  by_cases hc : t.val % 16 = 0
  · rw [outsAt0_A m c t hc]; frame_out
    have hS := first m c t hc
    refine point m c t _ hS _ _ y j hj0 hj1 (fun h => ?_) (fun h => ?_)
    · refine joined _ _ 6 _ _ _ (fun x e0 e1 => ?_) (fun x e0 e1 => ?_)
      · exact (kept_at m c t _ hS x).trans (congrArg₂ (prd m c) (by omega) (by omega))
      · exfalso
        have hx : (x 0 : ℕ) < 8 := (x 0).isLt
        omega
    · refine joined _ _ 7 _ _ _ (fun x e0 e1 => ?_) (fun x e0 e1 => ?_)
      · exact (kept_at m c t _ hS x).trans (congrArg₂ (prd m c) (by omega) (by omega))
      · exfalso
        have hx : (x 0 : ℕ) < 8 := (x 0).isLt
        omega
  · have hS := held m c t hc
    have hH := halo m c ⟨t.val - 1, Nat.lt_of_le_of_lt (Nat.sub_le _ _) t.isLt⟩
    rw [outsAt0_B m c t hc]; frame_out
    rw [read_unread_whole, read_unread_whole]
    refine point m c t _ hS _ _ y j hj0 hj1 (fun h => ?_) (fun h => ?_)
    · refine joined _ _ 6 _ _ _ (fun x e0 e1 => ?_) (fun x e0 e1 => ?_)
      · exact (kept_at m c t _ hS x).trans (congrArg₂ (prd m c) (by omega) (by omega))
      · have hx : (x 0 : ℕ) < 8 := (x 0).isLt
        pointwise [k0_pay13]
        exact (hH x).trans (congrArg₂ (prd m c) (by dsimp only; omega) (by dsimp only; omega))
    · refine joined _ _ 7 _ _ _ (fun x e0 e1 => ?_) (fun x e0 e1 => ?_)
      · exact (kept_at m c t _ hS x).trans (congrArg₂ (prd m c) (by omega) (by omega))
      · have hx : (x 0 : ℕ) < 8 := (x 0).isLt
        pointwise [k0_pay13]
        exact (hH x).trans (congrArg₂ (prd m c) (by dsimp only; omega) (by dsimp only; omega))

end Cert.ConvInKernelIdeal.Value

namespace Cert.Proof

open Idealize.ShloMosaic Idealize.ShloMosaic.TcCoe Idealize.SL.Sem

/-- The short convolution's input call and its reference end with equal results. -/
theorem algebraic_ConvIn : Cert.algebraic_ConvInKernelIdeal_ConvInReferenceIdeal := by
  pair_intro
  · run_from Cert.ConvInKernelIdeal.Value.run_blocks m g
  · run_from Cert.ConvInReferenceIdeal.Value.run m' g'
    have e : Cert.ConvInReferenceIdeal.Value.res_main_v39 m' c = Cert.ConvInReferenceIdeal.Pure.REF (m' (c.tc.loc Cert.ConvInReferenceIdeal.main_arg0))
        (m' (c.tc.loc Cert.ConvInReferenceIdeal.main_arg1)) (m' (c.tc.loc Cert.ConvInReferenceIdeal.main_arg2)) (m' (c.tc.loc Cert.ConvInReferenceIdeal.main_arg3)) := rfl
    refine e.trans ?_
    rw [(hagree c).1, (hagree c).2.1, (hagree c).2.2.1, (hagree c).2.2.2]
    exact (Cert.ConvInKernelIdeal.Value.final m c).symm

end Cert.Proof

end
-- ==== Proof.Kv.Value.lean ====
module

public import proofs.«01_k».proof.Proof.Gen.KvKernelIdeal.Frame
public import proofs.«01_k».proof.Proof.Gen.KvKernelIdeal.Value
public import proofs.«01_k».proof.Proof.Gen.KvReferenceIdeal.Run
public import proofs.«01_k».proof.Defs
public import Idealize.ShloMosaic.Lib.Pipeline.ValueKit
public import Idealize.ShloMosaic.Lib.Pipeline.ValueKit.Held
public import Idealize.ShloMosaic.Lib.Pipeline.ReadBack
public import Idealize.ShloMosaic.Lib.VecWindow
public import Idealize.ShloMosaic.Lib.Pointwise
public import Idealize.ShloMosaic.Lib.Claim

/-! Keys and values: gain times weights kept in scratch along a column tile, one product per row tile for each of the two,
    the keys scaled head by head to unit root mean square. -/

set_option maxRecDepth 16384

@[expose] public section

noncomputable section

namespace Cert.KvReferenceIdeal.Pure

open Cert.KvReferenceIdeal Cert.KvReferenceIdeal.Gen
open Idealize.ShloMosaic Idealize.ShloMosaic.TcCoe Idealize.SL.Sem

/-- The reference's projection of the scaled rows, keys and values side by side. -/
def REFz (x : FVec Ideal S16896x2048 .bf16) (g : FVec Ideal S2048 .f32) (w : FVec Ideal S2048x4096 .f32) :
    FVec Ideal S16896x4096 .f32 :=
  Host.dotGeneral dot_S16896x2048_S2048x4096_S16896x4096_1_0_0_1_n_n none (mulf (extf .f32 x bitsLt_bf16_f32) (broadcastInDim S16896x2048 ![0, 1] bcast_S1x2048_S16896x2048_0_1 (broadcastInDim S1x2048 ![1] bcast_S2048_S1x2048_1 g))) w

/-- The reference's keys: every head's row over its root mean square, times the gain. -/
def REFk (x : FVec Ideal S16896x2048 .bf16) (g : FVec Ideal S2048 .f32) (w : FVec Ideal S2048x4096 .f32) (n : FVec Ideal S128 .f32) :
    FVec Ideal S16896x2048 .bf16 :=
  truncf .bf16 (shapeCast _ (mulf (mulf (shapeCast _ (extractStridedSlice S16896x2048 ![0, 0] (REFz x g w) slices_S16896x4096_S16896x2048_0_0) shapeCasts_S16896x2048_S16896x16x128) (broadcastInDim S16896x16x128 ![0, 1, 2] bcast_S16896x16x1_S16896x16x128_0_1_2 (Host.rsqrt (addf (Host.divf (broadcastInDim S16896x16x1 ![0, 1] bcast_S16896x16_S16896x16x1_0_1 (Host.reduceAdd (mulf (shapeCast _ (extractStridedSlice S16896x2048 ![0, 0] (REFz x g w) slices_S16896x4096_S16896x2048_0_0) shapeCasts_S16896x2048_S16896x16x128) (shapeCast _ (extractStridedSlice S16896x2048 ![0, 0] (REFz x g w) slices_S16896x4096_S16896x2048_0_0) shapeCasts_S16896x2048_S16896x16x128)) (constant S_ .f32 0x00000000#32) reducesTo_S16896x16x128_S16896x16_d2 h_S_)) (broadcastInDim S16896x16x1 ![] bcast_S_S16896x16x1 (constant S_ .f32 0x43000000#32))) (broadcastInDim S16896x16x1 ![] bcast_S_S16896x16x1 (constant S_ .f32 0x358637BD#32)))))) (broadcastInDim S16896x16x128 ![0, 1, 2] bcast_S1x1x128_S16896x16x128_0_1_2 (broadcastInDim S1x1x128 ![2] bcast_S128_S1x1x128_2 n))) shapeCasts_S16896x16x128_S16896x2048) bitsLt_bf16_f32

/-- The reference's values. -/
def REFv (x : FVec Ideal S16896x2048 .bf16) (g : FVec Ideal S2048 .f32) (w : FVec Ideal S2048x4096 .f32) :
    FVec Ideal S16896x2048 .bf16 :=
  truncf .bf16 (extractStridedSlice S16896x2048 ![0, 2048] (REFz x g w) slices_S16896x4096_S16896x2048_0_2048) bitsLt_bf16_f32

end Cert.KvReferenceIdeal.Pure

namespace Cert.KvKernelIdeal.Value

open Cert.KvKernelIdeal Cert.KvKernelIdeal.Gen Cert.KvReferenceIdeal.Pure
open Idealize.ShloMosaic Idealize.ShloMosaic.TcCoe Idealize.SL.Sem
open Idealize.ShloMosaic.Pipeline (Dat)

variable (m : (ℓ : Loc nD τ sig) → Buf (Elt Ideal) ℓ)

/-- The index maps at every point: eleven row tiles under each of four column tiles. -/
theorem idx : ∀ t : Fin cfg0.N, win0_0.index t = ![t.val % 11, 0] ∧ win0_1.index t = ![0, 0]
    ∧ win0_2.index t = ![0, 0, t.val / 11] ∧ win0_3.index t = ![0, 0, t.val / 11 + 4]
    ∧ win0_4.index t = ![0, 0] ∧ win0_5.index t = ![t.val % 11, t.val / 11] ∧ win0_6.index t = ![t.val % 11, t.val / 11] :=
  (by decide +kernel : ∀ t : Fin grid0.N, _)

/-- An entry of the weights times an entry of the gains. -/
def scaled (W : FVec Ideal S2048x4096 .f32) (G : FVec Ideal S2048 .f32) (p : S2048x4096.Idx) (r : S2048.Idx) : EReal := W p * G r

/-- What the first point of a column tile writes to scratch: the tile's weights times the gain. -/
theorem scr_first (c : Dev nD) (t : Fin cfg0.N) (h0 : t.val % 11 = 0) (i : S2048x1024.Idx) (p : S2048x4096.Idx) (r : S2048.Idx)
    (hp0 : (p 0 : ℕ) = i 0) (hp1 : (p 1 : ℕ) = 2048 * ((i 1 : ℕ) / 512) + 512 * (t.val / 11) + (i 1 : ℕ) % 512)
    (hr0 : (r 0 : ℕ) = i 0) :
    (outsAt0 m c t.val t.isLt).2.2 i
      = scaled (m ((c : Thread nD τ).loc main_arg2)) (m ((c : Thread nD τ).loc main_arg1)) p r := by
  rw [outsAt0_A m c t h0]; frame_out
  canon_tiles x h
  all_goals (pointwise [k0_pay7, k0_pay8, k0_pay6, scaled])
  all_goals (blk_point [iblk, V, idx t])

/-- So at every point the scratch holds its column tile's weights times the gain. -/
theorem scr (c : Dev nD) (t : Fin cfg0.N) (i : S2048x1024.Idx) (p : S2048x4096.Idx) (r : S2048.Idx)
    (hp0 : (p 0 : ℕ) = i 0) (hp1 : (p 1 : ℕ) = 2048 * ((i 1 : ℕ) / 512) + 512 * (t.val / 11) + (i 1 : ℕ) % 512)
    (hr0 : (r 0 : ℕ) = i 0) :
    (outsAt0 m c t.val t.isLt).2.2 i
      = scaled (m ((c : Thread nD τ).loc main_arg2)) (m ((c : Thread nD τ).loc main_arg1)) p r := by
  rw [Pipeline.eq_of_write_hold_apply (fun n h => (outsAt0 m c n h).2.2) 11 (fun t => (outsAt0 m c t.val t.isLt).2.2)
    (fun _ _ _ => rfl) (fun t h i => by rw [outsAt0_B m c t h]; rfl) t i]
  exact scr_first m c _ (Nat.mul_mod_right 11 _) i p r hp0 (by rw [hp1]; show _ = _ + 512 * (11 * (t.val / 11) / 11) + _; omega) hr0

/-- Three factors, the last two exchanged and regrouped. -/
theorem mul_swap (a b d : EReal) : a * (b * d) = a * d * b := by rw [mul_comm b d, mul_assoc]

/-- A row's head over its root mean square depends only on the head's entries and the gain's entry. -/
theorem head_congr {A A' n n' : EReal} {f f' : Fin 128 → EReal} (hA : A = A') (hf : ∀ d, f d = f' d) (hn : n = n') (k e : EReal) :
    A * Ideal.rsqrt (Ideal.div (∑ d, f d * f d) k + e) * n = A' * Ideal.rsqrt (Ideal.div (∑ d, f' d * f' d) k + e) * n' := by
  rw [hA, hn, funext hf]

/-- The values of one column tile held in one half of the scratch. -/
def Holds (c : Dev nD) (t : Fin cfg0.N) (o : ℕ) (S : FVec Ideal S2048x512 .bf16) : Prop :=
  ∀ (i : S2048x512.Idx) (p : S2048x4096.Idx) (r : S2048.Idx), (p 0 : ℕ) = i 0 → (p 1 : ℕ) = o + 512 * (t.val / 11) + i 1 → (r 0 : ℕ) = i 0 →
    S i = scaled (m ((c : Thread nD τ).loc main_arg2)) (m ((c : Thread nD τ).loc main_arg1)) p r

/-- A row of the tile times a column of the held weights is the reference's entry. -/
theorem half (c : Dev nD) (t : Fin cfg0.N) (o : ℕ) (S : FVec Ideal S2048x512 .bf16) (hS : Holds m c t o S)
    (y : Fin 1536) (q : Fin 16896) (hq : (q : ℕ) = t.val % 11 * 1536 + y) (u : ℕ) (hu : u < 512) (v : ℕ) (hv : v < 4096) (e : v = o + 512 * (t.val / 11) + u) :
    (∑ k : Fin 2048, (show FVec Ideal S1536x2048 .bf16 from iblk m c 0 t) (ix2 y k) * S (ix2 k ⟨u, hu⟩))
        = ∑ k : Fin 2048, (show FVec Ideal S16896x2048 .bf16 from m ((c : Thread nD τ).loc main_arg0)) (ix2 q k)
            * (show FVec Ideal S2048 .f32 from m ((c : Thread nD τ).loc main_arg1)) (ix1 k)
            * (show FVec Ideal S2048x4096 .f32 from m ((c : Thread nD τ).loc main_arg2)) (ix2 k ⟨v, hv⟩) := by
  refine Finset.sum_congr rfl fun k _ => ?_
  rw [hS (ix2 k ⟨u, hu⟩) (ix2 k ⟨v, hv⟩) (ix1 k) rfl e rfl]
  refine (mul_swap _ _ _).trans ?_
  blk_point [iblk, V, idx t]

/-- A block's head 0 is the reference's. -/
theorem head0 (c : Dev nD) (t : Fin cfg0.N) (S : FVec Ideal S2048x512 .bf16) (hS : Holds m c t 0 S) (x : S1536x128.Idx) (j : S16896x2048.Idx)
    (hj0 : (j 0 : ℕ) = t.val % 11 * 1536 + x 0) (hj1 : (j 1 : ℕ) = t.val / 11 * 512 + (0 + x 1)) :
    k0_pay1 (F := Ideal) (k0_pay12 (iblk m c 0 t) S (iblk m c 4 t)) x
      = REFk (m ((c : Thread nD τ).loc main_arg0)) (m ((c : Thread nD τ).loc main_arg1)) (m ((c : Thread nD τ).loc main_arg2)) (m ((c : Thread nD τ).loc main_arg3)) j := by
  have hx : (x 1 : ℕ) < 128 := (x 1).isLt
  have hj : (j 1 : ℕ) < 2048 := (j 1).isLt
  pointwise [k0_pay1, k0_pay12, k0_pay11, k0_pay9, REFk, REFz]
  refine head_congr (half m c t 0 S hS _ _ hj0 _ _ _ _ (by omega)) (fun d => half m c t 0 S hS _ _ hj0 _ _ _ _ (by have := d.isLt; omega)) ?_ _ _
  blk_point [iblk, V, idx t]

/-- A block's head 1 is the reference's. -/
theorem head1 (c : Dev nD) (t : Fin cfg0.N) (S : FVec Ideal S2048x512 .bf16) (hS : Holds m c t 0 S) (x : S1536x128.Idx) (j : S16896x2048.Idx)
    (hj0 : (j 0 : ℕ) = t.val % 11 * 1536 + x 0) (hj1 : (j 1 : ℕ) = t.val / 11 * 512 + (128 + x 1)) :
    k0_pay2 (F := Ideal) (k0_pay13 (iblk m c 0 t) S (iblk m c 4 t)) x
      = REFk (m ((c : Thread nD τ).loc main_arg0)) (m ((c : Thread nD τ).loc main_arg1)) (m ((c : Thread nD τ).loc main_arg2)) (m ((c : Thread nD τ).loc main_arg3)) j := by
  have hx : (x 1 : ℕ) < 128 := (x 1).isLt
  have hj : (j 1 : ℕ) < 2048 := (j 1).isLt
  pointwise [k0_pay2, k0_pay13, k0_pay11, k0_pay9, REFk, REFz]
  refine head_congr (half m c t 0 S hS _ _ hj0 _ _ _ _ (by omega)) (fun d => half m c t 0 S hS _ _ hj0 _ _ _ _ (by have := d.isLt; omega)) ?_ _ _
  blk_point [iblk, V, idx t]

/-- A block's head 2 is the reference's. -/
theorem head2 (c : Dev nD) (t : Fin cfg0.N) (S : FVec Ideal S2048x512 .bf16) (hS : Holds m c t 0 S) (x : S1536x128.Idx) (j : S16896x2048.Idx)
    (hj0 : (j 0 : ℕ) = t.val % 11 * 1536 + x 0) (hj1 : (j 1 : ℕ) = t.val / 11 * 512 + (256 + x 1)) :
    k0_pay3 (F := Ideal) (k0_pay11 (iblk m c 4 t)) (k0_pay14 (iblk m c 0 t) S) (k0_pay15 (iblk m c 0 t) S) x
      = REFk (m ((c : Thread nD τ).loc main_arg0)) (m ((c : Thread nD τ).loc main_arg1)) (m ((c : Thread nD τ).loc main_arg2)) (m ((c : Thread nD τ).loc main_arg3)) j := by
  have hx : (x 1 : ℕ) < 128 := (x 1).isLt
  have hj : (j 1 : ℕ) < 2048 := (j 1).isLt
  pointwise [k0_pay3, k0_pay14, k0_pay15, k0_pay11, k0_pay9, REFk, REFz]
  refine head_congr (half m c t 0 S hS _ _ hj0 _ _ _ _ (by omega)) (fun d => half m c t 0 S hS _ _ hj0 _ _ _ _ (by have := d.isLt; omega)) ?_ _ _
  blk_point [iblk, V, idx t]

/-- A block's head 3 is the reference's. -/
theorem head3 (c : Dev nD) (t : Fin cfg0.N) (S : FVec Ideal S2048x512 .bf16) (hS : Holds m c t 0 S) (x : S1536x128.Idx) (j : S16896x2048.Idx)
    (hj0 : (j 0 : ℕ) = t.val % 11 * 1536 + x 0) (hj1 : (j 1 : ℕ) = t.val / 11 * 512 + (384 + x 1)) :
    k0_pay4 (F := Ideal) (k0_pay9 (iblk m c 0 t) S) (k0_pay11 (iblk m c 4 t)) x
      = REFk (m ((c : Thread nD τ).loc main_arg0)) (m ((c : Thread nD τ).loc main_arg1)) (m ((c : Thread nD τ).loc main_arg2)) (m ((c : Thread nD τ).loc main_arg3)) j := by
  have hx : (x 1 : ℕ) < 128 := (x 1).isLt
  have hj : (j 1 : ℕ) < 2048 := (j 1).isLt
  pointwise [k0_pay4, k0_pay11, k0_pay9, REFk, REFz]
  refine head_congr (half m c t 0 S hS _ _ hj0 _ _ _ _ (by omega)) (fun d => half m c t 0 S hS _ _ hj0 _ _ _ _ (by have := d.isLt; omega)) ?_ _ _
  blk_point [iblk, V, idx t]

/-- The row of an entry of a half. -/
theorem emb_0 (o : ℕ) (inb : ∀ a, (![0, o] : Fin 2 → ℕ) a + (![2048, 512] : Fin 2 → ℕ) a ≤ S2048x1024.size a) (i : S2048x512.Idx) :
    (((Rect.unit (s := S2048x1024) ![0, o] ![2048, 512] inb).emb i 0 : Fin _) : ℕ) = i 0 := by
  rw [Rect.emb_apply]; show 0 + 1 * (i 0 : ℕ) = _; omega

/-- The column of an entry of a half. -/
theorem emb_1 (o : ℕ) (inb : ∀ a, (![0, o] : Fin 2 → ℕ) a + (![2048, 512] : Fin 2 → ℕ) a ≤ S2048x1024.size a) (i : S2048x512.Idx) :
    (((Rect.unit (s := S2048x1024) ![0, o] ![2048, 512] inb).emb i 1 : Fin _) : ℕ) = o + i 1 := by
  rw [Rect.emb_apply]; show o + 1 * (i 1 : ℕ) = _; omega

/-- The half the first point of a column tile reads back from what it has just stored. -/
theorem holds_first (c : Dev nD) (t : Fin cfg0.N) (h0 : t.val % 11 = 0) (o : ℕ) (ho : o = 0 ∨ o = 512)
    (inb : ∀ a, (![0, o] : Fin 2 → ℕ) a + (![2048, 512] : Fin 2 → ℕ) a ≤ S2048x1024.size a) :
    Holds m c t (4 * o) ((View.whole cc0_scratch0).readCov (Val := Elt Ideal)
          [⟨Rect.unit ![0, 512] ![2048, 512] inb_S2048x1024_S2048x512_0_512, k0_pay8 (iblk m c 1 t) (iblk m c 3 t)⟩,
            ⟨Rect.unit ![0, 0] ![2048, 512] inb_S2048x1024_S2048x512_0_0, k0_pay7 (iblk m c 1 t) (iblk m c 2 t)⟩]
          (Rect.unit (s := S2048x1024) ![0, o] ![2048, 512] inb).toLoadRect) := by
  intro i p r hp0 hp1 hr0
  have hi : (i 1 : ℕ) < 512 := (i 1).isLt
  refine Eq.trans ?_ (scr_first m c t h0 ((Rect.unit (s := S2048x1024) ![0, o] ![2048, 512] inb).emb i) p r ?_ ?_ ?_)
  · rw [View.readCov_eq_canon', outsAt0_A m c t h0]; frame_out
    rfl
  · rw [hp0, emb_0]
  · rw [hp1, emb_1]; omega
  · rw [hr0, emb_0]

/-- The half a later point reads of what the scratch holds. -/
theorem holds_later (c : Dev nD) (t : Fin cfg0.N) (h0 : ¬t.val % 11 = 0) (o : ℕ) (ho : o = 0 ∨ o = 512)
    (inb : ∀ a, (![0, o] : Fin 2 → ℕ) a + (![2048, 512] : Fin 2 → ℕ) a ≤ S2048x1024.size a) :
    Holds m c t (4 * o) (View.ld (outsAt0 m c (t.val - 1) (Nat.lt_of_le_of_lt (Nat.sub_le _ _) t.isLt)).2.2
          (Rect.unit (s := S2048x1024) ![0, o] ![2048, 512] inb)) := by
  intro i p r hp0 hp1 hr0
  have hi : (i 1 : ℕ) < 512 := (i 1).isLt
  have hs := scr m c t
  rw [outsAt0_B m c t h0] at hs
  refine Eq.trans ?_ (hs ((Rect.unit (s := S2048x1024) ![0, o] ![2048, 512] inb).emb i) p r ?_ ?_ ?_)
  · rfl
  · rw [hp0, emb_0]
  · rw [hp1, emb_1]; omega
  · rw [hr0, emb_0]

/-- The product of a row tile and the held values' weights is the reference's values. -/
theorem vals (c : Dev nD) (t : Fin cfg0.N) (S : FVec Ideal S2048x512 .bf16) (hS : Holds m c t 2048 S) (x : S1536x512.Idx) (j : S16896x2048.Idx)
    (hj0 : (j 0 : ℕ) = t.val % 11 * 1536 + x 0) (hj1 : (j 1 : ℕ) = t.val / 11 * 512 + x 1) :
    k0_pay5 (F := Ideal) (k0_pay10 (iblk m c 0 t) S) x
      = REFv (m ((c : Thread nD τ).loc main_arg0)) (m ((c : Thread nD τ).loc main_arg1)) (m ((c : Thread nD τ).loc main_arg2)) j := by
  have hj : (j 1 : ℕ) < 2048 := (j 1).isLt
  pointwise [k0_pay5, k0_pay10, REFv, REFz]
  exact half m c t 2048 S hS _ _ hj0 _ _ _ _ (by omega)

/-- The kernel's values are the reference's. -/
theorem final_v (c : Dev nD) : (dats m 0 c).arrAt 6 cfg0.N
    = REFv (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6]
  by_cases hc : t.val % 11 = 0
  · rw [outsAt0_A m c t hc]; frame_out
    exact vals m c t _ (holds_first m c t hc 512 (.inr rfl) _) y _ (by blk_simp [idx t]) (by blk_simp [idx t])
  · rw [outsAt0_B m c t hc]; frame_out; rw [read_unread_whole]
    exact vals m c t _ (holds_later m c t hc 512 (.inr rfl) _) y _ (by blk_simp [idx t]) (by blk_simp [idx t])

/-- The kernel's keys are the reference's. -/
theorem final_k (c : Dev nD) : (dats m 0 c).arrAt 5 cfg0.N
    = REFk (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  by_cases hc : t.val % 11 = 0
  · rw [outsAt0_A m c t hc]; frame_out
    canon_tiles x h
    · exact head3 m c t _ (holds_first m c t hc 0 (.inl rfl) _) x _ (by blk_simp [idx t]; omega) (by blk_simp [idx t]; omega)
    · exact head2 m c t _ (holds_first m c t hc 0 (.inl rfl) _) x _ (by blk_simp [idx t]; omega) (by blk_simp [idx t]; omega)
    · exact head1 m c t _ (holds_first m c t hc 0 (.inl rfl) _) x _ (by blk_simp [idx t]; omega) (by blk_simp [idx t]; omega)
    · exact head0 m c t _ (holds_first m c t hc 0 (.inl rfl) _) x _ (by blk_simp [idx t]; omega) (by blk_simp [idx t]; omega)
  · rw [outsAt0_B m c t hc]; frame_out; rw [read_unread_whole]
    canon_tiles x h
    · exact head3 m c t _ (holds_later m c t hc 0 (.inl rfl) _) x _ (by blk_simp [idx t]; omega) (by blk_simp [idx t]; omega)
    · exact head2 m c t _ (holds_later m c t hc 0 (.inl rfl) _) x _ (by blk_simp [idx t]; omega) (by blk_simp [idx t]; omega)
    · exact head1 m c t _ (holds_later m c t hc 0 (.inl rfl) _) x _ (by blk_simp [idx t]; omega) (by blk_simp [idx t]; omega)
    · exact head0 m c t _ (holds_later m c t hc 0 (.inl rfl) _) x _ (by blk_simp [idx t]; omega) (by blk_simp [idx t]; omega)

end Cert.KvKernelIdeal.Value

namespace Cert.Proof

open Idealize.ShloMosaic Idealize.ShloMosaic.TcCoe Idealize.SL.Sem

/-- The key and value projection's kernel and reference end with equal results. -/
theorem algebraic_Kv : Cert.algebraic_KvKernelIdeal_KvReferenceIdeal := by
  pair_intro
  · run_from Cert.KvKernelIdeal.Value.run_blocks m g
  · run_from Cert.KvReferenceIdeal.Value.run m' g'
    · exact (Cert.KvKernelIdeal.Value.final_k m c).symm
    · exact (Cert.KvKernelIdeal.Value.final_v m c).symm

end Cert.Proof

end
-- ==== Proof.Q.Value.lean ====
module

public import proofs.«01_k».proof.Proof.Gen.QKernelIdeal.Frame
public import proofs.«01_k».proof.Proof.Gen.QKernelIdeal.Value
public import proofs.«01_k».proof.Proof.Gen.QReferenceIdeal.Run
public import proofs.«01_k».proof.Defs
public import Idealize.ShloMosaic.Lib.Pipeline.ValueKit
public import Idealize.ShloMosaic.Lib.Pipeline.ValueKit.Held
public import Idealize.ShloMosaic.Lib.Pipeline.ReadBack
public import Idealize.ShloMosaic.Lib.VecWindow
public import Idealize.ShloMosaic.Lib.Pointwise
public import Idealize.ShloMosaic.Lib.Claim

/-! Queries: gain times weights kept in scratch along a column tile, one product per row tile, every head scaled to unit
    root mean square and by the score's scale. -/

set_option maxRecDepth 16384

@[expose] public section

noncomputable section

namespace Cert.QReferenceIdeal.Pure

open Cert.QReferenceIdeal Cert.QReferenceIdeal.Gen
open Idealize.ShloMosaic Idealize.ShloMosaic.TcCoe Idealize.SL.Sem

/-- The reference's projection of the scaled rows. -/
def REFz (x : FVec Ideal S16896x2048 .bf16) (g : FVec Ideal S2x2048 .f32) (w : FVec Ideal S2x2048x2048 .f32) :
    FVec Ideal S16896x2048 .f32 :=
  Host.dotGeneral dot_S16896x2048_S2048x2048_S16896x2048_1_0_0_1_n_n none (mulf (extf .f32 x bitsLt_bf16_f32) (broadcastInDim S16896x2048 ![0, 1] bcast_S1x2048_S16896x2048_0_1 (broadcastInDim S1x2048 ![1] bcast_S2048_S1x2048_1 (shapeCast _ (extractStridedSlice S1x2048 ![0, 0] g slices_S2x2048_S1x2048_0_0) shapeCasts_S1x2048_S2048)))) (shapeCast _ (extractStridedSlice S1x2048x2048 ![0, 0, 0] w slices_S2x2048x2048_S1x2048x2048_0_0_0) shapeCasts_S1x2048x2048_S2048x2048)

/-- The reference's queries: every head's row over its root mean square, times the gain, over √128 · ln 2. -/
def REFq (x : FVec Ideal S16896x2048 .bf16) (g : FVec Ideal S2x2048 .f32) (w : FVec Ideal S2x2048x2048 .f32) (n : FVec Ideal S2x128 .f32) :
    FVec Ideal S16896x2048 .bf16 :=
  truncf .bf16 (shapeCast _ (Host.divf (Host.divf (mulf (mulf (shapeCast _ (REFz x g w) shapeCasts_S16896x2048_S16896x16x128) (broadcastInDim S16896x16x128 ![0, 1, 2] bcast_S16896x16x1_S16896x16x128_0_1_2 (Host.rsqrt (addf (Host.divf (broadcastInDim S16896x16x1 ![0, 1] bcast_S16896x16_S16896x16x1_0_1 (Host.reduceAdd (mulf (shapeCast _ (REFz x g w) shapeCasts_S16896x2048_S16896x16x128) (shapeCast _ (REFz x g w) shapeCasts_S16896x2048_S16896x16x128)) (constant S_ .f32 0x00000000#32) reducesTo_S16896x16x128_S16896x16_d2 h_S_)) (broadcastInDim S16896x16x1 ![] bcast_S_S16896x16x1 (constant S_ .f32 0x43000000#32))) (broadcastInDim S16896x16x1 ![] bcast_S_S16896x16x1 (constant S_ .f32 0x358637BD#32)))))) (broadcastInDim S16896x16x128 ![0, 1, 2] bcast_S1x1x128_S16896x16x128_0_1_2 (broadcastInDim S1x1x128 ![2] bcast_S128_S1x1x128_2 (shapeCast _ (extractStridedSlice S1x128 ![0, 0] n slices_S2x128_S1x128_0_0) shapeCasts_S1x128_S128)))) (broadcastInDim S16896x16x128 ![] bcast_S_S16896x16x128 (Host.sqrt (constant S_ .f32 0x43000000#32)))) (broadcastInDim S16896x16x128 ![] bcast_S_S16896x16x128 (Host.log (constant S_ .f32 0x40000000#32)))) shapeCasts_S16896x16x128_S16896x2048) bitsLt_bf16_f32

end Cert.QReferenceIdeal.Pure

namespace Cert.QKernelIdeal.Value

open Cert.QKernelIdeal Cert.QKernelIdeal.Gen Cert.QReferenceIdeal.Pure
open Idealize.ShloMosaic Idealize.ShloMosaic.TcCoe Idealize.SL.Sem
open Idealize.ShloMosaic.Pipeline (Dat)

variable (m : (ℓ : Loc nD τ sig) → Buf (Elt Ideal) ℓ)

/-- The kernel's scale over the extended reals. -/
theorem scale_named : Named.named (F := Ideal) Cert.QKernelIdeal.κ "score_scale" (φ := .f32) 0x3E0293EE#32
    = (((Real.log 2)⁻¹ * (Real.sqrt 128)⁻¹ : ℝ) : EReal) :=
  IdealRules.named_const.ideal_named_scalar _ _ _ _ rfl

/-- The word of 128 over the extended reals. -/
theorem word_128 : Ideal.ofBits .f32 0x43000000#32 = ((128 : ℝ) : EReal) := by
  simp [Ideal.ofBits, Ideal.ieee, -EReal.coe_mul]; norm_num

/-- The word of 2 over the extended reals. -/
theorem word_2 : Ideal.ofBits .f32 0x40000000#32 = ((2 : ℝ) : EReal) := by
  simp [Ideal.ofBits, Ideal.ieee, -EReal.coe_mul]; norm_num

/-- The kernel's scale is a division by √128 and by ln 2. -/
theorem scaled_congr {a a' : EReal} (h : a = a') :
    a * Named.named (F := Ideal) Cert.QKernelIdeal.κ "score_scale" (φ := .f32) 0x3E0293EE#32
      = Ideal.div (Ideal.div a' (Ideal.sqrt (Ideal.ofBits .f32 0x43000000#32))) (Ideal.log (Ideal.ofBits .f32 0x40000000#32)) := by
  rw [h, scale_named, word_128, word_2, Ideal.sqrt_coe, if_neg (by norm_num), Ideal.log_coe, if_neg (by norm_num),
    Ideal.div_coe (Real.sqrt_pos.mpr (by norm_num)).ne', Ideal.div_coe (Real.log_pos (by norm_num)).ne', mul_assoc, ← EReal.coe_mul]
  congr 2
  rw [one_div, one_div, mul_comm]

/-- The index maps at every point: twenty-two row tiles under each of two column tiles. -/
theorem idx : ∀ t : Fin cfg0.N, win0_0.index t = ![t.val % 22, 0] ∧ win0_1.index t = ![0, 0]
    ∧ win0_2.index t = ![0, 0, t.val / 22] ∧ win0_3.index t = ![0, 0] ∧ win0_4.index t = ![t.val % 22, t.val / 22] :=
  (by decide +kernel : ∀ t : Fin grid0.N, _)

/-- An entry of the weights times an entry of the gains. -/
def scaled (W : FVec Ideal S2x2048x2048 .f32) (G : FVec Ideal S2x2048 .f32) (p : S2x2048x2048.Idx) (r : S2x2048.Idx) : EReal := W p * G r

/-- A scratch that holds a column tile's scaled weights. -/
def Holds (c : Dev nD) (t : ℕ) (S : FVec Ideal S2048x1024 .bf16) : Prop :=
  ∀ (i : S2048x1024.Idx) (p : S2x2048x2048.Idx) (r : S2x2048.Idx), (p 0 : ℕ) = 0 → (p 1 : ℕ) = i 0 → (p 2 : ℕ) = 1024 * (t / 22) + i 1 →
    (r 0 : ℕ) = 0 → (r 1 : ℕ) = i 0 →
    S i = scaled (m ((c : Thread nD τ).loc main_arg2)) (m ((c : Thread nD τ).loc main_arg1)) p r

/-- What the first point of a column tile writes to scratch: the tile's weights times the gain. -/
theorem scr_first (c : Dev nD) (t : Fin cfg0.N) (hc : t.val % 22 = 0) : Holds m c t.val (outsAt0 m c t.val t.isLt).2 := by
  intro i p r hp0 hp1 hp2 hr0 hr1
  rw [outsAt0_A m c t hc]; frame_out
  canon_tiles x h
  all_goals (pointwise [k0_pay8, k0_pay9, k0_pay10, k0_pay11, k0_pay12, scaled])
  all_goals (blk_point [iblk, V, idx t])

/-- So at every point the scratch holds its column tile's weights times the gain. -/
theorem scr (c : Dev nD) (t : Fin cfg0.N) : Holds m c t.val (outsAt0 m c t.val t.isLt).2 := by
  intro i p r hp0 hp1 hp2 hr0 hr1
  rw [Pipeline.eq_of_write_hold_apply (fun n h => (outsAt0 m c n h).2) 22 (fun t => (outsAt0 m c t.val t.isLt).2)
    (fun _ _ _ => rfl) (fun t h i => by rw [outsAt0_B m c t h]; rfl) t i]
  exact scr_first m c _ (Nat.mul_mod_right 22 _) i p r hp0 hp1 (by rw [hp2]; show _ = 1024 * (22 * (t.val / 22) / 22) + _; omega) hr0 hr1

/-- Three factors, the last two exchanged and regrouped. -/
theorem mul_swap (a b d : EReal) : a * (b * d) = a * d * b := by rw [mul_comm b d, mul_assoc]

/-- A row's head over its root mean square depends only on the head's entries and the gain's entry. -/
theorem head_congr {A A' n n' : EReal} {f f' : Fin 128 → EReal} (hA : A = A') (hf : ∀ d, f d = f' d) (hn : n = n') (k e : EReal) :
    A * Ideal.rsqrt (Ideal.div (∑ d, f d * f d) k + e) * n = A' * Ideal.rsqrt (Ideal.div (∑ d, f' d * f' d) k + e) * n' := by
  rw [hA, hn, funext hf]

/-- The tile's product, its four parts joined again, at an index. -/
theorem joined_at (X : FVec Ideal S768x2048 .bf16) (S : FVec Ideal S2048x1024 .bf16) (y : Fin 768) (u : Fin 1024) :
    k0_pay13 (F := Ideal) X S (ix2 y u) = ∑ k : Fin 2048, X (ix2 y k) * S (ix2 k u) := by
  have hu := u.isLt
  pointwise [k0_pay13]
  split_ifs with h1 h2 h3
  · rfl
  all_goals (refine Finset.sum_congr rfl fun k _ => congrArg (fun z : Fin 1024 => X (ix2 y k) * S (ix2 k z)) (Fin.ext ?_); dsimp only; omega)

/-- A row of the tile times a column of the held weights is the reference's entry. -/
theorem row (c : Dev nD) (t : Fin cfg0.N) (S : FVec Ideal S2048x1024 .bf16) (hS : Holds m c t.val S)
    (y : Fin 768) (q : Fin 16896) (hq : (q : ℕ) = t.val % 22 * 768 + y) (u : ℕ) (hu : u < 1024) (v : ℕ) (hv : v < 2048) (e : v = 1024 * (t.val / 22) + u) :
    k0_pay13 (F := Ideal) (iblk m c 0 t) S (ix2 y ⟨u, hu⟩)
        = ∑ k : Fin 2048, (show FVec Ideal S16896x2048 .bf16 from m ((c : Thread nD τ).loc main_arg0)) (ix2 q k)
            * (show FVec Ideal S2x2048 .f32 from m ((c : Thread nD τ).loc main_arg1)) (ix2 0 k)
            * (show FVec Ideal S2x2048x2048 .f32 from m ((c : Thread nD τ).loc main_arg2)) (ix3 0 k ⟨v, hv⟩) := by
  rw [joined_at]
  refine Finset.sum_congr rfl fun k _ => ?_
  rw [hS (ix2 k ⟨u, hu⟩) (ix3 0 k ⟨v, hv⟩) (ix2 0 k) rfl rfl e rfl rfl]
  refine (mul_swap _ _ _).trans ?_
  blk_point [iblk, V, idx t]

/-- A block's head 0 is the reference's. -/
theorem head0 (c : Dev nD) (t : Fin cfg0.N) (S : FVec Ideal S2048x1024 .bf16) (hS : Holds m c t.val S) (x : S768x128.Idx) (j : S16896x2048.Idx)
    (hj0 : (j 0 : ℕ) = t.val % 22 * 768 + x 0) (hj1 : (j 1 : ℕ) = t.val / 22 * 1024 + (0 + x 1)) :
    k0_pay24 (F := Ideal) (k0_pay15 (iblk m c 0 t) S (iblk m c 3 t)) x
      = REFq (m ((c : Thread nD τ).loc main_arg0)) (m ((c : Thread nD τ).loc main_arg1)) (m ((c : Thread nD τ).loc main_arg2)) (m ((c : Thread nD τ).loc main_arg3)) j := by
  have hx : (x 1 : ℕ) < 128 := (x 1).isLt
  have hj : (j 1 : ℕ) < 2048 := (j 1).isLt
  pointwise [k0_pay24, k0_pay15, k0_pay14, REFq, REFz]
  refine scaled_congr (head_congr (row m c t S hS _ _ hj0 _ _ _ _ (by omega)) (fun d => row m c t S hS _ _ hj0 _ _ _ _ (by have := d.isLt; omega)) ?_ _ _)
  blk_point [iblk, V, idx t]

/-- A block's head 1 is the reference's. -/
theorem head1 (c : Dev nD) (t : Fin cfg0.N) (S : FVec Ideal S2048x1024 .bf16) (hS : Holds m c t.val S) (x : S768x128.Idx) (j : S16896x2048.Idx)
    (hj0 : (j 0 : ℕ) = t.val % 22 * 768 + x 0) (hj1 : (j 1 : ℕ) = t.val / 22 * 1024 + (128 + x 1)) :
    k0_pay1 (F := Ideal) (k0_pay17 (k0_pay16 (iblk m c 0 t) S (iblk m c 3 t))) x
      = REFq (m ((c : Thread nD τ).loc main_arg0)) (m ((c : Thread nD τ).loc main_arg1)) (m ((c : Thread nD τ).loc main_arg2)) (m ((c : Thread nD τ).loc main_arg3)) j := by
  have hx : (x 1 : ℕ) < 128 := (x 1).isLt
  have hj : (j 1 : ℕ) < 2048 := (j 1).isLt
  pointwise [k0_pay1, k0_pay17, k0_pay16, k0_pay14, REFq, REFz]
  refine scaled_congr (head_congr (row m c t S hS _ _ hj0 _ _ _ _ (by omega)) (fun d => row m c t S hS _ _ hj0 _ _ _ _ (by have := d.isLt; omega)) ?_ _ _)
  blk_point [iblk, V, idx t]

/-- A block's head 2 is the reference's. -/
theorem head2 (c : Dev nD) (t : Fin cfg0.N) (S : FVec Ideal S2048x1024 .bf16) (hS : Holds m c t.val S) (x : S768x128.Idx) (j : S16896x2048.Idx)
    (hj0 : (j 0 : ℕ) = t.val % 22 * 768 + x 0) (hj1 : (j 1 : ℕ) = t.val / 22 * 1024 + (256 + x 1)) :
    k0_pay2 (F := Ideal) (k0_pay18 (k0_pay13 (iblk m c 0 t) S) (k0_pay14 (iblk m c 3 t))) x
      = REFq (m ((c : Thread nD τ).loc main_arg0)) (m ((c : Thread nD τ).loc main_arg1)) (m ((c : Thread nD τ).loc main_arg2)) (m ((c : Thread nD τ).loc main_arg3)) j := by
  have hx : (x 1 : ℕ) < 128 := (x 1).isLt
  have hj : (j 1 : ℕ) < 2048 := (j 1).isLt
  pointwise [k0_pay2, k0_pay18, k0_pay14, REFq, REFz]
  refine scaled_congr (head_congr (row m c t S hS _ _ hj0 _ _ _ _ (by omega)) (fun d => row m c t S hS _ _ hj0 _ _ _ _ (by have := d.isLt; omega)) ?_ _ _)
  blk_point [iblk, V, idx t]

/-- A block's head 3 is the reference's. -/
theorem head3 (c : Dev nD) (t : Fin cfg0.N) (S : FVec Ideal S2048x1024 .bf16) (hS : Holds m c t.val S) (x : S768x128.Idx) (j : S16896x2048.Idx)
    (hj0 : (j 0 : ℕ) = t.val % 22 * 768 + x 0) (hj1 : (j 1 : ℕ) = t.val / 22 * 1024 + (384 + x 1)) :
    k0_pay3 (F := Ideal) (k0_pay19 (k0_pay13 (iblk m c 0 t) S) (k0_pay14 (iblk m c 3 t))) x
      = REFq (m ((c : Thread nD τ).loc main_arg0)) (m ((c : Thread nD τ).loc main_arg1)) (m ((c : Thread nD τ).loc main_arg2)) (m ((c : Thread nD τ).loc main_arg3)) j := by
  have hx : (x 1 : ℕ) < 128 := (x 1).isLt
  have hj : (j 1 : ℕ) < 2048 := (j 1).isLt
  pointwise [k0_pay3, k0_pay19, k0_pay14, REFq, REFz]
  refine scaled_congr (head_congr (row m c t S hS _ _ hj0 _ _ _ _ (by omega)) (fun d => row m c t S hS _ _ hj0 _ _ _ _ (by have := d.isLt; omega)) ?_ _ _)
  blk_point [iblk, V, idx t]

/-- A block's head 4 is the reference's. -/
theorem head4 (c : Dev nD) (t : Fin cfg0.N) (S : FVec Ideal S2048x1024 .bf16) (hS : Holds m c t.val S) (x : S768x128.Idx) (j : S16896x2048.Idx)
    (hj0 : (j 0 : ℕ) = t.val % 22 * 768 + x 0) (hj1 : (j 1 : ℕ) = t.val / 22 * 1024 + (512 + x 1)) :
    k0_pay4 (F := Ideal) (k0_pay20 (k0_pay13 (iblk m c 0 t) S) (k0_pay14 (iblk m c 3 t))) x
      = REFq (m ((c : Thread nD τ).loc main_arg0)) (m ((c : Thread nD τ).loc main_arg1)) (m ((c : Thread nD τ).loc main_arg2)) (m ((c : Thread nD τ).loc main_arg3)) j := by
  have hx : (x 1 : ℕ) < 128 := (x 1).isLt
  have hj : (j 1 : ℕ) < 2048 := (j 1).isLt
  pointwise [k0_pay4, k0_pay20, k0_pay14, REFq, REFz]
  refine scaled_congr (head_congr (row m c t S hS _ _ hj0 _ _ _ _ (by omega)) (fun d => row m c t S hS _ _ hj0 _ _ _ _ (by have := d.isLt; omega)) ?_ _ _)
  blk_point [iblk, V, idx t]

/-- A block's head 5 is the reference's. -/
theorem head5 (c : Dev nD) (t : Fin cfg0.N) (S : FVec Ideal S2048x1024 .bf16) (hS : Holds m c t.val S) (x : S768x128.Idx) (j : S16896x2048.Idx)
    (hj0 : (j 0 : ℕ) = t.val % 22 * 768 + x 0) (hj1 : (j 1 : ℕ) = t.val / 22 * 1024 + (640 + x 1)) :
    k0_pay5 (F := Ideal) (k0_pay21 (k0_pay13 (iblk m c 0 t) S) (k0_pay14 (iblk m c 3 t))) x
      = REFq (m ((c : Thread nD τ).loc main_arg0)) (m ((c : Thread nD τ).loc main_arg1)) (m ((c : Thread nD τ).loc main_arg2)) (m ((c : Thread nD τ).loc main_arg3)) j := by
  have hx : (x 1 : ℕ) < 128 := (x 1).isLt
  have hj : (j 1 : ℕ) < 2048 := (j 1).isLt
  pointwise [k0_pay5, k0_pay21, k0_pay14, REFq, REFz]
  refine scaled_congr (head_congr (row m c t S hS _ _ hj0 _ _ _ _ (by omega)) (fun d => row m c t S hS _ _ hj0 _ _ _ _ (by have := d.isLt; omega)) ?_ _ _)
  blk_point [iblk, V, idx t]

/-- A block's head 6 is the reference's. -/
theorem head6 (c : Dev nD) (t : Fin cfg0.N) (S : FVec Ideal S2048x1024 .bf16) (hS : Holds m c t.val S) (x : S768x128.Idx) (j : S16896x2048.Idx)
    (hj0 : (j 0 : ℕ) = t.val % 22 * 768 + x 0) (hj1 : (j 1 : ℕ) = t.val / 22 * 1024 + (768 + x 1)) :
    k0_pay6 (F := Ideal) (k0_pay22 (k0_pay13 (iblk m c 0 t) S) (k0_pay14 (iblk m c 3 t))) x
      = REFq (m ((c : Thread nD τ).loc main_arg0)) (m ((c : Thread nD τ).loc main_arg1)) (m ((c : Thread nD τ).loc main_arg2)) (m ((c : Thread nD τ).loc main_arg3)) j := by
  have hx : (x 1 : ℕ) < 128 := (x 1).isLt
  have hj : (j 1 : ℕ) < 2048 := (j 1).isLt
  pointwise [k0_pay6, k0_pay22, k0_pay14, REFq, REFz]
  refine scaled_congr (head_congr (row m c t S hS _ _ hj0 _ _ _ _ (by omega)) (fun d => row m c t S hS _ _ hj0 _ _ _ _ (by have := d.isLt; omega)) ?_ _ _)
  blk_point [iblk, V, idx t]

/-- A block's head 7 is the reference's. -/
theorem head7 (c : Dev nD) (t : Fin cfg0.N) (S : FVec Ideal S2048x1024 .bf16) (hS : Holds m c t.val S) (x : S768x128.Idx) (j : S16896x2048.Idx)
    (hj0 : (j 0 : ℕ) = t.val % 22 * 768 + x 0) (hj1 : (j 1 : ℕ) = t.val / 22 * 1024 + (896 + x 1)) :
    k0_pay7 (F := Ideal) (k0_pay23 (k0_pay13 (iblk m c 0 t) S) (k0_pay14 (iblk m c 3 t))) x
      = REFq (m ((c : Thread nD τ).loc main_arg0)) (m ((c : Thread nD τ).loc main_arg1)) (m ((c : Thread nD τ).loc main_arg2)) (m ((c : Thread nD τ).loc main_arg3)) j := by
  have hx : (x 1 : ℕ) < 128 := (x 1).isLt
  have hj : (j 1 : ℕ) < 2048 := (j 1).isLt
  pointwise [k0_pay7, k0_pay23, k0_pay14, REFq, REFz]
  refine scaled_congr (head_congr (row m c t S hS _ _ hj0 _ _ _ _ (by omega)) (fun d => row m c t S hS _ _ hj0 _ _ _ _ (by have := d.isLt; omega)) ?_ _ _)
  blk_point [iblk, V, idx t]

/-- The scaled weights as a later point of the column tile finds them. -/
theorem held (c : Dev nD) (t : Fin cfg0.N) (hc : ¬t.val % 22 = 0) :
    Holds m c t.val (outsAt0 m c (t.val - 1) (Nat.lt_of_le_of_lt (Nat.sub_le _ _) t.isLt)).2 := by
  intro i p r q1 q2 q3 q4 q5
  exact scr m c ⟨t.val - 1, Nat.lt_of_le_of_lt (Nat.sub_le _ _) t.isLt⟩ i p r q1 q2 (by rw [q3]; show _ = 1024 * ((t.val - 1) / 22) + _; omega) q4 q5

/-- The scaled weights as the first point of a column tile reads them back. -/
theorem first (c : Dev nD) (t : Fin cfg0.N) (hc : t.val % 22 = 0) : Holds m c t.val
    (View.readCov (Val := Elt Ideal) (View.whole cc0_scratch0)
        [⟨Rect.unit ![0, 768] ![2048, 256] inb_S2048x1024_S2048x256_0_768, k0_pay12 (iblk m c 1 t)
            (View.ld (iblk m c 2 t) (Rect.unit ![0, 0, 768] ![1, 2048, 256] inb_S1x2048x1024_S1x2048x256_0_0_768))⟩, ⟨Rect.unit ![0, 512] ![2048, 256] inb_S2048x1024_S2048x256_0_512, k0_pay11 (iblk m c 1 t)
            (View.ld (iblk m c 2 t) (Rect.unit ![0, 0, 512] ![1, 2048, 256] inb_S1x2048x1024_S1x2048x256_0_0_512))⟩, ⟨Rect.unit ![0, 256] ![2048, 256] inb_S2048x1024_S2048x256_0_256, k0_pay10 (iblk m c 1 t)
            (View.ld (iblk m c 2 t) (Rect.unit ![0, 0, 256] ![1, 2048, 256] inb_S1x2048x1024_S1x2048x256_0_0_256))⟩, ⟨Rect.unit ![0, 0] ![2048, 256] inb_S2048x1024_S2048x256_0_0, k0_pay9 (iblk m c 1 t)
            (View.ld (iblk m c 2 t) (Rect.unit ![0, 0, 0] ![1, 2048, 256] inb_S1x2048x1024_S1x2048x256_0_0_0))⟩]
        (Rect.unit (s := S2048x1024) ![0, 0] ![2048, 1024] inb_S2048x1024_S2048x1024_0_0).toLoadRect) := by
  intro i p r q1 q2 q3 q4 q5
  refine Eq.trans ?_ (scr m c t i p r q1 q2 q3 q4 q5)
  rw [View.readCov_eq_canon', outsAt0_A m c t hc]; frame_out
  show View.canon _ ((Rect.unit (s := S2048x1024) ![0, 0] ![2048, 1024] inb_S2048x1024_S2048x1024_0_0).emb i) = _
  exact congrArg _ (Rect.emb_unit_full (s := S2048x1024) inb_S2048x1024_S2048x1024_0_0 i)

/-- The kernel's queries are the reference's. -/
theorem final (c : Dev nD) : (dats m 0 c).arrAt 4 cfg0.N
    = REFq (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  by_cases hc : t.val % 22 = 0
  · rw [outsAt0_A m c t hc]; frame_out
    have hS := first m c t hc
    canon_tiles x h
    · exact head7 m c t _ hS x _ (by blk_simp [idx t]; omega) (by blk_simp [idx t]; omega)
    · exact head6 m c t _ hS x _ (by blk_simp [idx t]; omega) (by blk_simp [idx t]; omega)
    · exact head5 m c t _ hS x _ (by blk_simp [idx t]; omega) (by blk_simp [idx t]; omega)
    · exact head4 m c t _ hS x _ (by blk_simp [idx t]; omega) (by blk_simp [idx t]; omega)
    · exact head3 m c t _ hS x _ (by blk_simp [idx t]; omega) (by blk_simp [idx t]; omega)
    · exact head2 m c t _ hS x _ (by blk_simp [idx t]; omega) (by blk_simp [idx t]; omega)
    · exact head1 m c t _ hS x _ (by blk_simp [idx t]; omega) (by blk_simp [idx t]; omega)
    · exact head0 m c t _ hS x _ (by blk_simp [idx t]; omega) (by blk_simp [idx t]; omega)
  · have hS := held m c t hc
    rw [outsAt0_B m c t hc]; frame_out; rw [read_unread_whole]
    canon_tiles x h
    · exact head7 m c t _ hS x _ (by blk_simp [idx t]; omega) (by blk_simp [idx t]; omega)
    · exact head6 m c t _ hS x _ (by blk_simp [idx t]; omega) (by blk_simp [idx t]; omega)
    · exact head5 m c t _ hS x _ (by blk_simp [idx t]; omega) (by blk_simp [idx t]; omega)
    · exact head4 m c t _ hS x _ (by blk_simp [idx t]; omega) (by blk_simp [idx t]; omega)
    · exact head3 m c t _ hS x _ (by blk_simp [idx t]; omega) (by blk_simp [idx t]; omega)
    · exact head2 m c t _ hS x _ (by blk_simp [idx t]; omega) (by blk_simp [idx t]; omega)
    · exact head1 m c t _ hS x _ (by blk_simp [idx t]; omega) (by blk_simp [idx t]; omega)
    · exact head0 m c t _ hS x _ (by blk_simp [idx t]; omega) (by blk_simp [idx t]; omega)

end Cert.QKernelIdeal.Value

namespace Cert.Proof

open Idealize.ShloMosaic Idealize.ShloMosaic.TcCoe Idealize.SL.Sem

/-- The query projection's kernel and reference end with equal results. -/
theorem algebraic_Q : Cert.algebraic_QKernelIdeal_QReferenceIdeal := by
  pair_intro
  · run_from Cert.QKernelIdeal.Value.run_blocks m g
  · run_from Cert.QReferenceIdeal.Value.run m' g'
    · exact (Cert.QKernelIdeal.Value.final m c).symm

/-- The query kernel's text is kept but for the score's scale, which is named (ln 2)⁻¹ · (√128)⁻¹. -/
theorem preserves_Q : Cert.preserves_QKernel_QKernelIdeal :=
  IdealRules.named_const.statement Cert.QKernelIdeal.κ "score_scale" .f32 0x3E0293EE#32 (((Real.log 2)⁻¹ * (Real.sqrt 128)⁻¹ : ℝ) : EReal) rfl

end Cert.Proof

end
-- ==== Proof.Bias.Lemmas.lean ====
module

public import proofs.«01_k».proof.Proof.Gen.BiasKernelIdeal.Frame
public import proofs.«01_k».proof.Proof.Gen.BiasReferenceIdeal.Run
public import Idealize.ShloMosaic.Lib.Pointwise

/-! What the key biases need of a scatter of one window, of a running sum and of the log-sigmoid. -/

set_option maxRecDepth 16384

@[expose] public section

noncomputable section

namespace Cert.Bias

open Idealize.ShloMosaic

/-! ## A scatter that replaces -/

/-- A fold of replacements leaves an entry that no listed update hits as it was. -/
theorem fold_miss {s : Shape} {α ι : Type} (res : ι → Option s.Idx) (upd : ι → α) (i : s.Idx) (l : List ι) (x : s.Idx → α)
    (h : ∀ n ∈ l, res n ≠ some i) :
    l.foldl (fun r n => match res n with | some k => fun i' => if i' = k then upd n else r i' | none => r) x i = x i := by
  induction l generalizing x with
  | nil => rfl
  | cons n l ih =>
    rw [List.foldl_cons, ih _ fun k hk => h k (List.mem_cons_of_mem _ hk)]
    have hn := h n List.mem_cons_self
    generalize res n = o at hn
    cases o with
    | none => rfl
    | some k => exact if_neg fun e => hn (congrArg some e.symm)

/-- A fold of replacements leaves the update at an entry that only one kind of update hits. -/
theorem fold_hit {s : Shape} {α ι : Type} (res : ι → Option s.Idx) (upd : ι → α) (i : s.Idx) (n0 : ι) (l : List ι) (x : s.Idx → α)
    (hmem : n0 ∈ l) (h0 : res n0 = some i) (h : ∀ n, res n = some i → n = n0) :
    l.foldl (fun r n => match res n with | some k => fun i' => if i' = k then upd n else r i' | none => r) x i = upd n0 := by
  induction l generalizing x with
  | nil => exact absurd hmem List.not_mem_nil
  | cons n l ih =>
    rw [List.foldl_cons]
    by_cases hl : n0 ∈ l
    · exact ih _ hl
    · have hn : n0 = n := (List.mem_cons.mp hmem).resolve_right hl
      subst hn
      rw [fold_miss res upd i l _ fun k hk e => hl (h k e ▸ hk), h0]
      exact if_pos rfl

/-- A replacing scatter at an entry that exactly one update lands on. -/
theorem scatter_hit {s si u : Shape} {w : ℕ} {α : Type} (d : ScatterDims s si u) (x : s.Idx → α) (idx : IVec si w) (upd : u.Idx → α)
    (i : s.Idx) (j : u.Idx) (h0 : d.resultIdx? j idx = some i) (h : ∀ k, d.resultIdx? k idx = some i → k = j) :
    Host.scatter d (fun _ b => b) x idx upd i = upd j := by
  have e := fold_hit (s := s) (fun n => d.resultIdx? (u.rowMajor.symm n) idx) (fun n => upd (u.rowMajor.symm n)) i (u.rowMajor j)
    (List.finRange u.numel) x (List.mem_finRange _) (by rw [Equiv.symm_apply_apply]; exact h0)
    (fun n hn => by rw [← h _ hn, Equiv.apply_symm_apply])
  rw [Equiv.symm_apply_apply] at e
  exact e

/-- Where an update lands, by its coordinates. -/
theorem lands {s si u : Shape} {w : ℕ} (d : ScatterDims s si u) (idx : IVec si w) (j : u.Idx) (i : s.Idx)
    (h : ∀ a, d.start j idx a + d.window j a = ((i a).val : ℤ)) : d.resultIdx? j idx = some i := by
  unfold ScatterDims.resultIdx?
  rw [dif_pos fun a => ⟨by rw [h a]; exact Int.natCast_nonneg _, by rw [h a]; exact_mod_cast (i a).isLt⟩]
  refine congrArg some (funext fun a => Fin.ext ?_)
  show (d.start j idx a + d.window j a).toNat = _
  rw [h a]
  rfl

/-- Every scatter index is zero, so every window starts at zero. -/
theorem start_zero {s si u : Shape} (d : ScatterDims s si u) (idx : IVec si 32) (hidx : ∀ k, idx k = 0#32) (j : u.Idx) (a : Fin s.rank) :
    d.start j idx a = 0 := by
  unfold ScatterDims.start
  split
  · rw [hidx]; rfl
  · rfl

section
open Cert.BiasKernelIdeal Cert.BiasKernelIdeal.Gen

/-- The weights' sixteen columns within the padded ones. -/
theorem pad_w (x : FVec Ideal S2048x128 .f32) (idx : IVec S1 32) (hidx : ∀ k, idx k = 0#32) (upd : FVec Ideal S2048x16 .f32)
    (a : Fin 2048) (n : Fin 16) (p : Fin 128) (hp : p.val = n.val) :
    Host.scatter scatter_S2048x128_S1_S2048x16_01_n_1_0 (fun _ b => b) x idx upd (ix2 a p) = upd (ix2 a n) := by
  have w0 : ∀ j : S2048x16.Idx, scatter_S2048x128_S1_S2048x16_01_n_1_0.window j 0 = (j 0).val := fun j => rfl
  have w1 : ∀ j : S2048x16.Idx, scatter_S2048x128_S1_S2048x16_01_n_1_0.window j 1 = (j 1).val := fun j => rfl
  have key : ∀ j : S2048x16.Idx, scatter_S2048x128_S1_S2048x16_01_n_1_0.resultIdx? j idx
      = some (ix2 (j 0) ⟨(j 1).val, lt_trans (j 1).isLt (by decide)⟩ : S2048x128.Idx) := fun j => lands _ _ _ _ fun b => by
    rw [start_zero _ idx hidx, zero_add]
    match b with
    | ⟨0, _⟩ => exact congrArg Nat.cast (w0 j)
    | ⟨1, _⟩ => exact congrArg Nat.cast (w1 j)
  refine scatter_hit _ x idx upd _ (ix2 a n) ((key _).trans (congrArg some ?_)) fun k hk => ?_
  · exact congrArg (ix2 a) (Fin.ext hp.symm)
  · have e := Option.some.inj ((key k).symm.trans hk)
    funext b
    match b with
    | ⟨0, _⟩ => exact congrFun e 0
    | ⟨1, _⟩ => exact Fin.ext ((congrArg Fin.val (congrFun e 1)).trans hp)

/-- The offsets' sixteen entries within the padded ones. -/
theorem pad_b (x : FVec Ideal S1x128 .f32) (idx : IVec S2 32) (hidx : ∀ k, idx k = 0#32) (upd : FVec Ideal S16 .f32)
    (n : Fin 16) (p : Fin 128) (hp : p.val = n.val) :
    Host.scatter scatter_S1x128_S2_S16_0_0_01_0 (fun _ b => b) x idx upd (ix2 0 p) = upd (ix1 n) := by
  have w0 : ∀ j : S16.Idx, scatter_S1x128_S2_S16_0_0_01_0.window j 0 = 0 := fun j => rfl
  have w1 : ∀ j : S16.Idx, scatter_S1x128_S2_S16_0_0_01_0.window j 1 = (j 0).val := fun j => rfl
  have key : ∀ j : S16.Idx, scatter_S1x128_S2_S16_0_0_01_0.resultIdx? j idx
      = some (ix2 0 ⟨(j 0).val, lt_trans (j 0).isLt (by decide)⟩ : S1x128.Idx) := fun j => lands _ _ _ _ fun b => by
    rw [start_zero _ idx hidx, zero_add]
    match b with
    | ⟨0, _⟩ => exact congrArg Nat.cast (w0 j)
    | ⟨1, _⟩ => exact congrArg Nat.cast (w1 j)
  refine scatter_hit _ x idx upd _ (ix1 n) ((key _).trans (congrArg some ?_)) fun k hk => ?_
  · exact congrArg (ix2 0) (Fin.ext hp.symm)
  · have e := Option.some.inj ((key k).symm.trans hk)
    funext b
    match b with
    | ⟨0, _⟩ => exact Fin.ext ((congrArg Fin.val (congrFun e 1)).trans hp)

end

/-! ## A running sum -/

/-- A window over the first positions up to an index, padded below by one less than its length, sums them. -/
theorem sum_shift (f : ℕ → EReal) (M t : ℕ) (ht : t < M + 1) :
    ∑ n : Fin (M + 1), (if M ≤ t + n.val then f (t + n.val - M) else 0) = ∑ s ∈ Finset.range (t + 1), f s := by
  rw [Fin.sum_univ_eq_sum_range (fun n => if M ≤ t + n then f (t + n - M) else 0) (M + 1), ← Finset.sum_filter]
  refine Finset.sum_bij' (fun n _ => t + n - M) (fun s _ => s + M - t) ?_ ?_ ?_ ?_ ?_
  · intro n hn; simp only [Finset.mem_filter, Finset.mem_range] at hn ⊢; omega
  · intro s hs; simp only [Finset.mem_filter, Finset.mem_range] at hs ⊢; omega
  · intro n hn; simp only [Finset.mem_filter, Finset.mem_range] at hn; omega
  · intro s hs; simp only [Finset.mem_range] at hs; omega
  · intro n hn; rfl

/-- The running sum along the middle of three axes. -/
theorem cumsum3 {A Nm1 C : ℕ} (x : FVec Ideal ⟨3, ![A, Nm1 + 1, C]⟩ .f32) (f : ℕ → EReal) (init : FVec Ideal ⟨0, ![]⟩ .f32) (hinit : ∀ i, init i = 0)
    (h : (⟨3, ![A, Nm1 + 1, C]⟩ : Shape).ReduceWindows (![1, Nm1 + 1, 1] : Fin 3 → ℕ) ![1, 1, 1] ![0, Nm1, 0] ![0, 0, 0] ⟨3, ![A, Nm1 + 1, C]⟩)
    (hu : 0 < (⟨0, ![]⟩ : Shape).numel) (b : Fin A) (t : Fin (Nm1 + 1)) (c : Fin C) (hf : ∀ s : Fin (Nm1 + 1), x (ix3 b s c) = f s.val) :
    Host.reduceWindowAdd (F := Ideal) (φ := .f32) ![1, Nm1 + 1, 1] ![1, 1, 1] ![0, Nm1, 0] ![0, 0, 0] x init h hu (ix3 b t c)
      = ∑ s ∈ Finset.range (t.val + 1), f s := by
  have hb := b.isLt
  have ht := t.isLt
  have hc := c.isLt
  unfold Host.reduceWindowAdd
  rw [hinit]
  show Ideal.hostReduceWindowAdd ![1, Nm1 + 1, 1] ![1, 1, 1] ![0, Nm1, 0] ![0, 0, 0] h x 0 (ix3 b t c) = _
  unfold Ideal.hostReduceWindowAdd Host.reduceWindow
  dsimp only
  refine Eq.trans (congrArg (fun F : EReal → Fin (⟨3, ![1, Nm1 + 1, 1]⟩ : Shape).numel → EReal => (List.finRange (⟨3, ![1, Nm1 + 1, 1]⟩ : Shape).numel).foldl F 0)
    (funext fun r => funext fun n => congrArg (fun z : EReal => r + z) ?_))
    (sum_idx_eq_foldl (⟨3, ![1, Nm1 + 1, 1]⟩ : Shape) (fun w : (⟨3, ![1, Nm1 + 1, 1]⟩ : Shape).Idx =>
      if Nm1 ≤ t.val + (w 1).val then f (t.val + (w 1).val - Nm1) else 0)).symm |>.trans ?_
  · have w0 : ((⟨3, ![1, Nm1 + 1, 1]⟩ : Shape).rowMajor.symm n 0).val < 1 := ((⟨3, ![1, Nm1 + 1, 1]⟩ : Shape).rowMajor.symm n 0).isLt
    have w1 : ((⟨3, ![1, Nm1 + 1, 1]⟩ : Shape).rowMajor.symm n 1).val < Nm1 + 1 := ((⟨3, ![1, Nm1 + 1, 1]⟩ : Shape).rowMajor.symm n 1).isLt
    have w2 : ((⟨3, ![1, Nm1 + 1, 1]⟩ : Shape).rowMajor.symm n 2).val < 1 := ((⟨3, ![1, Nm1 + 1, 1]⟩ : Shape).rowMajor.symm n 2).isLt
    split
    · next hin =>
      have h1 := hin 1
      change Nm1 ≤ t.val * 1 + ((⟨3, ![1, Nm1 + 1, 1]⟩ : Shape).rowMajor.symm n 1).val ∧ t.val * 1 + ((⟨3, ![1, Nm1 + 1, 1]⟩ : Shape).rowMajor.symm n 1).val - Nm1 < Nm1 + 1 at h1
      rw [if_pos (by omega)]
      refine (congrArg x (funext fun a => Fin.ext ?_)).trans (hf ⟨t.val + ((⟨3, ![1, Nm1 + 1, 1]⟩ : Shape).rowMajor.symm n 1).val - Nm1, by omega⟩)
      match a with
      | ⟨0, _⟩ => show b.val * 1 + ((⟨3, ![1, Nm1 + 1, 1]⟩ : Shape).rowMajor.symm n 0).val - 0 = b.val; omega
      | ⟨1, _⟩ => show t.val * 1 + ((⟨3, ![1, Nm1 + 1, 1]⟩ : Shape).rowMajor.symm n 1).val - Nm1 = t.val + ((⟨3, ![1, Nm1 + 1, 1]⟩ : Shape).rowMajor.symm n 1).val - Nm1; omega
      | ⟨2, _⟩ => show c.val * 1 + ((⟨3, ![1, Nm1 + 1, 1]⟩ : Shape).rowMajor.symm n 2).val - 0 = c.val; omega
    · next hin =>
      rw [if_neg]
      intro hle
      refine hin fun a => ?_
      match a with
      | ⟨0, _⟩ => show 0 ≤ b.val * 1 + ((⟨3, ![1, Nm1 + 1, 1]⟩ : Shape).rowMajor.symm n 0).val ∧ b.val * 1 + ((⟨3, ![1, Nm1 + 1, 1]⟩ : Shape).rowMajor.symm n 0).val - 0 < A; omega
      | ⟨1, _⟩ => show Nm1 ≤ t.val * 1 + ((⟨3, ![1, Nm1 + 1, 1]⟩ : Shape).rowMajor.symm n 1).val ∧ t.val * 1 + ((⟨3, ![1, Nm1 + 1, 1]⟩ : Shape).rowMajor.symm n 1).val - Nm1 < Nm1 + 1; omega
      | ⟨2, _⟩ => show 0 ≤ c.val * 1 + ((⟨3, ![1, Nm1 + 1, 1]⟩ : Shape).rowMajor.symm n 2).val ∧ c.val * 1 + ((⟨3, ![1, Nm1 + 1, 1]⟩ : Shape).rowMajor.symm n 2).val - 0 < C; omega
  · rw [sum_idx3, Fin.sum_univ_one, ← sum_shift f Nm1 t.val ht]
    exact Finset.sum_congr rfl fun n _ => Fin.sum_univ_one _

/-! ## The log-sigmoid -/

/-- The logarithm of one plus an exponential is a real. -/
theorem log1p_exp (r : ℝ) : ∃ l : ℝ, Ideal.log1p (Ideal.exp (r : EReal)) = l := by
  have h : ¬ (1 + Real.exp r ≤ 0) := by have := Real.exp_pos r; linarith
  refine ⟨Real.log (1 + Real.exp r), ?_⟩
  unfold Ideal.log1p
  rw [Ideal.exp_coe, show (1 : EReal) = ((1 : ℝ) : EReal) from rfl, ← EReal.coe_add, Ideal.log_coe, if_neg h]

/-- The larger of two reals. -/
theorem coe_max (a b : ℝ) : ((max a b : ℝ) : EReal) = max (a : EReal) (b : EReal) := EReal.coe_strictMono.monotone.map_max

/-- The smaller of two reals. -/
theorem coe_min (a b : ℝ) : ((min a b : ℝ) : EReal) = min (a : EReal) (b : EReal) := EReal.coe_strictMono.monotone.map_min

/-- The kernel's log-sigmoid. -/
def lsK (z : EReal) : EReal := min z 0 - Ideal.log1p (Ideal.exp (0 - max z (-z)))

/-- The reference's log-sigmoid, of which a branch is for what differs from itself. -/
def lsR (z : EReal) : EReal :=
  -(Scalar.select (Ideal.cmp .une (-z - 0) (-z - 0)) (-z + 0) (max (-z) 0 + Ideal.log1p (Ideal.exp (-(max (-z - 0) (-(-z - 0)))))))

/-- At a real the two agree. -/
theorem ls_eq (r : ℝ) : lsK (r : EReal) = lsR (r : EReal) := by
  obtain ⟨l, hl⟩ := log1p_exp (-(max r (-r)))
  have e1 : (0 : EReal) - max (r : EReal) (-(r : EReal)) = ((-(max r (-r)) : ℝ) : EReal) := by
    rw [zero_sub, ← EReal.coe_neg, ← coe_max, ← EReal.coe_neg]
  have e2 : -(max (-(r : EReal) - 0) (-(-(r : EReal) - 0))) = ((-(max r (-r)) : ℝ) : EReal) := by
    rw [sub_zero, neg_neg, max_comm, ← EReal.coe_neg, ← coe_max, ← EReal.coe_neg]
  have e3 : Ideal.cmp .une (-(r : EReal) - 0) (-(r : EReal) - 0) = 0#1 := by simp [Ideal.cmp]
  unfold lsK lsR
  rw [e1, e2, e3, hl, show (0 : EReal) = ((0 : ℝ) : EReal) from rfl, ← EReal.coe_neg, ← coe_max, ← coe_min, ← EReal.coe_sub]
  show _ = -(((max (-r) 0 : ℝ) : EReal) + (l : EReal))
  rw [← EReal.coe_add, ← EReal.coe_neg]
  refine congrArg _ ?_
  rcases le_total r 0 with h | h
  · rw [min_eq_left h, max_eq_left (by linarith)]; ring
  · rw [min_eq_right h, max_eq_right (by linarith)]; ring

end Cert.Bias

end
-- ==== Proof.Attn.Loop.lean ====
module

public import proofs.«01_k».proof.Proof.Gen.AttnKernelIdeal.Frame
public import Idealize.ShloMosaic.Lib.VecWindow
public import Idealize.ShloMosaic.Lib.WholeRead
public import Idealize.ShloMosaic.Lib.LoopRemainder

/-! What one block's run leaves: the loop over key blocks as an induction on the running maximum, the running sum and
    the accumulator, each trip a function of the three as the trip before left them. -/

set_option maxRecDepth 16384

@[expose] public section

noncomputable section

namespace Cert.AttnKernelIdeal.Loop

open Cert.AttnKernelIdeal Cert.AttnKernelIdeal.Gen
open Idealize.ShloMosaic Idealize.ShloMosaic.TcCoe Idealize.SL.Sem

variable {F : FTy → Type} [FloatOps F] [Named F]

/-- The block of 384 rows of keys or of values that a trip reads. -/
def rows (i : grid0.Coords) (k : Fin (k0_t1_loop i).trips) (x : Vec F S4224x128 .bf16) : Vec F S384x128 .bf16 :=
  VecWindow.window x (k0_off1 i k) S384x128.size (k0_off1_inb i k)

/-- The block of 384 biases that a trip reads. -/
def lanes (i : grid0.Coords) (k : Fin (k0_t1_loop i).trips) (x : Vec F S1x1x4224 .f32) : Vec F S1x1x384 .f32 :=
  VecWindow.window x (k0_off2 i k) S1x1x384.size (k0_off2_inb i k)

/-- The running maximum after a trip. -/
def next8 (i : grid0.Coords) (q : Vec F S384x128 .bf16) (v14 : BitVec 32) (k : Fin (k0_t1_loop i).trips) (K : Vec F S384x128 .bf16)
    (C : Vec F S1x1x384 .f32) (m : Vec F S384x1 .f32) : Vec F S384x1 .f32 :=
  k0_pay18 (k0_pay3 i (k0_pay16 q) v14 0#32 1#32 k K C m)

/-- The running sum after a trip. -/
def next9 (i : grid0.Coords) (q : Vec F S384x128 .bf16) (v14 : BitVec 32) (k : Fin (k0_t1_loop i).trips) (K : Vec F S384x128 .bf16)
    (C : Vec F S1x1x384 .f32) (m l : Vec F S384x1 .f32) : Vec F S384x1 .f32 :=
  k0_pay6 i (k0_pay16 q) v14 0#32 1#32 k K C m l

/-- The accumulator after a trip. -/
def next10 (i : grid0.Coords) (q : Vec F S384x128 .bf16) (v14 : BitVec 32) (k : Fin (k0_t1_loop i).trips) (K V : Vec F S384x128 .bf16)
    (C : Vec F S1x1x384 .f32) (m : Vec F S384x1 .f32) (a : Vec F S384x128 .f32) : Vec F S384x128 .f32 :=
  k0_pay17 (k0_pay1 V) (k0_pay4 i (k0_pay16 q) v14 0#32 1#32 k K C m) (k0_pay5 i (k0_pay16 q) v14 0#32 1#32 k K C m) a

variable (𝒱 : Variants) (c : Dev nD) (bd : Option 𝒱.V) (i : grid0.Coords) (arg3 : Memref sig .tc .vmem S384x128 .bf16) (harg3 : arg3.IsWhole) (arg4 : Memref sig .tc .vmem S4224x128 .bf16) (harg4 : arg4.IsWhole) (arg5 : Memref sig .tc .vmem S4224x128 .bf16) (harg5 : arg5.IsWhole) (arg6 : Memref sig .tc .vmem S1x1x4224 .f32) (harg6 : arg6.IsWhole) (arg7 : Memref sig .tc .vmem S384x128 .bf16) (harg7 : arg7.IsWhole) (arg8 : Memref sig .tc .vmem S384x1 .f32) (harg8 : arg8.IsWhole) (arg9 : Memref sig .tc .vmem S384x1 .f32) (harg9 : arg9.IsWhole) (arg10 : Memref sig .tc .vmem S384x128 .f32) (harg10 : arg10.IsWhole)

/-- A trip's store of the running maximum. -/
theorem trip8 (v12 : Vec F S384x128 .bf16) (v14 : BitVec 32)
    (X4 : BufTy.Contents (Elt F) arg4.view.ty) (X5 : BufTy.Contents (Elt F) arg5.view.ty) (X6 : BufTy.Contents (Elt F) arg6.view.ty)
    (k : Fin (k0_t1_loop i).trips) (f8 : BufTy.Contents (Elt F) arg8.view.ty) (f9 : BufTy.Contents (Elt F) arg9.view.ty) (f10 : BufTy.Contents (Elt F) arg10.view.ty) (G : BufTy.Contents (Elt F) arg8.view.ty) (L : List (View.Piece (Elt F) S384x1 .f32)) :
    arg8.view.read (Elt F) (arg8.view.writes (Elt F) G ((trip_k0_t1 (F := F) 𝒱 c bd i arg3 harg3 arg4 harg4 arg5 harg5 arg6 harg6 arg7 harg7 arg8 harg8 arg9 harg9 arg10 harg10 v12 v14 X4 X5 X6 k).1 f8 f9 f10 ++ L)) = next8 i v12 v14 k (rows i k (arg4.view.read (Elt F) X4)) (lanes i k (arg6.view.read (Elt F) X6)) (arg8.view.read (Elt F) f8) := by
  unfold trip_k0_t1 trip_k0_t1.sl.r_1
  dsimp only [List.cons_append, List.nil_append]
  refine (View.read_writes_full _ _ _ _ _).trans ?_
  have h8 := View.readAt_full (Val := Elt F) arg8.view f8 (off := ![0, 0]) inb_S384x1_S384x1_0_0
  unfold next8
  rw [← h8]
  rfl

/-- A trip's store of the running sum. -/
theorem trip9 (v12 : Vec F S384x128 .bf16) (v14 : BitVec 32)
    (X4 : BufTy.Contents (Elt F) arg4.view.ty) (X5 : BufTy.Contents (Elt F) arg5.view.ty) (X6 : BufTy.Contents (Elt F) arg6.view.ty)
    (k : Fin (k0_t1_loop i).trips) (f8 : BufTy.Contents (Elt F) arg8.view.ty) (f9 : BufTy.Contents (Elt F) arg9.view.ty) (f10 : BufTy.Contents (Elt F) arg10.view.ty) (G : BufTy.Contents (Elt F) arg9.view.ty) (L : List (View.Piece (Elt F) S384x1 .f32)) :
    arg9.view.read (Elt F) (arg9.view.writes (Elt F) G ((trip_k0_t1 (F := F) 𝒱 c bd i arg3 harg3 arg4 harg4 arg5 harg5 arg6 harg6 arg7 harg7 arg8 harg8 arg9 harg9 arg10 harg10 v12 v14 X4 X5 X6 k).2.1 f8 f9 f10 ++ L)) = next9 i v12 v14 k (rows i k (arg4.view.read (Elt F) X4)) (lanes i k (arg6.view.read (Elt F) X6)) (arg8.view.read (Elt F) f8) (arg9.view.read (Elt F) f9) := by
  unfold trip_k0_t1 trip_k0_t1.sl.r_4
  dsimp only [List.cons_append, List.nil_append]
  refine (View.read_writes_full _ _ _ _ _).trans ?_
  have h8 := View.readAt_full (Val := Elt F) arg8.view f8 (off := ![0, 0]) inb_S384x1_S384x1_0_0
  have h9 := View.readAt_full (Val := Elt F) arg9.view f9 (off := ![0, 0]) inb_S384x1_S384x1_0_0
  unfold next9
  rw [← h8, ← h9]
  rfl

/-- A trip's store of the accumulator. -/
theorem trip10 (v12 : Vec F S384x128 .bf16) (v14 : BitVec 32)
    (X4 : BufTy.Contents (Elt F) arg4.view.ty) (X5 : BufTy.Contents (Elt F) arg5.view.ty) (X6 : BufTy.Contents (Elt F) arg6.view.ty)
    (k : Fin (k0_t1_loop i).trips) (f8 : BufTy.Contents (Elt F) arg8.view.ty) (f9 : BufTy.Contents (Elt F) arg9.view.ty) (f10 : BufTy.Contents (Elt F) arg10.view.ty) (G : BufTy.Contents (Elt F) arg10.view.ty) (L : List (View.Piece (Elt F) S384x128 .f32)) :
    arg10.view.read (Elt F) (arg10.view.writes (Elt F) G ((trip_k0_t1 (F := F) 𝒱 c bd i arg3 harg3 arg4 harg4 arg5 harg5 arg6 harg6 arg7 harg7 arg8 harg8 arg9 harg9 arg10 harg10 v12 v14 X4 X5 X6 k).2.2.1 f8 f9 f10 ++ L)) = next10 i v12 v14 k (rows i k (arg4.view.read (Elt F) X4)) (rows i k (arg5.view.read (Elt F) X5)) (lanes i k (arg6.view.read (Elt F) X6)) (arg8.view.read (Elt F) f8) (arg10.view.read (Elt F) f10) := by
  unfold trip_k0_t1 trip_k0_t1.sl.r trip_k0_t1.sl.r_2 trip_k0_t1.sl.r_3
  dsimp only [List.cons_append, List.nil_append]
  refine (View.read_writes_full _ _ _ _ _).trans ?_
  have h8 := View.readAt_full (Val := Elt F) arg8.view f8 (off := ![0, 0]) inb_S384x1_S384x1_0_0
  have h10 := View.readAt_full (Val := Elt F) arg10.view f10 (off := ![0, 0]) inb_S384x128_S384x128_0_0
  unfold next10
  rw [← h8, ← h10]
  rfl

/-- The trips before the `n`-th keep what every trip keeps. -/
theorem trips_induct (v12 : Vec F S384x128 .bf16) (v14 : BitVec 32)
    (X4 : BufTy.Contents (Elt F) arg4.view.ty) (X5 : BufTy.Contents (Elt F) arg5.view.ty) (X6 : BufTy.Contents (Elt F) arg6.view.ty)
    (G8 : BufTy.Contents (Elt F) arg8.view.ty) (G9 : BufTy.Contents (Elt F) arg9.view.ty) (G10 : BufTy.Contents (Elt F) arg10.view.ty)
    (P : ℕ → Vec F S384x1 .f32 → Vec F S384x1 .f32 → Vec F S384x128 .f32 → Prop)
    (h0 : P 0 (arg8.view.read (Elt F) G8) (arg9.view.read (Elt F) G9) (arg10.view.read (Elt F) G10))
    (hs : ∀ (k : Fin (k0_t1_loop i).trips) m l a, P k.val m l a →
      P (k.val + 1) (next8 i v12 v14 k (rows i k (arg4.view.read (Elt F) X4)) (lanes i k (arg6.view.read (Elt F) X6)) m)
        (next9 i v12 v14 k (rows i k (arg4.view.read (Elt F) X4)) (lanes i k (arg6.view.read (Elt F) X6)) m l)
        (next10 i v12 v14 k (rows i k (arg4.view.read (Elt F) X4)) (rows i k (arg5.view.read (Elt F) X5)) (lanes i k (arg6.view.read (Elt F) X6)) m a))
    (n : ℕ) (hn : n ≤ (k0_t1_loop i).trips) :
    P n (arg8.view.read (Elt F) (arg8.view.writes (Elt F) G8 (pb_k0_t1 (F := F) 𝒱 c bd i arg3 harg3 arg4 harg4 arg5 harg5 arg6 harg6 arg7 harg7 arg8 harg8 arg9 harg9 arg10 harg10 v12 v14 X4 X5 X6 G8 G9 G10 n).1))
      (arg9.view.read (Elt F) (arg9.view.writes (Elt F) G9 (pb_k0_t1 (F := F) 𝒱 c bd i arg3 harg3 arg4 harg4 arg5 harg5 arg6 harg6 arg7 harg7 arg8 harg8 arg9 harg9 arg10 harg10 v12 v14 X4 X5 X6 G8 G9 G10 n).2.1))
      (arg10.view.read (Elt F) (arg10.view.writes (Elt F) G10 (pb_k0_t1 (F := F) 𝒱 c bd i arg3 harg3 arg4 harg4 arg5 harg5 arg6 harg6 arg7 harg7 arg8 harg8 arg9 harg9 arg10 harg10 v12 v14 X4 X5 X6 G8 G9 G10 n).2.2)) := by
  induction n with
  | zero => exact h0
  | succ n ih =>
    have h := hs ⟨n, hn⟩ _ _ _ (ih (Nat.le_of_succ_le hn))
    have e := pb_k0_t1_succ (F := F) 𝒱 c bd i arg3 harg3 arg4 harg4 arg5 harg5 arg6 harg6 arg7 harg7 arg8 harg8 arg9 harg9 arg10 harg10 v12 v14 X4 X5 X6 G8 G9 G10 ⟨n, hn⟩
    dsimp only at e h
    rw [e]
    dsimp only
    rw [trip8, trip9, trip10]
    exact h

/-- What the run leaves in the output's block is the last accumulator over the last sum, and the two with the last
    maximum keep what every trip keeps. -/
theorem out (x0 : Vec F S384x128 .bf16) (x1 x2 : Vec F S4224x128 .bf16) (x3 : Vec F S1x1x4224 .f32)
    (P : ℕ → Vec F S384x1 .f32 → Vec F S384x1 .f32 → Vec F S384x128 .f32 → Prop)
    (h0 : P 0 k0_pay13 k0_pay14 k0_pay15)
    (hs : ∀ (k : Fin (k0_t1_loop i).trips) m l a, P k.val m l a →
      P (k.val + 1) (next8 i x0 (Scalar.muli (BitVec.ofNat 32 (i 2).val) 384#32) k (rows i k x1) (lanes i k x3) m)
        (next9 i x0 (Scalar.muli (BitVec.ofNat 32 (i 2).val) 384#32) k (rows i k x1) (lanes i k x3) m l)
        (next10 i x0 (Scalar.muli (BitVec.ofNat 32 (i 2).val) 384#32) k (rows i k x1) (rows i k x2) (lanes i k x3) m a)) :
    ∃ m l a, P (k0_t1_loop i).trips m l a ∧ out0_A_4 c i arg3 harg3 arg4 harg4 arg5 harg5 arg6 harg6 arg7 harg7 arg8 harg8 arg9 harg9 arg10 harg10 x0 x1 x2 x3 = k0_pay21 a l := by
  have h := trips_induct Variants.none c none i arg3 harg3 arg4 harg4 arg5 harg5 arg6 harg6 arg7 harg7 arg8 harg8 arg9 harg9 arg10 harg10
    (arg3.view.readAt (Elt F) (Rect.unit ![0, 0] S384x128.size inb_S384x128_S384x128_0_0).toLoadRect (harg3.unread x0))
    (kernelRun0_A.sl.v14 i) (harg4.unread x1) (harg5.unread x2) (harg6.unread x3)
    (arg8.view.writes (Elt F) arg8.view.junk kernelRun0_A.sl.HS0_1)
    (arg9.view.writes (Elt F) arg9.view.junk kernelRun0_A.sl.HS1_1)
    (arg10.view.writes (Elt F) arg10.view.junk kernelRun0_A.sl.HS2_1) P
    (by unfold kernelRun0_A.sl.HS0_1 kernelRun0_A.sl.HS1_1 kernelRun0_A.sl.HS2_1
        rw [View.read_writes_full, View.read_writes_full, View.read_writes_full]; exact h0)
    (by rw [harg4.read_unread, harg5.read_unread, harg6.read_unread, View.readAt_full, harg3.read_unread]; exact hs)
    (k0_t1_loop i).trips le_rfl
  refine ⟨_, _, _, h, ?_⟩
  unfold out0_A_4 kernelRun0_A kernelRun0_A.sl.r kernelRun0_A.sl.v22 kernelRun0_A.sl.v23
  dsimp only
  rw [View.read_writes_full, Scf.rem_trips, pb_k0_t2]
  dsimp only
  rw [List.nil_append, List.nil_append]
  unfold View.readCov
  rw [View.readAt_full, View.readAt_full, View.writes_append, View.writes_append, View.readAt_full arg9.view]

end Cert.AttnKernelIdeal.Loop

end
-- ==== Proof.Attn.Softmax.lean ====
module

public import Idealize.ShloMosaic.Lib.Pointwise

/-! A softmax-weighted sum taken block by block, a running maximum rescaling what was summed before, against the sum taken
    at once. Nothing here names a program. -/

@[expose] public section

noncomputable section

namespace Cert.Softmax

open Idealize.ShloMosaic

/-- The weight of a score at the level `r`: zero for a score left out, an exponential otherwise. -/
def wt (x : EReal) (r : ℝ) : ℝ := if x = ⊥ then 0 else Real.exp (x.toReal - r)

/-- A score is either left out or real. -/
def Ok (x : EReal) : Prop := x = ⊥ ∨ ∃ r : ℝ, x = r

/-- What the three running quantities are after the first `n` keys: nothing yet, or the two sums at a real level. -/
def Inv (s : ℕ → EReal) (v : ℕ → EReal) (n : ℕ) (m l a : EReal) : Prop :=
  (m = ⊥ ∧ (∀ j < n, s j = ⊥) ∧ l = 0 ∧ a = 0) ∨
    ∃ r : ℝ, m = r ∧ l = ((∑ j ∈ Finset.range n, wt (s j) r : ℝ) : EReal)
      ∧ a = ∑ j ∈ Finset.range n, (wt (s j) r : EReal) * v j

/-- The exponential at minus infinity. -/
theorem exp_bot : Ideal.exp ⊥ = 0 := rfl

/-- The exponential of a real. -/
theorem exp_coe (r : ℝ) : Ideal.exp (r : EReal) = ((Real.exp r : ℝ) : EReal) := rfl

/-- A score's exponential above a real level is its weight. -/
theorem exp_sub {x : EReal} (hx : Ok x) (r : ℝ) : Ideal.exp (x - r) = (wt x r : EReal) := by
  rcases hx with rfl | ⟨q, rfl⟩
  · rw [EReal.bot_sub, exp_bot]; simp [wt]
  · rw [← EReal.coe_sub, exp_coe]; simp [wt]

/-- A change of level rescales the weight. -/
theorem wt_shift {x : EReal} (hx : Ok x) (r r' : ℝ) : Real.exp (r - r') * wt x r = wt x r' := by
  rcases hx with rfl | ⟨q, rfl⟩
  · simp [wt]
  · simp only [wt, EReal.coe_ne_bot, if_false, EReal.toReal_coe]
    rw [← Real.exp_add]; congr 1; ring

/-- A real factor that is not negative goes into a sum of any extended reals. -/
theorem mul_sum {ι : Type*} (A : Finset ι) {c : ℝ} (hc : 0 ≤ c) (f : ι → EReal) : (c : EReal) * ∑ i ∈ A, f i = ∑ i ∈ A, (c : EReal) * f i := by
  classical
  induction A using Finset.induction_on with
  | empty => simp
  | insert a A ha ih => rw [Finset.sum_insert ha, Finset.sum_insert ha,
      EReal.left_distrib_of_nonneg_of_ne_top (EReal.coe_nonneg.mpr hc) (EReal.coe_ne_top c), ih]

/-- A sum over the first keys and a block of keys after them. -/
theorem sum_fin_range {M : Type*} [AddCommMonoid M] {n T : ℕ} (f : ℕ → M) :
    ∑ j ∈ Finset.range (n + T), f j = (∑ j ∈ Finset.range n, f j) + ∑ j : Fin T, f (n + j) := by
  rw [Finset.sum_range_add, Finset.sum_range (fun j => f (n + j))]

/-- A sum of reals is real. -/
theorem coe_sum {ι : Type*} (A : Finset ι) (f : ι → ℝ) : ((∑ i ∈ A, f i : ℝ) : EReal) = ∑ i ∈ A, (f i : EReal) := by
  classical
  induction A using Finset.induction_on with
  | empty => simp
  | insert a A ha ih => rw [Finset.sum_insert ha, Finset.sum_insert ha, EReal.coe_add, ih]

/-- Before any key. -/
theorem inv_zero (s : ℕ → EReal) (v : ℕ → EReal) : Inv s v 0 ⊥ 0 0 :=
  .inl ⟨rfl, fun _ h => absurd h (Nat.not_lt_zero _), rfl, rfl⟩

/-- One block more: the level becomes the larger of the old one and the block's largest score, and the two sums are
    rescaled to it. -/
theorem inv_step {s : ℕ → EReal} {v : ℕ → EReal} {n T : ℕ} {m l a m' l' a' M : EReal} (hs : ∀ j < n + T, Ok (s j))
    (h : Inv s v n m l a) (hM : M = Finset.univ.sup fun j : Fin T => s (n + j)) (hm : m' = max m M)
    (hl : l' = Ideal.exp (m - m') * l + ∑ j : Fin T, Ideal.exp (s (n + j) - m'))
    (ha : a' = Ideal.exp (m - m') * a + ∑ j : Fin T, Ideal.exp (s (n + j) - m') * v (n + j)) :
    Inv s v (n + T) m' l' a' := by
  have hle : ∀ j : Fin T, s (n + j) ≤ M := fun j => hM ▸ Finset.le_sup (f := fun j : Fin T => s (n + j)) (Finset.mem_univ j)
  have hMok : Ok M := by
    rcases T.eq_zero_or_pos with rfl | hT
    · left; rw [hM]; simp
    · haveI : Nonempty (Fin T) := ⟨⟨0, hT⟩⟩
      obtain ⟨j, -, hj⟩ := Finset.exists_mem_eq_sup Finset.univ Finset.univ_nonempty (fun j : Fin T => s (n + j))
      rw [hM, hj]; exact hs _ (by have := j.isLt; omega)
  have hmok : Ok m := by
    rcases h with ⟨rfl, -⟩ | ⟨r, rfl, -⟩
    · exact .inl rfl
    · exact .inr ⟨r, rfl⟩
  have hm'ok : Ok m' := by rw [hm]; rcases max_choice m M with e | e <;> rw [e] <;> assumption
  rcases hm'ok with rfl | ⟨r', rfl⟩
  · have h1 : m = ⊥ := le_bot_iff.mp (hm ▸ le_max_left m M)
    have h2 : M = ⊥ := le_bot_iff.mp (hm ▸ le_max_right m M)
    have h3 : ∀ j : Fin T, s (n + j) = ⊥ := fun j => le_bot_iff.mp (h2 ▸ hle j)
    left
    rcases h with ⟨-, hb, rfl, rfl⟩ | ⟨r, hr, -⟩
    · refine ⟨rfl, fun j hj => ?_, ?_, ?_⟩
      · rcases Nat.lt_or_ge j n with hn | hn
        · exact hb j hn
        · have := h3 ⟨j - n, by omega⟩; rwa [show n + (j - n) = j by omega] at this
      · rw [hl]; simp [h3, exp_bot]
      · rw [ha]; simp [h3, exp_bot]
    · exact absurd (h1 ▸ hr) (by simp)
  · right
    have e : ∀ j : Fin T, Ideal.exp (s (n + j) - (r' : EReal)) = (wt (s (n + j)) r' : EReal) :=
      fun j => exp_sub (hs _ (by have := j.isLt; omega)) r'
    have hl0 : ∀ f : ℕ → ℝ, (∑ j : Fin T, (f j : EReal)) = ((∑ j : Fin T, f j : ℝ) : EReal) := fun f => (coe_sum _ _).symm
    simp only [e] at hl ha
    rw [← coe_sum] at hl
    refine ⟨r', rfl, ?_, ?_⟩
    · rw [sum_fin_range (fun j => wt (s j) r'), hl, EReal.coe_add]
      refine congrArg (· + _) ?_
      rcases h with ⟨rfl, hb, rfl, -⟩ | ⟨r, rfl, rfl, -⟩
      · rw [Finset.sum_eq_zero fun j hj => by rw [hb j (Finset.mem_range.mp hj)]; simp [wt]]; simp
      · rw [← EReal.coe_sub, exp_coe, ← EReal.coe_mul, Finset.mul_sum]
        exact congrArg _ (Finset.sum_congr rfl fun j hj => wt_shift (hs j (by have := Finset.mem_range.mp hj; omega)) r r')
    · rw [sum_fin_range (fun j => (wt (s j) r' : EReal) * v j), ha]
      refine congrArg (· + _) ?_
      rcases h with ⟨rfl, hb, -, rfl⟩ | ⟨r, rfl, -, rfl⟩
      · rw [Finset.sum_eq_zero fun j hj => by rw [hb j (Finset.mem_range.mp hj)]; simp [wt]]; simp
      · rw [← EReal.coe_sub, exp_coe, mul_sum _ (Real.exp_pos _).le]
        refine Finset.sum_congr rfl fun j hj => ?_
        rw [← wt_shift (hs j (by have := Finset.mem_range.mp hj; omega)) r r', EReal.coe_mul, mul_assoc]

/-- A sum over the first `n` keys is a sum over all keys when the others add nothing. -/
theorem ext {M : Type*} [AddCommMonoid M] {N n : ℕ} (hn : n ≤ N) (f : ℕ → M) (hf : ∀ j : Fin N, n ≤ j.val → f j = 0) :
    ∑ j ∈ Finset.range n, f j = ∑ j : Fin N, f j := by
  rw [← Finset.sum_range f]
  refine Finset.sum_subset (Finset.range_subset_range.mpr hn) fun j hj hj' => ?_
  exact hf ⟨j, Finset.mem_range.mp hj⟩ (by simpa using hj')

/-- The quotient of the two running sums is the softmax-weighted sum of the values: the scores `s` are the scores `x`
    less a constant; a key past the first `n`, or left out, weighs nothing. -/
theorem out_eq {N n : ℕ} (hn : n ≤ N) {s : ℕ → EReal} {v : ℕ → EReal} {m l a : EReal} (h : Inv s v n m l a) {x : Fin N → EReal} {k : ℝ}
    (hx : ∀ j : Fin N, x j = ⊥ ∨ ∃ r : ℝ, x j = r)
    (hsx : ∀ j : Fin N, s j = if x j = ⊥ then ⊥ else (((x j).toReal - k : ℝ) : EReal))
    (hout : ∀ j : Fin N, n ≤ j.val → x j = ⊥) (t : Fin N) (ht : x t ≠ ⊥) {M : EReal} (hM : M = Finset.univ.sup x) :
    Ideal.div a l = ∑ j : Fin N, Ideal.div (Ideal.exp (x j - M)) (∑ i : Fin N, Ideal.exp (x i - M)) * v j := by
  have htn : t.val < n := by by_contra hc; exact ht (hout t (by omega))
  obtain ⟨μ, rfl⟩ : ∃ r : ℝ, M = r := by
    haveI : Nonempty (Fin N) := ⟨t⟩
    obtain ⟨j, -, hj⟩ := Finset.exists_mem_eq_sup Finset.univ Finset.univ_nonempty x
    rcases hx j with hb | ⟨r, hr⟩
    · refine absurd (le_bot_iff.mp ?_) ht
      rw [← hb, ← hj]; exact Finset.le_sup (Finset.mem_univ t)
    · exact ⟨r, by rw [hM, hj, hr]⟩
  have hst : s t ≠ ⊥ := by rw [hsx t, if_neg ht]; exact EReal.coe_ne_bot _
  rcases h with ⟨-, hb, -⟩ | ⟨r, rfl, rfl, rfl⟩
  · exact absurd (hb t htn) hst
  let E : Fin N → ℝ := fun j => if x j = ⊥ then 0 else Real.exp ((x j).toReal - μ)
  have hE : ∀ j, Ideal.exp (x j - (μ : EReal)) = (E j : EReal) := by
    intro j
    rcases hx j with hb | ⟨q, hq⟩
    · rw [hb, EReal.bot_sub, exp_bot]; simp [E, hb]
    · rw [hq, ← EReal.coe_sub, exp_coe]; simp [E, hq]
  set K : ℝ := Real.exp (μ - k - r) with hK
  have hwt : ∀ j : Fin N, wt (s j) r = E j * K := by
    intro j
    rw [hsx j]
    by_cases hb : x j = ⊥
    · simp [E, hb, wt]
    · rw [if_neg hb]
      simp only [wt, E, EReal.coe_ne_bot, if_false, EReal.toReal_coe, if_neg hb, hK]
      rw [← Real.exp_add]; congr 1; ring
  have h0 : ∀ j : Fin N, n ≤ j.val → wt (s j) r = 0 := fun j hj => by rw [hsx j, if_pos (hout j hj)]; simp [wt]
  rw [ext hn (fun j => wt (s j) r) h0, ext hn (fun j => (wt (s j) r : EReal) * v j) fun j hj => by rw [h0 j hj]; simp]
  simp only [hwt, hE, ← coe_sum]
  have hEnn : ∀ j, 0 ≤ E j := fun j => by show 0 ≤ ite _ _ _; split; exacts [le_rfl, (Real.exp_pos _).le]
  have hpos : 0 < ∑ j, E j := Finset.sum_pos' (fun j _ => hEnn j) ⟨t, Finset.mem_univ t, by show 0 < ite _ _ _; rw [if_neg ht]; exact Real.exp_pos _⟩
  have hKp : 0 < K := Real.exp_pos _
  have hS : 0 < ∑ j, E j * K := by rw [← Finset.sum_mul]; exact mul_pos hpos hKp
  rw [Ideal.div_coe hS.ne', mul_comm, mul_sum _ (one_div_pos.mpr hS).le]
  refine Finset.sum_congr rfl fun j _ => ?_
  rw [Ideal.div_coe hpos.ne', ← mul_assoc, ← EReal.coe_mul, ← EReal.coe_mul]
  congr 2
  rw [← Finset.sum_mul]
  field_simp

end Cert.Softmax

end
-- ==== Proof.Attn.Row.lean ====
module

public import proofs.«01_k».proof.Proof.Attn.Loop
public import proofs.«01_k».proof.Proof.Attn.Softmax
public import Idealize.ShloMosaic.Lib.Pipeline.ValueKit
public import Idealize.ShloMosaic.Lib.Pointwise
public import Idealize.ShloMosaic.Lib.WordCmp

/-! One row of a block: a trip of the loop over key blocks takes the row's running maximum, running sum and weighted sum
    to those over 384 more keys. -/

set_option maxRecDepth 16384

@[expose] public section

noncomputable section

namespace Cert.AttnKernelIdeal.Row

open Cert.AttnKernelIdeal Cert.AttnKernelIdeal.Gen Cert.AttnKernelIdeal.Loop
open Idealize.ShloMosaic Idealize.ShloMosaic.TcCoe Idealize.SL.Sem

/-- The lowest word of the float format is the bottom. -/
theorem word_bot : Ideal.ofBits .f32 0xFF800000#32 = ⊥ := by simp [Ideal.ofBits, Ideal.ieee]

/-- An index into one entry is zero. -/
theorem fin1 (z : Fin 1) : z = 0 := Subsingleton.elim _ _

/-- The mask's value is the bottom. -/
theorem bot_named : Named.named (F := Ideal) Cert.AttnKernelIdeal.κ "neg_inf" (φ := .f32) 0xF149F2CA#32 = ⊥ :=
  IdealRules.named_const.ideal_named_scalar _ _ _ _ rfl

/-- The word of a trip's first key. -/
theorem word_key : ∀ n : Fin 11, Scalar.muli (Scf.iv 0#32 1#32 n.val) 384#32 = BitVec.ofNat 32 (384 * n.val) := by decide +kernel

/-- The word of a block's first query. -/
theorem word_row : ∀ n : Fin 11, Scalar.muli (BitVec.ofNat 32 n.val) 384#32 = BitVec.ofNat 32 (384 * n.val) := by decide +kernel

/-- The number of trips: as many key blocks as query blocks up to this one. -/
theorem trips_eq (i : grid0.Coords) : (k0_t1_loop i).trips = (i 2).val + 1 :=
  (by decide +kernel : ∀ n : Fin 11, Scf.trips 0#32 (Scalar.addi 0#32 (Scalar.muli (Scalar.divsi (Scalar.subi (Scalar.muli (Scalar.addi (BitVec.ofNat 32 n.val) 1#32) 1#32) 0#32) 1#32) 1#32)) 1#32 = n.val + 1) (i 2)

/-- The sum of two small words. -/
theorem addi_ofNat (a b : ℕ) : IntOp.addi (BitVec.ofNat 32 a) (BitVec.ofNat 32 b) = BitVec.ofNat 32 (a + b) := (BitVec.ofNat_add a b).symm

/-- The mask's word: the key at or before the query and past the cut. -/
theorem mask_word (a b : ℕ) (ha : a < 2 ^ 31) (hb : b < 2 ^ 31) :
    IntOp.andi (IntOp.cmpi .sle (BitVec.ofNat 32 a) (BitVec.ofNat 32 b)) (IntOp.cmpi .sge (BitVec.ofNat 32 a) 112#32)
      = BitVec.ofBool (decide (a ≤ b ∧ 112 ≤ a)) := by
  rw [WordCmp.cmpi_sle_ofNat (by simpa using ha) (by simpa using hb), show (112#32 : BitVec 32) = BitVec.ofNat 32 112 from rfl, WordCmp.cmpi_sge_ofNat (by simpa using ha) (by norm_num)]
  by_cases h1 : a ≤ b <;> by_cases h2 : 112 ≤ a <;> simp [h1, h2, IntOp.andi]

/-- A choice by a decided word. -/
theorem select_ofBool {α : Type} (p : Prop) [Decidable p] (x y : α) :
    Scalar.select (BitVec.ofBool (decide p)) x y = if p then x else y := by
  by_cases h : p <;> simp [h, Scalar.select]

variable (i : grid0.Coords) (q : Vec Ideal S384x128 .bf16) (v14 : BitVec 32) (k : Fin (k0_t1_loop i).trips)
  (K V : Vec Ideal S384x128 .bf16) (C : Vec Ideal S1x1x384 .f32)

/-- The masked scores of a trip. -/
def scores : FVec Ideal S384x384 .f32 := k0_pay2 (F := Ideal) i (k0_pay16 q) v14 0#32 1#32 k K C

/-- The running maximum after a trip, at a row. -/
theorem next8_apply (m : Vec Ideal S384x1 .f32) (r : Fin 384) (z : Fin 1) :
    next8 i q v14 k K C m (ix2 r z) = max (m (ix2 r z)) (Finset.univ.sup fun j : Fin 384 => scores i q v14 k K C (ix2 r j)) := by
  have e : k0_pay2 (F := Ideal) i (k0_pay16 q) v14 0#32 1#32 k K C = scores i q v14 k K C := rfl
  unfold next8 k0_pay18 k0_pay3
  rw [e]
  pointwise []
  rw [fin1 z, word_bot]
  rfl

/-- The running sum after a trip, at a row. -/
theorem next9_apply (m l : Vec Ideal S384x1 .f32) (r : Fin 384) (z : Fin 1) :
    next9 i q v14 k K C m l (ix2 r z)
      = Ideal.exp (m (ix2 r z) - next8 i q v14 k K C m (ix2 r z)) * l (ix2 r z)
        + ∑ j : Fin 384, Ideal.exp (scores i q v14 k K C (ix2 r j) - next8 i q v14 k K C m (ix2 r z)) := by
  rw [next8_apply]
  have e : k0_pay2 (F := Ideal) i (k0_pay16 q) v14 0#32 1#32 k K C = scores i q v14 k K C := rfl
  unfold next9 k0_pay6 k0_pay5 k0_pay4 k0_pay3
  rw [e]
  pointwise []
  rw [fin1 z, word_bot]
  rfl

/-- The accumulator after a trip, at an entry. -/
theorem next10_apply (m : Vec Ideal S384x1 .f32) (a : Vec Ideal S384x128 .f32) (r : Fin 384) (z : Fin 1) (d : Fin 128) :
    next10 i q v14 k K V C m a (ix2 r d)
      = Ideal.exp (m (ix2 r z) - next8 i q v14 k K C m (ix2 r z)) * a (ix2 r d)
        + ∑ j : Fin 384, Ideal.exp (scores i q v14 k K C (ix2 r j) - next8 i q v14 k K C m (ix2 r z)) * V (ix2 j d) := by
  rw [next8_apply]
  have e : k0_pay2 (F := Ideal) i (k0_pay16 q) v14 0#32 1#32 k K C = scores i q v14 k K C := rfl
  unfold next10 k0_pay17 k0_pay1 k0_pay5 k0_pay4 k0_pay3
  rw [e]
  pointwise []
  rw [fin1 z, word_bot]
  rfl

/-- A score of a trip: the product of the two rows less the key's bias, where the key is allowed. -/
theorem scores_apply (hv : v14 = Scalar.muli (BitVec.ofNat 32 (i 2).val) 384#32) (r j : Fin 384) :
    scores i q v14 k K C (ix2 r j) = if 384 * k.val + j ≤ 384 * (i 2).val + r ∧ 112 ≤ 384 * k.val + j
      then (∑ d : Fin 128, q (ix2 r d) * K (ix2 j d)) - C (ix3 0 0 j) else ⊥ := by
  have hk : k.val < 11 := Nat.lt_of_lt_of_le k.isLt (k0_t1_abs i).2.1
  have hi : (i 2).val < 11 := (i 2).isLt
  unfold scores k0_pay2 k0_pay16
  pointwise []
  rw [hv, word_key ⟨k.val, hk⟩, word_row ⟨(i 2).val, hi⟩, addi_ofNat, addi_ofNat,
    mask_word _ _ (by dsimp only; omega) (by dsimp only; omega), select_ofBool, bot_named]

/-- Before the first trip: no key, the maximum at the bottom, both sums zero. -/
theorem init_apply (s v : ℕ → EReal) (r : Fin 384) (z : Fin 1) (d : Fin 128) :
    Softmax.Inv s v 0 (k0_pay13 (F := Ideal) (ix2 r z)) (k0_pay14 (F := Ideal) (ix2 r z)) (k0_pay15 (F := Ideal) (ix2 r d)) := by
  have e1 : k0_pay13 (F := Ideal) (ix2 r z) = ⊥ := by
    unfold k0_pay13; pointwise []; exact bot_named
  have e2 : k0_pay14 (F := Ideal) (ix2 r z) = 0 := by
    unfold k0_pay14; pointwise []
  have e3 : k0_pay15 (F := Ideal) (ix2 r d) = 0 := by
    unfold k0_pay15; pointwise []
  rw [e1, e2, e3]
  exact Softmax.inv_zero s v

/-- One trip: 384 more keys. -/
theorem trip_apply (s v : ℕ → EReal) (m l : Vec Ideal S384x1 .f32) (a : Vec Ideal S384x128 .f32) (r : Fin 384) (z : Fin 1) (d : Fin 128)
    (hs : ∀ j : Fin 384, s (384 * k.val + j) = scores i q v14 k K C (ix2 r j))
    (hv : ∀ j : Fin 384, v (384 * k.val + j) = V (ix2 j d))
    (ok : ∀ j, Softmax.Ok (s j))
    (h : Softmax.Inv s v (384 * k.val) (m (ix2 r z)) (l (ix2 r z)) (a (ix2 r d))) :
    Softmax.Inv s v (384 * (k.val + 1)) (next8 i q v14 k K C m (ix2 r z)) (next9 i q v14 k K C m l (ix2 r z))
      (next10 i q v14 k K V C m a (ix2 r d)) := by
  rw [Nat.mul_succ]
  refine Softmax.inv_step (T := 384) (fun j _ => ok j) h (M := Finset.univ.sup fun j : Fin 384 => s (384 * k.val + j)) rfl ?_ ?_ ?_
  · rw [next8_apply, funext hs]
  · rw [next9_apply]; exact congrArg _ (Finset.sum_congr rfl fun j _ => by rw [hs])
  · rw [next10_apply (z := z)]; exact congrArg _ (Finset.sum_congr rfl fun j _ => by rw [hs, hv])

/-- A block's entry: the weighted sum over the sum of weights. -/
theorem out_apply (a : Vec Ideal S384x128 .f32) (l : Vec Ideal S384x1 .f32) (r : Fin 384) (z : Fin 1) (d : Fin 128) :
    k0_pay21 (F := Ideal) a l (ix2 r d) = Ideal.div (a (ix2 r d)) (l (ix2 r z)) := by
  unfold k0_pay21
  pointwise []
  rw [fin1 z]

end Cert.AttnKernelIdeal.Row

end
-- ==== Proof.Bias.Ref.lean ====
module

public import proofs.«01_k».proof.Proof.Bias.Lemmas
public import proofs.«01_k».proof.Proof.Attn.Row
public import Idealize.ShloMosaic.Lib.Pointwise

/-! The reference's key biases at an entry. -/

set_option maxRecDepth 16384

@[expose] public section

noncomputable section

namespace Cert.BiasReferenceIdeal.Pure

open Cert.BiasReferenceIdeal Cert.BiasReferenceIdeal.Gen Cert.Bias
open Idealize.ShloMosaic Idealize.ShloMosaic.TcCoe Idealize.SL.Sem

/-- The gates before the log-sigmoid. -/
def REFz (h : FVec Ideal S16896x2048 .f32) (g : FVec Ideal S2048 .f32) (w : FVec Ideal S2048x16 .f32) (b : FVec Ideal S16 .f32) :
    FVec Ideal S16896x16 .f32 :=
  addf (Host.dotGeneral dot_S16896x2048_S2048x16_S16896x16_1_0_0_1_n_n none (mulf (mulf h (broadcastInDim S16896x2048 ![0, 1] bcast_S16896x1_S16896x2048_0_1 (Host.rsqrt (addf (Host.divf (broadcastInDim S16896x1 ![0] bcast_S16896_S16896x1_0 (Host.reduceAdd (mulf h h) (constant S_ .f32 0x00000000#32) reducesTo_S16896x2048_S16896_d1 h_S_)) (broadcastInDim S16896x1 ![] bcast_S_S16896x1 (constant S_ .f32 0x45000000#32))) (broadcastInDim S16896x1 ![] bcast_S_S16896x1 (constant S_ .f32 0x358637BD#32)))))) (broadcastInDim S16896x2048 ![0, 1] bcast_S1x2048_S16896x2048_0_1 (broadcastInDim S1x2048 ![1] bcast_S2048_S1x2048_1 g))) w) (broadcastInDim S16896x16 ![0, 1] bcast_S1x16_S16896x16_0_1 (broadcastInDim S1x16 ![1] bcast_S16_S1x16_1 b))

/-- Their log-sigmoid. -/
def REFl (Z : FVec Ideal S16896x16 .f32) : FVec Ideal S16896x16 .f32 :=
  Host.negf (select (cmpf .une (subf (Host.negf Z) (broadcastInDim S16896x16 ![] bcast_S_S16896x16 (constant S_ .f32 0x00000000#32))) (subf (Host.negf Z) (broadcastInDim S16896x16 ![] bcast_S_S16896x16 (constant S_ .f32 0x00000000#32)))) (addf (Host.negf Z) (broadcastInDim S16896x16 ![] bcast_S_S16896x16 (constant S_ .f32 0x00000000#32))) (addf (maximumf (Host.negf Z) (broadcastInDim S16896x16 ![] bcast_S_S16896x16 (constant S_ .f32 0x00000000#32))) (Host.log1p (Host.exp (Host.negf (Host.absf (subf (Host.negf Z) (broadcastInDim S16896x16 ![] bcast_S_S16896x16 (constant S_ .f32 0x00000000#32)))))))))

/-- The same with the first 112 positions of a sequence at zero. -/
def REFm (L : FVec Ideal S16896x16 .f32) : FVec Ideal S4x4224x16 .f32 :=
  select (broadcastInDim S4x4224x16 ![0, 1, 2] bcast_S1x4224x1_S4x4224x16_0_1_2 (broadcastInDim S1x4224x1 ![1] bcast_S4224_S1x4224x1_1 (cmpi .sge (iotaInDim S4224 32 0) (broadcastInDim S4224 ![] bcast_S_S4224 (constantI S_ 32 112#32))))) (shapeCast _ L shapeCasts_S16896x16_S4x4224x16) (broadcastInDim S4x4224x16 ![] bcast_S_S4x4224x16 (id (constant S_ .f32 0x00000000#32)))

/-- The running sums. -/
def REFc (M : FVec Ideal S4x4224x16 .f32) : FVec Ideal S4x4224x16 .f32 :=
  Host.reduceWindowAdd ![1, 4224, 1] ![1, 1, 1] ![0, 4223, 0] ![0, 0, 0] M (broadcastInDim S_ ![] bcast_S_S_ (constant S_ .f32 0x00000000#32)) reduceWindows_S4x4224x16_S4x4224x16_w1s1p0_0_w4224s1p4223_0_w1s1p0_0 h_S_

/-- The biases from the running sums. -/
def REFo (C : FVec Ideal S4x4224x16 .f32) : FVec Ideal S4x16x4224 .f32 :=
  select (broadcastInDim S4x16x4224 ![2] bcast_S4224_S4x16x4224_2 (cmpi .sge (iotaInDim S4224 32 0) (broadcastInDim S4224 ![] bcast_S_S4224 (constantI S_ 32 112#32)))) (Host.divf (Host.negf (transpose S4x16x4224 [0, 2, 1] C transposes_S4x4224x16_S4x16x4224_0_2_1)) (broadcastInDim S4x16x4224 ![] bcast_S_S4x16x4224 (Host.log (constant S_ .f32 0x40000000#32)))) (broadcastInDim S4x16x4224 ![] bcast_S_S4x16x4224 (id (constant S_ .f32 0xFF800000#32)))

/-- The reference's result by its parts. -/
theorem res_eq (m : (ℓ : Loc nD τ sig) → Buf (Elt Ideal) ℓ) (c : Dev nD) : Cert.BiasReferenceIdeal.Value.res_main_v32 m c
    = REFo (REFc (REFm (REFl (REFz (m ((c.tc : Thread nD τ).loc main_arg0)) (m ((c.tc : Thread nD τ).loc main_arg1)) (m ((c.tc : Thread nD τ).loc main_arg2)) (m ((c.tc : Thread nD τ).loc main_arg3)))))) := rfl

/-- An entry of the scaled rows. -/
def xn (h : FVec Ideal S16896x2048 .f32) (g : FVec Ideal S2048 .f32) (r : Fin 16896) (k : Fin 2048) : EReal :=
  h (ix2 r k) * Ideal.rsqrt (Ideal.div (∑ j : Fin 2048, h (ix2 r j) * h (ix2 r j)) (Ideal.ofBits .f32 0x45000000#32) + Ideal.ofBits .f32 0x358637BD#32) * g (ix1 k)

/-- An entry of the gates. -/
def zz (h : FVec Ideal S16896x2048 .f32) (g : FVec Ideal S2048 .f32) (w : FVec Ideal S2048x16 .f32) (b : FVec Ideal S16 .f32)
    (r : Fin 16896) (n : Fin 16) : EReal := (∑ k : Fin 2048, xn h g r k * w (ix2 k n)) + b (ix1 n)

/-- A sequence's terms of the running sum. -/
def term (h : FVec Ideal S16896x2048 .f32) (g : FVec Ideal S2048 .f32) (w : FVec Ideal S2048x16 .f32) (b : FVec Ideal S16 .f32)
    (q : Fin 4) (n : Fin 16) (s : ℕ) : EReal :=
  if hs : s < 4224 then (if 112 ≤ s then lsR (zz h g w b ⟨4224 * q.val + s, by have := q.isLt; omega⟩ n) else 0) else 0

/-- A gate at an entry. -/
theorem REFz_apply (h : FVec Ideal S16896x2048 .f32) (g : FVec Ideal S2048 .f32) (w : FVec Ideal S2048x16 .f32) (b : FVec Ideal S16 .f32)
    (r : Fin 16896) (n : Fin 16) : REFz h g w b (ix2 r n) = zz h g w b r n := by
  unfold REFz zz xn
  pointwise []

/-- The zero word. -/
theorem word_zero : Ideal.ofBits .f32 0x00000000#32 = (0 : EReal) := by simp [Ideal.ofBits, Ideal.ieee]

/-- The comparison of a position with 112. -/
theorem word_ge (a : ℕ) (ha : a < 2 ^ 31) : IntOp.cmpi .sge (BitVec.ofNat 32 a) 112#32 = BitVec.ofBool (decide (112 ≤ a)) := by
  rw [show (112#32 : BitVec 32) = BitVec.ofNat 32 112 from rfl, WordCmp.cmpi_sge_ofNat (by simpa using ha) (by norm_num)]

/-- A log-sigmoid at an entry. -/
theorem REFl_apply (Z : FVec Ideal S16896x16 .f32) (r : Fin 16896) (n : Fin 16) : REFl Z (ix2 r n) = lsR (Z (ix2 r n)) := by
  unfold REFl lsR
  pointwise []
  rfl

/-- A masked entry. -/
theorem REFm_apply (L : FVec Ideal S16896x16 .f32) (q : Fin 4) (s : Fin 4224) (n : Fin 16) (r : Fin 16896) (hr : r.val = 4224 * q.val + s.val) :
    REFm L (ix3 q s n) = if 112 ≤ s.val then L (ix2 r n) else 0 := by
  have hs := s.isLt
  unfold REFm
  pointwise []
  rw [word_ge _ (by omega), Cert.AttnKernelIdeal.Row.select_ofBool]
  refine if_congr Iff.rfl (congrArg (fun z => L (ix2 z n)) (Fin.ext ?_)) word_zero
  show q.val * 4224 + s.val = _
  omega

/-- A running sum. -/
theorem REFc_apply (h : FVec Ideal S16896x2048 .f32) (g : FVec Ideal S2048 .f32) (w : FVec Ideal S2048x16 .f32) (b : FVec Ideal S16 .f32)
    (q : Fin 4) (t : Fin 4224) (n : Fin 16) :
    REFc (REFm (REFl (REFz h g w b))) (ix3 q t n) = ∑ s ∈ Finset.range (t.val + 1), term h g w b q n s := by
  refine cumsum3 (Nm1 := 4223) _ (term h g w b q n) _ (fun i => ?_) _ _ q t n fun s => ?_
  · exact word_zero
  · rw [REFm_apply _ q s n ⟨4224 * q.val + s.val, by have := q.isLt; have := s.isLt; omega⟩ rfl, REFl_apply, REFz_apply]
    unfold term
    rw [dif_pos s.isLt]

/-- A bias: minus infinity on the first 112 positions, and after them minus the running sum over ln 2. -/
theorem REFo_apply (C : FVec Ideal S4x4224x16 .f32) (q : Fin 4) (n : Fin 16) (t : Fin 4224) :
    REFo C (ix3 q n t) = if 112 ≤ t.val then Ideal.div (-(C (ix3 q t n))) (Ideal.log (Ideal.ofBits .f32 0x40000000#32)) else ⊥ := by
  have ht := t.isLt
  unfold REFo
  pointwise []
  rw [word_ge _ (by omega), Cert.AttnKernelIdeal.Row.select_ofBool]
  exact if_congr Iff.rfl rfl Cert.AttnKernelIdeal.Row.word_bot

end Cert.BiasReferenceIdeal.Pure

end
-- ==== Proof.Bias.Point.lean ====
module

public import proofs.«01_k».proof.Proof.Bias.Ref
public import Idealize.ShloMosaic.Lib.Pipeline.ValueKit
public import Idealize.ShloMosaic.Lib.Pipeline.ValueKit.Held
public import Idealize.ShloMosaic.Lib.Pipeline.ReadBack
public import Idealize.ShloMosaic.Lib.VecWindow
public import Idealize.ShloMosaic.Lib.Pointwise

/-! The key biases' blocks, and what one grid point computes of them. -/

set_option maxRecDepth 16384

@[expose] public section

noncomputable section

namespace Cert.BiasKernelIdeal.Point

open Cert.BiasKernelIdeal Cert.BiasKernelIdeal.Gen Cert.Bias Cert.BiasReferenceIdeal.Pure
open Idealize.ShloMosaic Idealize.ShloMosaic.TcCoe Idealize.SL.Sem
open Idealize.ShloMosaic.Pipeline (Dat)

variable (m : (ℓ : Loc nD τ sig) → Buf (Elt Ideal) ℓ)

/-- The rows. -/
abbrev H (c : Dev nD) : FVec Ideal S16896x2048 .f32 := m ((c : Thread nD τ).loc main_arg0)
/-- The gains. -/
abbrev G (c : Dev nD) : FVec Ideal S2048 .f32 := m ((c : Thread nD τ).loc main_arg1)
/-- The weights. -/
abbrev W (c : Dev nD) : FVec Ideal S2048x16 .f32 := m ((c : Thread nD τ).loc main_arg2)
/-- The offsets. -/
abbrev B (c : Dev nD) : FVec Ideal S16 .f32 := m ((c : Thread nD τ).loc main_arg3)

/-- The index maps at every point: eleven blocks of positions of each of four sequences. -/
theorem idx : ∀ t : Fin cfg0.N, win0_0.index t = ![t.val, 0] ∧ win0_1.index t = ![0, 0] ∧ win0_2.index t = ![0, 0]
    ∧ win0_3.index t = ![0, 0] ∧ win0_4.index t = ![t.val / 11, 0, t.val % 11] :=
  (by decide +kernel : ∀ t : Fin grid0.N, _)

/-- The block of positions of a point. -/
theorem coord1 : ∀ t : Fin cfg0.N, (cfg0.grid.coords t 1 : ℕ) = t.val % 11 :=
  (by decide +kernel : ∀ t : Fin grid0.N, (grid0.coords t 1 : ℕ) = t.val % 11)

/-- A row block's entry. -/
theorem blk_h (c : Dev nD) (t : Fin cfg0.N) (y : Fin 384) (k : Fin 2048) (r : Fin 16896) (hr : r.val = 384 * t.val + y.val) :
    (show FVec Ideal S384x2048 .f32 from iblk m c 0 t) (ix2 y k) = H m c (ix2 r k) := by
  blk_point [iblk, V, idx t]

/-- A gain. -/
theorem blk_g (c : Dev nD) (t : Fin cfg0.N) (k : Fin 2048) :
    (show FVec Ideal S1x2048 .f32 from iblk m c 1 t) (ix2 0 k) = G m c (ix1 k) := by
  blk_point [iblk, V, idx t]

/-- The padded weights. -/
def PW (c : Dev nD) : FVec Ideal S2048x128 .f32 :=
  Host.scatter scatter_S2048x128_S1_S2048x16_01_n_1_0 (fun _ b => b) (broadcastInDim S2048x128 ![] bcast_S_S2048x128 (constant S_ .f32 0x00000000#32))
    (broadcastInDim S1 ![] bcast_S_S1 (constantI S_ 32 0#32)) (W m c)

set_option maxRecDepth 65536 in
/-- The weights as the grid finds them: the padded ones beside what their rounding leaves. -/
theorem entry_w (c : Dev nD) : (show FVec Ideal S2048x256 .bf16 from V m c main_v7)
    = concatenate S2048x256 1 [⟨S2048x128, (truncf .bf16 (PW m c) bitsLt_bf16_f32 : FVec Ideal S2048x128 .bf16)⟩,
        ⟨S2048x128, truncf .bf16 (subf (PW m c) (extf .f32 (truncf .bf16 (PW m c) bitsLt_bf16_f32) bitsLt_bf16_f32)) bitsLt_bf16_f32⟩]
        concatenates_S2048x128_S2048x128_S2048x256_d1 := by
  entry_read
  rfl

/-- An entry of the padded weights. -/
theorem PW_apply (c : Dev nD) (k : Fin 2048) (n : Fin 16) (p : Fin 128) (hp : p.val = n.val) : PW m c (ix2 k p) = W m c (ix2 k n) :=
  pad_w _ _ (fun _ => rfl) _ k n p hp

/-- The weights of a point are those the grid finds. -/
theorem blk_ww (c : Dev nD) (t : Fin cfg0.N) (k : Fin 2048) (p : Fin 256) :
    (show FVec Ideal S2048x256 .bf16 from iblk m c 2 t) (ix2 k p) = (show FVec Ideal S2048x256 .bf16 from V m c main_v7) (ix2 k p) := by
  blk_simp [iblk, idx t]
  refine congrArg (V m c main_v7) (funext fun a => Fin.ext ?_)
  match a with
  | ⟨0, _⟩ => blk_simp [idx t]
  | ⟨1, _⟩ => blk_simp [idx t]

/-- Two matrices side by side at an entry. -/
theorem beside (P Q : FVec Ideal S2048x128 .bf16) (k : Fin 2048) (p : Fin 256) :
    concatenate S2048x256 1 [⟨S2048x128, P⟩, ⟨S2048x128, Q⟩] concatenates_S2048x128_S2048x128_S2048x256_d1 (ix2 k p)
      = if h : p.val < 128 then P (ix2 k ⟨p.val, h⟩) else Q (ix2 k ⟨p.val - 128, by have := p.isLt; omega⟩) := by
  pointwise

/-- A rounded entry is the entry. -/
theorem high (P : FVec Ideal S2048x128 .f32) (i : S2048x128.Idx) : (truncf .bf16 P bitsLt_bf16_f32 : FVec Ideal S2048x128 .bf16) i = P i := rfl

/-- What rounding leaves of an entry is the entry less itself. -/
theorem low (P : FVec Ideal S2048x128 .f32) (i : S2048x128.Idx) :
    (truncf .bf16 (subf P (extf .f32 (truncf .bf16 P bitsLt_bf16_f32) bitsLt_bf16_f32)) bitsLt_bf16_f32 : FVec Ideal S2048x128 .bf16) i = P i - P i := rfl

/-- A weight. -/
theorem blk_w (c : Dev nD) (t : Fin cfg0.N) (k : Fin 2048) (n : Fin 16) (p : Fin 256) (hp : p.val = n.val) :
    (show FVec Ideal S2048x256 .bf16 from iblk m c 2 t) (ix2 k p) = W m c (ix2 k n) := by
  have hn := n.isLt
  rw [blk_ww, entry_w, beside, dif_pos (by omega)]
  exact (high (PW m c) _).trans (PW_apply m c k n _ hp)

/-- A weight less itself. -/
theorem blk_w' (c : Dev nD) (t : Fin cfg0.N) (k : Fin 2048) (n : Fin 16) (p : Fin 256) (hp : p.val = 128 + n.val) :
    (show FVec Ideal S2048x256 .bf16 from iblk m c 2 t) (ix2 k p) = W m c (ix2 k n) - W m c (ix2 k n) := by
  have hn := n.isLt
  rw [blk_ww, entry_w, beside, dif_neg (by omega)]
  refine (low (PW m c) _).trans ?_
  rw [PW_apply m c k n _ (by show p.val - 128 = _; omega)]

/-- An offset. -/
theorem blk_b (c : Dev nD) (t : Fin cfg0.N) (n : Fin 16) (p : Fin 128) (hp : p.val = n.val) :
    (show FVec Ideal S1x128 .f32 from iblk m c 3 t) (ix2 0 p) = B m c (ix1 n) := by
  have hn := n.isLt
  blk_simp [iblk, idx t]; entry_read; pointwise
  refine Eq.trans (congrArg _ (funext fun a => Fin.ext ?_)) (pad_b _ _ (fun i => ?_) _ n p hp)
  · match a with
    | ⟨0, _⟩ => blk_simp [idx t]
    | ⟨1, _⟩ => blk_simp [idx t]
  · pointwise
    split <;> rfl

/-- The gates' payload at an entry. -/
theorem pay5_apply (X : FVec Ideal S384x2048 .f32) (g : FVec Ideal S1x2048 .f32) (w : FVec Ideal S2048x256 .bf16) (b : FVec Ideal S1x128 .f32)
    (y : Fin 384) (p : Fin 128) (e : Fin 2048 → EReal)
    (he : ∀ k, e k = ( X (ix2 y k) * Ideal.rsqrt (Ideal.div (∑ j : Fin 2048, X (ix2 y j) * X (ix2 y j)) (Ideal.ofBits .f32 0x45000000#32) + Ideal.ofBits .f32 0x358637BD#32) * g (ix2 0 k) : EReal)) :
    (show EReal from k0_pay5 (F := Ideal) X g w b (ix2 y p)) = (∑ k : Fin 2048, e k * w (ix2 k ⟨p.val, by have := p.isLt; omega⟩))
      + (∑ k : Fin 2048, e k * w (ix2 k ⟨128 + p.val, by have := p.isLt; omega⟩))
      + (∑ k : Fin 2048, (e k - e k) * w (ix2 k ⟨p.val, by have := p.isLt; omega⟩)) + b (ix2 0 p) := by
  simp only [he]
  pointwise [k0_pay5]

/-- The comparison of a block's position with 112. -/
theorem word_pos (a : ℕ) (ha : a < 11) (s : ℕ) (hs : s < 384) :
    IntOp.cmpi .sge (IntOp.addi (Scalar.muli (BitVec.ofNat 32 a) 384#32) (BitVec.ofNat 32 s)) 112#32 = BitVec.ofBool (decide (112 ≤ 384 * a + s)) := by
  have e : ∀ n : Fin 11, Scalar.muli (BitVec.ofNat 32 n.val) 384#32 = BitVec.ofNat 32 (384 * n.val) := by decide +kernel
  rw [e ⟨a, ha⟩, show IntOp.addi (BitVec.ofNat 32 (384 * a)) (BitVec.ofNat 32 s) = BitVec.ofNat 32 (384 * a + s) from (BitVec.ofNat_add _ _).symm]
  exact word_ge _ (by omega)

/-- One as a word is one. -/
theorem word_one : (FloatOps.sitofp .f32 (1#32 : BitVec 32) : Ideal .f32) = (1 : EReal) := by
  show ((((1#32 : BitVec 32).toInt : ℤ) : ℝ) : EReal) = 1
  simp

/-- Zero as a word is zero. -/
theorem word_none : (FloatOps.sitofp .f32 (0#32 : BitVec 32) : Ideal .f32) = (0 : EReal) := by
  show ((((0#32 : BitVec 32).toInt : ℤ) : ℝ) : EReal) = 0
  simp

/-- The kernel's factor over the extended reals. -/
theorem neg_log2e_named : Named.named (F := Ideal) Cert.BiasKernelIdeal.κ "neg_log2e" (φ := .f32) 0xBFB8AA3B#32 = ((-((Real.log 2)⁻¹) : ℝ) : EReal) :=
  IdealRules.named_const.ideal_named_scalar _ _ _ _ rfl

/-- The kernel's mask over the extended reals. -/
theorem neg_inf_named : Named.named (F := Ideal) Cert.BiasKernelIdeal.κ "neg_inf" (φ := .f32) 0xF149F2CA#32 = (⊥ : EReal) :=
  IdealRules.named_const.ideal_named_scalar _ _ _ _ rfl

/-- The running sums' payload at an entry. -/
theorem pay1_apply (a : ℕ) (ha : a < 11) (v36 v39 : FVec Ideal S384x128 .f32) (v58 : FVec Ideal S128x1 .f32) (p : Fin 128) (l : Fin 384) :
    k0_pay1 (BitVec.ofNat 32 a) v36 v39 v58 (ix2 p l)
      = (∑ s : Fin 384, if s.val ≤ l.val then (if 112 ≤ 384 * a + s.val then v36 (ix2 s p) - Ideal.log1p (Ideal.exp (v39 (ix2 s p))) else 0) else 0)
        + v58 (ix2 p 0) := by
  pointwise [k0_pay1]
  refine congrArg (fun z : EReal => z + v58 (ix2 p 0)) (Finset.sum_congr rfl fun s _ => ?_)
  have hs := s.isLt
  have hl := l.isLt
  rw [word_pos a ha _ (by omega), Cert.AttnKernelIdeal.Row.select_ofBool, WordCmp.cmpi_sle_ofNat (by omega) (by omega)]
  by_cases h1 : s.val ≤ l.val <;> by_cases h2 : 112 ≤ 384 * a + s.val <;> simp [h1, h2, word_one, word_none]

/-- What a point leaves in scratch: the last running sum along every row. -/
theorem pay2_apply (a : BitVec 32) (v36 v39 : FVec Ideal S384x128 .f32) (v58 : FVec Ideal S128x1 .f32) (p : Fin 128) (l : Fin 128) :
    k0_pay2 a v36 v39 v58 (ix2 p l) = k0_pay1 a v36 v39 v58 (ix2 p 383) := by
  pointwise [k0_pay2]

/-- The output's block at an entry. -/
theorem pay3_apply (a : ℕ) (ha : a < 11) (v36 v39 : FVec Ideal S384x128 .f32) (v58 : FVec Ideal S128x1 .f32) (n : Fin 16) (l : Fin 384) :
    k0_pay3 (BitVec.ofNat 32 a) v36 v39 v58 (ix3 0 n l)
      = if 112 ≤ 384 * a + l.val then ((-((Real.log 2)⁻¹) : ℝ) : EReal) * k0_pay1 (BitVec.ofNat 32 a) v36 v39 v58 (ix2 ⟨n.val, by have := n.isLt; omega⟩ l) else ⊥ := by
  have hl := l.isLt
  pointwise [k0_pay3]
  rw [word_pos a ha _ (by omega), Cert.AttnKernelIdeal.Row.select_ofBool]
  exact if_congr Iff.rfl (congrArg (fun z : EReal => z * k0_pay1 (BitVec.ofNat 32 a) v36 v39 v58 (ix2 ⟨n.val, by have := n.isLt; omega⟩ l)) neg_log2e_named) neg_inf_named

/-- The minimum with zero at an entry. -/
theorem pay6_apply (X : FVec Ideal S384x2048 .f32) (g : FVec Ideal S1x2048 .f32) (w : FVec Ideal S2048x256 .bf16) (b : FVec Ideal S1x128 .f32)
    (y : Fin 384) (p : Fin 128) (z : EReal) (hz : (show EReal from k0_pay5 (F := Ideal) X g w b (ix2 y p)) = z) :
    (show EReal from k0_pay6 (F := Ideal) X g w b (ix2 y p)) = min z 0 := by
  rw [← hz, ← word_zero]
  rfl

/-- Minus the absolute value at an entry. -/
theorem pay7_apply (X : FVec Ideal S384x2048 .f32) (g : FVec Ideal S1x2048 .f32) (w : FVec Ideal S2048x256 .bf16) (b : FVec Ideal S1x128 .f32)
    (y : Fin 384) (p : Fin 128) (z : EReal) (hz : (show EReal from k0_pay5 (F := Ideal) X g w b (ix2 y p)) = z) :
    (show EReal from k0_pay7 (F := Ideal) X g w b (ix2 y p)) = 0 - max z (-z) := by
  rw [← hz, ← word_zero]
  rfl

/-- A sum of reals is a real. -/
theorem sum_real {n : ℕ} (f : Fin n → EReal) (hf : ∀ i, ∃ r : ℝ, f i = r) : ∃ r : ℝ, ∑ i, f i = r := by
  choose r hr using hf
  exact ⟨∑ i, r i, by simp only [hr]; exact (map_sum (⟨⟨Real.toEReal, EReal.coe_zero⟩, EReal.coe_add⟩ : ℝ →+ EReal) r _).symm⟩

/-- The words of 2048 and of the small number added are positive reals. -/
theorem words : ∃ a e : ℝ, 0 < a ∧ 0 < e ∧ Ideal.ofBits .f32 0x45000000#32 = (a : EReal) ∧ Ideal.ofBits .f32 0x358637BD#32 = (e : EReal) := by
  refine ⟨2048, 8796093 * (2 : ℝ) ^ (-43 : ℤ), by norm_num, by positivity, ?_, ?_⟩
  · simp [Ideal.ofBits, Ideal.ieee, -EReal.coe_mul]; norm_num
  · simp [Ideal.ofBits, Ideal.ieee, -EReal.coe_mul]

section
variable (h : FVec Ideal S16896x2048 .f32) (g : FVec Ideal S2048 .f32) (w : FVec Ideal S2048x16 .f32) (b : FVec Ideal S16 .f32)
  (hh : ∀ i, ∃ r : ℝ, (show EReal from h i) = r) (hg : ∀ i, ∃ r : ℝ, (show EReal from g i) = r)
  (hw : ∀ i, ∃ r : ℝ, (show EReal from w i) = r) (hb : ∀ i, ∃ r : ℝ, (show EReal from b i) = r)

include hh hg in
/-- A scaled entry is a real. -/
theorem xn_real (r : Fin 16896) (k : Fin 2048) : ∃ x : ℝ, xn h g r k = x := by
  obtain ⟨a, e, ha, he, wa, we⟩ := words
  choose h' hh' using hh
  choose g' hg' using hg
  have hs : ∃ S : ℝ, 0 ≤ S ∧ ∑ j : Fin 2048, h (ix2 r j) * h (ix2 r j) = ((S : ℝ) : EReal) := by
    refine ⟨∑ j : Fin 2048, h' (ix2 r j) * h' (ix2 r j), Finset.sum_nonneg fun j _ => mul_self_nonneg _, ?_⟩
    refine Eq.trans (Finset.sum_congr rfl fun j _ => ?_) (map_sum (⟨⟨Real.toEReal, EReal.coe_zero⟩, EReal.coe_add⟩ : ℝ →+ EReal) _ _).symm
    show (show EReal from h (ix2 r j)) * (show EReal from h (ix2 r j)) = ((h' (ix2 r j) * h' (ix2 r j) : ℝ) : EReal)
    rw [hh', EReal.coe_mul]
  obtain ⟨S, hS0, hS⟩ := hs
  have hp : 0 < S * (1 / a) + e := by positivity
  refine ⟨h' (ix2 r k) * (Real.sqrt (S * (1 / a) + e))⁻¹ * g' (ix1 k), ?_⟩
  unfold xn
  rw [hS, wa, we, Ideal.div_coe ha.ne', ← EReal.coe_mul, ← EReal.coe_add, Ideal.rsqrt_coe, if_neg (not_lt.mpr hp.le), if_neg hp.ne']
  show (show EReal from h (ix2 r k)) * _ * (show EReal from g (ix1 k)) = _
  rw [hh', hg', EReal.coe_mul, EReal.coe_mul]

include hh hg hw hb in
/-- A gate is a real. -/
theorem zz_real (r : Fin 16896) (n : Fin 16) : ∃ x : ℝ, zz h g w b r n = x := by
  obtain ⟨s, hs⟩ := sum_real (fun k : Fin 2048 => xn h g r k * (show EReal from w (ix2 k n))) fun k => by
    obtain ⟨x, hx⟩ := xn_real h g hh hg r k
    obtain ⟨y, hy⟩ := hw (ix2 k n)
    exact ⟨x * y, by rw [hx, hy, EReal.coe_mul]⟩
  obtain ⟨y, hy⟩ := hb (ix1 n)
  refine ⟨s + y, ?_⟩
  unfold zz
  show (∑ k : Fin 2048, xn h g r k * (show EReal from w (ix2 k n))) + (show EReal from b (ix1 n)) = _
  rw [hs, hy, EReal.coe_add]

end

variable (hH : ∀ c i, ∃ r : ℝ, (show EReal from H m c i) = r) (hG : ∀ c i, ∃ r : ℝ, (show EReal from G m c i) = r)
  (hW : ∀ c i, ∃ r : ℝ, (show EReal from W m c i) = r) (hB : ∀ c i, ∃ r : ℝ, (show EReal from B m c i) = r)

/-- A real less itself is zero. -/
theorem sub_self_real {x : EReal} (h : ∃ r : ℝ, x = r) : x - x = 0 := by
  obtain ⟨r, rfl⟩ := h
  rw [← EReal.coe_sub, sub_self]
  rfl

include hH hG hW in
/-- A point's gate is the reference's. -/
theorem gate (c : Dev nD) (t : Fin cfg0.N) (y : Fin 384) (n : Fin 16) (p : Fin 128) (hp : p.val = n.val) (r : Fin 16896) (hr : r.val = 384 * t.val + y.val) :
    (show EReal from k0_pay5 (F := Ideal) (iblk m c 0 t) (iblk m c 1 t) (iblk m c 2 t) (iblk m c 3 t) (ix2 y p))
      = zz (H m c) (G m c) (W m c) (B m c) r n := by
  have hn := n.isLt
  refine (pay5_apply _ _ _ _ y p (xn (H m c) (G m c) r) fun k => ?_).trans ?_
  · unfold xn
    have e := fun k => blk_h m c t y k r hr
    have eg := blk_g m c t k
    dsimp only at e eg
    simp only [e, eg]
  · have e1 := fun k => blk_w m c t k n ⟨p.val, by omega⟩ hp
    have e2 := fun k => blk_w' m c t k n ⟨128 + p.val, by omega⟩ (by show 128 + p.val = _; omega)
    have e3 := blk_b m c t n p hp
    have x0 := fun k => sub_self_real (xn_real (H m c) (G m c) (hH c) (hG c) r k)
    have w0 := fun k => sub_self_real (hW c (ix2 k n))
    unfold zz
    dsimp only at e1 e2 e3 w0
    simp only [e1, e2, e3, x0, w0, mul_zero, zero_mul, Finset.sum_const_zero, add_zero]

end Cert.BiasKernelIdeal.Point

end
-- ==== Proof.Bias.Value.lean ====
module

public import proofs.«01_k».proof.Proof.Bias.Point
public import proofs.«01_k».proof.Proof.Gen.BiasKernelIdeal.Value
public import proofs.«01_k».proof.Defs
public import Idealize.ShloMosaic.Lib.Claim

/-! Key biases: for finite rows, gains, weights and offsets, the running sums kept in scratch along a sequence give the
    reference's biases. -/

set_option maxRecDepth 16384

@[expose] public section

noncomputable section

namespace Cert.Pre_finite_gate

/-- The precondition's broadcasts are broadcasts. -/
instance facts : Cert.Pre_finite_gate.Facts where
  bcast_S_S16896x2048 := by decide
  bcast_S_S2048 := by decide
  bcast_S_S2048x16 := by decide
  bcast_S_S16 := by decide

end Cert.Pre_finite_gate

namespace Cert.BiasKernelIdeal.Value

open Cert.BiasKernelIdeal Cert.BiasKernelIdeal.Gen Cert.BiasKernelIdeal.Point Cert.Bias Cert.BiasReferenceIdeal.Pure
open Idealize.ShloMosaic Idealize.ShloMosaic.TcCoe Idealize.SL.Sem
open Idealize.ShloMosaic.Pipeline (Dat)

/-- What is in absolute value below plus infinity is a real. -/
theorem real_of_lt {x : EReal} (h : Ideal.cmp .olt (max x (-x)) (Ideal.ofBits .f32 0x7F800000#32) = 1#1) : ∃ r : ℝ, x = r := by
  have e : Ideal.ofBits .f32 0x7F800000#32 = ⊤ := by simp [Ideal.ofBits, Ideal.ieee]
  rw [e] at h
  induction x with
  | bot => simp [Ideal.cmp] at h
  | top => simp [Ideal.cmp] at h
  | coe r => exact ⟨r, rfl⟩

variable (m : (ℓ : Loc nD τ sig) → Buf (Elt Ideal) ℓ)
  (hH : ∀ c i, ∃ r : ℝ, (show EReal from H m c i) = r) (hG : ∀ c i, ∃ r : ℝ, (show EReal from G m c i) = r)
  (hW : ∀ c i, ∃ r : ℝ, (show EReal from W m c i) = r) (hB : ∀ c i, ∃ r : ℝ, (show EReal from B m c i) = r)

/-- The reference's terms of a running sum. -/
abbrev T (c : Dev nD) (q : Fin 4) (n : Fin 16) : ℕ → EReal := term (H m c) (G m c) (W m c) (B m c) q n

/-- A masked sum over a block is a sum over its first positions. -/
theorem sum_le (f : ℕ → EReal) (l : ℕ) (hl : l < 384) :
    (∑ s : Fin 384, if s.val ≤ l then f s.val else 0) = ∑ s ∈ Finset.range (l + 1), f s := by
  rw [Fin.sum_univ_eq_sum_range (fun s => if s ≤ l then f s else 0) 384, ← Finset.sum_filter]
  refine Finset.sum_congr (Finset.ext fun s => ?_) fun _ _ => rfl
  simp only [Finset.mem_filter, Finset.mem_range]
  omega

include hH hG hW hB in
/-- What a point's running sums are, from what it finds in scratch. -/
theorem sums (c : Dev nD) (t : Fin cfg0.N) (q : Fin 4) (hq : q.val = t.val / 11) (n : Fin 16) (p : Fin 128) (hp : p.val = n.val)
    (v58 : FVec Ideal S128x1 .f32) (hv : (show EReal from v58 (ix2 p 0)) = ∑ s ∈ Finset.range (384 * (t.val % 11)), T m c q n s) (l : Fin 384) :
    (show EReal from k0_pay1 (F := Ideal) (BitVec.ofNat 32 (grid0.coords t 1).val)
        (k0_pay6 (iblk m c 0 t) (iblk m c 1 t) (iblk m c 2 t) (iblk m c 3 t)) (k0_pay7 (iblk m c 0 t) (iblk m c 1 t) (iblk m c 2 t) (iblk m c 3 t)) v58 (ix2 p l))
      = ∑ s ∈ Finset.range (384 * (t.val % 11) + (l.val + 1)), T m c q n s := by
  have ht : t.val < 44 := t.isLt
  have hl := l.isLt
  have hc : (grid0.coords t 1).val = t.val % 11 := coord1 t
  rw [hc]
  refine (pay1_apply (t.val % 11) (Nat.mod_lt _ (by norm_num)) _ _ v58 p l).trans ?_
  rw [Finset.sum_range_add, ← sum_le (fun s => T m c q n (384 * (t.val % 11) + s)) l.val hl, add_comm]
  refine congrArg₂ (fun a b : EReal => a + b) hv (Finset.sum_congr rfl fun s _ => if_congr Iff.rfl ?_ rfl)
  have hs := s.isLt
  have hb : 384 * (t.val % 11) + s.val < 4224 := by omega
  show _ = term _ _ _ _ _ _ _
  unfold term
  rw [dif_pos hb]
  refine if_congr Iff.rfl ?_ rfl
  have hz := gate m hH hG hW c t s n p hp ⟨4224 * q.val + (384 * (t.val % 11) + s.val), by omega⟩ (by show 4224 * q.val + _ = _; omega)
  have h6 := pay6_apply _ _ _ _ s p _ hz
  have h7 := pay7_apply _ _ _ _ s p _ hz
  dsimp only at h6 h7
  rw [h6, h7]
  obtain ⟨x, hx⟩ := zz_real (H m c) (G m c) (W m c) (B m c) (hH c) (hG c) (hW c) (hB c) ⟨4224 * q.val + (384 * (t.val % 11) + s.val), by omega⟩ n
  rw [hx]
  exact ls_eq x

/-- What the first point of a sequence reads back from scratch is zero. -/
theorem first_zero (p : Fin 128) :
    (show EReal from (View.readCov (Val := Elt Ideal) (View.whole cc0_scratch0) [⟨Rect.unit ![0, 0] ![128, 128] inb_S128x128_S128x128_0_0, k0_pay4 (F := Ideal)⟩]
          (Rect.unit (s := S128x128) ![0, 0] ![128, 1] inb_S128x128_S128x1_0_0).toLoadRect) (ix2 p 0)) = 0 := by
  rw [View.readCov_eq_canon']
  show View.canon _ ((Rect.unit (s := S128x128) ![0, 0] ![128, 1] inb_S128x128_S128x1_0_0).emb (ix2 p 0)) = _
  generalize (Rect.unit (s := S128x128) ![0, 0] ![128, 1] inb_S128x128_S128x1_0_0).emb (ix2 p 0) = i
  canon_tiles x h
  exact word_zero

/-- What a later point reads back is what the point before left. -/
theorem later (S : FVec Ideal S128x128 .f32) (p : Fin 128) :
    S ((Rect.unit (s := S128x128) ![0, 0] ![128, 1] inb_S128x128_S128x1_0_0).emb (ix2 p 0)) = S (ix2 p 0) := by
  refine congrArg S (funext fun a => Fin.ext ?_)
  match a with
  | ⟨0, _⟩ => show 0 + 1 * p.val = p.val; omega
  | ⟨1, _⟩ => rfl

/-- What a point finds in scratch, when it reads it. -/
def Finds (c : Dev nD) (t : Fin cfg0.N) (v58 : FVec Ideal S128x1 .f32) : Prop :=
  ∀ (q : Fin 4) (n : Fin 16) (p : Fin 128), q.val = t.val / 11 → p.val = n.val →
    (show EReal from v58 (ix2 p 0)) = ∑ s ∈ Finset.range (384 * (t.val % 11)), T m c q n s

/-- What a point leaves in scratch. -/
def Leaves (c : Dev nD) (t : Fin cfg0.N) (S : FVec Ideal S128x128 .f32) : Prop :=
  ∀ (q : Fin 4) (n : Fin 16) (p l : Fin 128), q.val = t.val / 11 → p.val = n.val →
    (show EReal from S (ix2 p l)) = ∑ s ∈ Finset.range (384 * (t.val % 11 + 1)), T m c q n s

include hH hG hW hB in
/-- From what it finds to what it leaves. -/
theorem leaves_of (c : Dev nD) (t : Fin cfg0.N) (v58 : FVec Ideal S128x1 .f32) (hv : Finds m c t v58) :
    Leaves m c t (k0_pay2 (F := Ideal) (BitVec.ofNat 32 (grid0.coords t 1).val)
        (k0_pay6 (iblk m c 0 t) (iblk m c 1 t) (iblk m c 2 t) (iblk m c 3 t)) (k0_pay7 (iblk m c 0 t) (iblk m c 1 t) (iblk m c 2 t) (iblk m c 3 t)) v58) := by
  intro q n p l hq hp
  refine (pay2_apply _ _ _ v58 p l).trans ?_
  exact sums m hH hG hW hB c t q hq n p hp v58 (hv q n p hq hp) 383

/-- The first point of a sequence finds nothing. -/
theorem finds_first (c : Dev nD) (t : Fin cfg0.N) (h0 : t.val % 11 = 0) :
    Finds m c t (View.readCov (Val := Elt Ideal) (View.whole cc0_scratch0) [⟨Rect.unit ![0, 0] ![128, 128] inb_S128x128_S128x128_0_0, k0_pay4 (F := Ideal)⟩]
          (Rect.unit (s := S128x128) ![0, 0] ![128, 1] inb_S128x128_S128x1_0_0).toLoadRect) := by
  intro q n p hq hp
  rw [h0]
  exact first_zero p

/-- A later point finds what the point before left. -/
theorem finds_later (c : Dev nD) (t u : Fin cfg0.N) (h0 : ¬t.val % 11 = 0) (hu : u.val = t.val - 1) (S : FVec Ideal S128x128 .f32) (hS : Leaves m c u S) :
    Finds m c t (fun i => S ((Rect.unit (s := S128x128) ![0, 0] ![128, 1] inb_S128x128_S128x1_0_0).emb i)) := by
  intro q n p hq hp
  refine (later S p).trans ((hS q n p 0 (by omega) hp).trans ?_)
  rw [show u.val % 11 + 1 = t.val % 11 by omega]

include hH hG hW hB in
/-- Every point leaves the running sums up to the end of its block. -/
theorem carry (c : Dev nD) (k : ℕ) (hk : k < cfg0.N) : Leaves m c ⟨k, hk⟩ (outsAt0 m c k hk).2 := by
  induction k with
  | zero =>
    rw [outsAt0_A m c ⟨0, hk⟩ rfl]; frame_out
    exact leaves_of m hH hG hW hB c ⟨0, hk⟩ _ (finds_first m c ⟨0, hk⟩ rfl)
  | succ k ih =>
    by_cases h0 : (k + 1) % 11 = 0
    · rw [outsAt0_A m c ⟨k + 1, hk⟩ h0]; frame_out
      exact leaves_of m hH hG hW hB c ⟨k + 1, hk⟩ _ (finds_first m c ⟨k + 1, hk⟩ h0)
    · rw [outsAt0_B m c ⟨k + 1, hk⟩ h0]; frame_out; rw [read_unread_whole]
      exact leaves_of m hH hG hW hB c ⟨k + 1, hk⟩ _ (finds_later m c ⟨k + 1, hk⟩ ⟨k, Nat.lt_of_succ_lt hk⟩ h0 rfl _ (ih _))

/-- The word of 2 over the extended reals. -/
theorem word_2 : Ideal.ofBits .f32 0x40000000#32 = ((2 : ℝ) : EReal) := by
  simp [Ideal.ofBits, Ideal.ieee, -EReal.coe_mul]; norm_num

/-- The kernel's factor is minus a division by ln 2. -/
theorem factor (x : EReal) : ((-((Real.log 2)⁻¹) : ℝ) : EReal) * x = Ideal.div (-x) (Ideal.log (Ideal.ofBits .f32 0x40000000#32)) := by
  rw [word_2, Ideal.log_coe, if_neg (by norm_num), Ideal.div_coe (Real.log_pos (by norm_num)).ne', one_div, EReal.coe_neg, EReal.neg_mul,
    EReal.neg_mul, mul_comm]

/-- The reference's entries. -/
theorem ref_apply (h : FVec Ideal S16896x2048 .f32) (g : FVec Ideal S2048 .f32) (w : FVec Ideal S2048x16 .f32) (b : FVec Ideal S16 .f32)
    (q : Fin 4) (n : Fin 16) (t : Fin 4224) :
    REFo (REFc (REFm (REFl (REFz h g w b)))) (ix3 q n t)
      = if 112 ≤ t.val then Ideal.div (-(∑ s ∈ Finset.range (t.val + 1), term h g w b q n s)) (Ideal.log (Ideal.ofBits .f32 0x40000000#32)) else ⊥ := by
  rw [REFo_apply, REFc_apply]

include hH hG hW hB in
/-- A point's entry is the reference's, from what the point finds. -/
theorem entry (c : Dev nD) (t : Fin cfg0.N) (v58 : FVec Ideal S128x1 .f32) (hv : Finds m c t v58) (y : S1x16x384.Idx) (j : S4x16x4224.Idx)
    (hj0 : (j 0).val = t.val / 11) (hj1 : (j 1).val = (y 1).val) (hj2 : (j 2).val = t.val % 11 * 384 + (y 2).val) :
    k0_pay3 (F := Ideal) (BitVec.ofNat 32 (grid0.coords t 1).val)
        (k0_pay6 (iblk m c 0 t) (iblk m c 1 t) (iblk m c 2 t) (iblk m c 3 t)) (k0_pay7 (iblk m c 0 t) (iblk m c 1 t) (iblk m c 2 t) (iblk m c 3 t)) v58 y
      = REFo (REFc (REFm (REFl (REFz (H m c) (G m c) (W m c) (B m c))))) j := by
  have h1 : (y 1).val < 16 := (y 1).isLt
  have h2 : (y 2).val < 384 := (y 2).isLt
  have hc : (grid0.coords t 1).val = t.val % 11 := coord1 t
  have ey : y = ix3 0 ⟨(y 1).val, h1⟩ ⟨(y 2).val, h2⟩ := by
    funext a
    match a with
    | ⟨0, _⟩ => exact Subsingleton.elim (α := Fin 1) _ _
    | ⟨1, _⟩ => rfl
    | ⟨2, _⟩ => rfl
  have ej : j = ix3 (j 0) ⟨(y 1).val, h1⟩ (j 2) := by
    funext a
    match a with
    | ⟨0, _⟩ => rfl
    | ⟨1, _⟩ => exact Fin.ext hj1
    | ⟨2, _⟩ => rfl
  have S := sums m hH hG hW hB c t (j 0) hj0 ⟨(y 1).val, h1⟩ ⟨(y 1).val, by omega⟩ rfl v58 (hv (j 0) ⟨(y 1).val, h1⟩ ⟨(y 1).val, by omega⟩ hj0 rfl) ⟨(y 2).val, h2⟩
  rw [hc] at S ⊢
  have R : REFo (REFc (REFm (REFl (REFz (H m c) (G m c) (W m c) (B m c))))) j
      = if 112 ≤ (j 2).val then Ideal.div (-(∑ s ∈ Finset.range ((j 2).val + 1), T m c (j 0) ⟨(y 1).val, h1⟩ s)) (Ideal.log (Ideal.ofBits .f32 0x40000000#32)) else ⊥ := by
    exact (congrArg _ ej).trans (ref_apply (H m c) (G m c) (W m c) (B m c) (j 0) ⟨(y 1).val, h1⟩ (j 2))
  refine Eq.trans ?_ R.symm
  refine ((congrArg _ ey).trans (pay3_apply (t.val % 11) (Nat.mod_lt _ (by norm_num)) _ _ v58 ⟨(y 1).val, h1⟩ ⟨(y 2).val, h2⟩)).trans ?_
  refine if_congr (by show 112 ≤ 384 * (t.val % 11) + (y 2).val ↔ 112 ≤ (j 2).val; omega) ?_ rfl
  refine (factor _).trans (congrArg (fun z : EReal => Ideal.div (-z) _) (S.trans ?_))
  rw [show 384 * (t.val % 11) + ((y 2).val + 1) = (j 2).val + 1 by omega]

include hH hG hW hB in
/-- The kernel's biases are the reference's. -/
theorem final (c : Dev nD) : (dats m 0 c).arrAt 4 cfg0.N = REFo (REFc (REFm (REFl (REFz (H m c) (G m c) (W m c) (B m c))))) := by
  refine (dats m 0 c).arrAt_eq_of_covers 4 _ (by decide +kernel) fun t hf y => ?_
  blk_simp
  rw [after0_4]
  by_cases h0 : t.val % 11 = 0
  · rw [outsAt0_A m c t h0]; frame_out
    exact entry m hH hG hW hB c t _ (finds_first m c t h0) y _ (by blk_simp [idx t]) (by blk_simp [idx t]) (by blk_simp [idx t])
  · have hS := carry m hH hG hW hB c (t.val - 1) (Nat.lt_of_le_of_lt (Nat.sub_le _ _) t.isLt)
    rw [outsAt0_B m c t h0]; frame_out; rw [read_unread_whole]
    exact entry m hH hG hW hB c t _ (finds_later m c t ⟨t.val - 1, Nat.lt_of_le_of_lt (Nat.sub_le _ _) t.isLt⟩ h0 rfl _ hS) y _ (by blk_simp [idx t]) (by blk_simp [idx t]) (by blk_simp [idx t])

end Cert.BiasKernelIdeal.Value

namespace Cert.Proof

open Idealize.ShloMosaic Idealize.ShloMosaic.TcCoe Idealize.SL.Sem

/-- The factor and the mask's constant are named. -/
theorem preserves_Bias : Cert.preserves_BiasKernel_BiasKernelIdeal :=
  ⟨IdealRules.named_const.statement Cert.BiasKernelIdeal.κ "neg_log2e" .f32 0xBFB8AA3B#32 ((-((Real.log 2)⁻¹) : ℝ) : EReal) rfl,
    IdealRules.named_const.statement Cert.BiasKernelIdeal.κ "neg_inf" .f32 0xF149F2CA#32 ⊥ rfl⟩

/-- The key biases' kernel and reference end with equal results. -/
theorem algebraic_Bias : Cert.algebraic_BiasKernelIdeal_BiasReferenceIdeal_pre_finite_gate := by
  intro m g m' g' hpre hagree
  refine ⟨fun c => (Cert.BiasKernelIdeal.Gen.dats m 0 c).arrAt 4 Cert.BiasKernelIdeal.cfg0.N, ?_, ?_⟩
  · exact Cert.BiasKernelIdeal.Value.run_blocks m g
  · refine θ_run_mono (Cert.BiasReferenceIdeal.Value.run m' g') fun r hr c => ⟨?_, (hr c).2⟩
    rw [(hr c).1, Cert.BiasReferenceIdeal.Pure.res_eq, (hagree c).1, (hagree c).2.1, (hagree c).2.2.1, (hagree c).2.2.2]
    exact (Cert.BiasKernelIdeal.Value.final m (fun c i => Cert.BiasKernelIdeal.Value.real_of_lt (congrFun (hpre c).1 i))
      (fun c i => Cert.BiasKernelIdeal.Value.real_of_lt (congrFun (hpre c).2.1 i))
      (fun c i => Cert.BiasKernelIdeal.Value.real_of_lt (congrFun (hpre c).2.2.1 i))
      (fun c i => Cert.BiasKernelIdeal.Value.real_of_lt (congrFun (hpre c).2.2.2 i)) c).symm

end Cert.Proof

end
-- ==== Proof.Attn.Blocks.lean ====
module

public import proofs.«01_k».proof.Proof.Gen.AttnKernelIdeal.Frame
public import proofs.«01_k».proof.Proof.Attn.Row
public import Idealize.ShloMosaic.Lib.Pipeline.ValueKit
public import Idealize.ShloMosaic.Lib.Pipeline.ValueKit.Held
public import Idealize.ShloMosaic.Lib.Pipeline.ReadBack
public import Idealize.ShloMosaic.Lib.VecWindow
public import Idealize.ShloMosaic.Lib.Pointwise

/-! Attention's blocks: the entries of the arguments a grid point works on. -/

set_option maxRecDepth 16384

@[expose] public section

noncomputable section

namespace Cert.AttnKernelIdeal.Blocks

open Cert.AttnKernelIdeal Cert.AttnKernelIdeal.Gen Cert.AttnKernelIdeal.Loop
open Idealize.ShloMosaic Idealize.ShloMosaic.TcCoe Idealize.SL.Sem
open Idealize.ShloMosaic.Pipeline (Dat)

variable (m : (ℓ : Loc nD τ sig) → Buf (Elt Ideal) ℓ)

/-- The index maps at every point: eleven query blocks under each of sixteen heads of each of four sequences. -/
theorem idx : ∀ t : Fin cfg0.N, win0_0.index t = ![t.val / 176 * 11 + t.val % 11, t.val / 11 % 16]
    ∧ win0_1.index t = ![t.val / 176, t.val / 11 % 16] ∧ win0_2.index t = ![t.val / 176, t.val / 11 % 16]
    ∧ win0_3.index t = ![t.val / 11, 0, 0] ∧ win0_4.index t = ![t.val / 176 * 11 + t.val % 11, t.val / 11 % 16] :=
  (by decide +kernel : ∀ t : Fin grid0.N, _)

/-- The query block of a point. -/
theorem coord2 : ∀ t : Fin cfg0.N, (cfg0.grid.coords t 2 : ℕ) = t.val % 11 :=
  (by decide +kernel : ∀ t : Fin grid0.N, (grid0.coords t 2 : ℕ) = t.val % 11)

/-- An entry of the rows a trip reads. -/
theorem rows_apply (i : grid0.Coords) (k : Fin (k0_t1_loop i).trips) (x : Vec Ideal S4224x128 .bf16) (j : Fin 384) (d : Fin 128) (n : Fin 4224)
    (hn : n.val = 384 * k.val + j) : rows i k x (ix2 j d) = x (ix2 n d) := by
  have e := k0_off1_eq i k
  refine congrArg x (funext fun a => Fin.ext ?_)
  rw [Rect.emb_apply]
  have ea := congrFun e a
  show k0_off1 i k a + 1 * _ = _
  rw [ea]
  match a with
  | ⟨0, _⟩ => show 384 * k.val + 1 * j.val = n.val; omega
  | ⟨1, _⟩ => show 0 + 1 * d.val = d.val; omega

/-- An entry of the gates a trip reads. -/
theorem lanes_apply (i : grid0.Coords) (k : Fin (k0_t1_loop i).trips) (x : Vec Ideal S1x1x4224 .f32) (j : Fin 384) (n : Fin 4224)
    (hn : n.val = 384 * k.val + j) : lanes i k x (ix3 0 0 j) = x (ix3 0 0 n) := by
  have e := k0_off2_eq i k
  refine congrArg x (funext fun a => Fin.ext ?_)
  rw [Rect.emb_apply]
  have ea := congrFun e a
  show k0_off2 i k a + 1 * _ = _
  rw [ea]
  match a with
  | ⟨0, _⟩ => rfl
  | ⟨1, _⟩ => rfl
  | ⟨2, _⟩ => show 384 * k.val + 1 * j.val = n.val; omega

/-- A query block's entry. -/
theorem blk_q (c : Dev nD) (t : Fin cfg0.N) (b : Fin 4) (h : Fin 16) (p : Fin 4224) (r : Fin 384) (d : Fin 128)
    (hb : b.val = t.val / 176) (hh : h.val = t.val / 11 % 16) (hp : p.val = 384 * (t.val % 11) + r) :
    (show FVec Ideal S384x128 .bf16 from iblk m c 0 t) (ix2 r d)
      = Ideal.div ((show FVec Ideal S4x4224x16x128 .f32 from m ((c : Thread nD τ).loc main_arg0)) (ix4 b p h d)) (Ideal.sqrt (Ideal.ofBits .f32 0x43000000#32)) := by
  have hr := r.isLt
  have hd := d.isLt
  blk_simp [iblk, idx t]; entry_read; pointwise
  refine congrArg (fun z => Ideal.div z _) (congrArg (m ((c : Thread nD τ).loc main_arg0)) (congr (congr (congr (congrArg ix4 ?_) ?_) ?_) ?_))
  all_goals refine Fin.ext ?_
  all_goals (blk_simp [idx t]; dsimp only; omega)

/-- A key block's entry. -/
theorem blk_k (c : Dev nD) (t : Fin cfg0.N) (b : Fin 4) (h : Fin 16) (p : Fin 4224) (d : Fin 128)
    (hb : b.val = t.val / 176) (hh : h.val = t.val / 11 % 16) :
    (show FVec Ideal S4224x128 .bf16 from iblk m c 1 t) (ix2 p d)
      = (show FVec Ideal S4x4224x16x128 .f32 from m ((c : Thread nD τ).loc main_arg1)) (ix4 b p h d) := by
  blk_point [iblk, V, idx t]

/-- A value block's entry. -/
theorem blk_v (c : Dev nD) (t : Fin cfg0.N) (b : Fin 4) (h : Fin 16) (p : Fin 4224) (d : Fin 128)
    (hb : b.val = t.val / 176) (hh : h.val = t.val / 11 % 16) :
    (show FVec Ideal S4224x128 .bf16 from iblk m c 2 t) (ix2 p d)
      = (show FVec Ideal S4x4224x16x128 .f32 from m ((c : Thread nD τ).loc main_arg2)) (ix4 b p h d) := by
  blk_point [iblk, V, idx t]

/-- A gate block's entry. -/
theorem blk_c (c : Dev nD) (t : Fin cfg0.N) (b : Fin 4) (h : Fin 16) (p : Fin 4224)
    (hb : b.val = t.val / 176) (hh : h.val = t.val / 11 % 16) :
    (show FVec Ideal S1x1x4224 .f32 from iblk m c 3 t) (ix3 0 0 p)
      = (show FVec Ideal S4x16x4224 .f32 from m ((c : Thread nD τ).loc main_arg3)) (ix3 b h p) := by
  blk_point [iblk, V, idx t]

end Cert.AttnKernelIdeal.Blocks

end
-- ==== Proof.Attn.Ref.lean ====
module

public import proofs.«01_k».proof.Proof.Gen.AttnReferenceIdeal.Run
public import proofs.«01_k».proof.Proof.Attn.Row

/-! The reference's attention at an entry. -/

set_option maxRecDepth 16384

@[expose] public section

noncomputable section

namespace Cert.AttnReferenceIdeal.Pure

open Cert.AttnReferenceIdeal Cert.AttnReferenceIdeal.Gen
open Idealize.ShloMosaic Idealize.ShloMosaic.TcCoe Idealize.SL.Sem

/-- The allowed pairs of a query and a key. -/
def MASK : IVec S4224x4224 1 :=
  andi (cmpi .sle (broadcastInDim S4224x4224 ![0, 1] bcast_S1x4224_S4224x4224_0_1 (broadcastInDim S1x4224 ![1] bcast_S4224_S1x4224_1 (iotaInDim S4224 32 0))) (broadcastInDim S4224x4224 ![0, 1] bcast_S4224x1_S4224x4224_0_1 (broadcastInDim S4224x1 ![0] bcast_S4224_S4224x1_0 (iotaInDim S4224 32 0)))) (broadcastInDim S4224x4224 ![0, 1] bcast_S1x4224_S4224x4224_0_1 (cmpi .sge (broadcastInDim S1x4224 ![1] bcast_S4224_S1x4224_1 (iotaInDim S4224 32 0)) (broadcastInDim S1x4224 ![] bcast_S_S1x4224 (constantI S_ 32 112#32))))

/-- The masked scores. -/
def REFs (q k : FVec Ideal S4x4224x16x128 .f32) (c : FVec Ideal S4x16x4224 .f32) : FVec Ideal S4x16x4224x4224 .f32 :=
  select (broadcastInDim S4x16x4224x4224 ![2, 3] bcast_S4224x4224_S4x16x4224x4224_2_3 MASK) (addf (Host.divf (Host.dotGeneral dot_S4x4224x16x128_S4x4224x16x128_S4x16x4224x4224_3_3_1_1_02_02 none q k) (broadcastInDim S4x16x4224x4224 ![] bcast_S_S4x16x4224x4224 (Host.sqrt (constant S_ .f32 0x43000000#32)))) (subf (broadcastInDim S4x16x4224x4224 ![0, 1, 2, 3] bcast_S4x16x4224x1_S4x16x4224x4224_0_1_2_3 (broadcastInDim S4x16x4224x1 ![0, 1, 2] bcast_S4x16x4224_S4x16x4224x1_0_1_2 c)) (broadcastInDim S4x16x4224x4224 ![0, 1, 2, 3] bcast_S4x16x1x4224_S4x16x4224x4224_0_1_2_3 (broadcastInDim S4x16x1x4224 ![0, 1, 3] bcast_S4x16x4224_S4x16x1x4224_0_1_3 c)))) (broadcastInDim S4x16x4224x4224 ![] bcast_S_S4x16x4224x4224 (id (constant S_ .f32 0xFF800000#32)))

/-- The largest score of every query. -/
def REFm (S : FVec Ideal S4x16x4224x4224 .f32) : FVec Ideal S4x16x4224 .f32 :=
  maximumf (broadcastInDim S4x16x4224 ![] bcast_S_S4x16x4224 (constant S_ .f32 0xFF800000#32)) (Host.reduce FloatOps.maximumf S (constant S_ .f32 0xFF800000#32) reducesTo_S4x16x4224x4224_S4x16x4224_d3 h_S_)

/-- The exponentials of the scores less the largest. -/
def REFe (S : FVec Ideal S4x16x4224x4224 .f32) : FVec Ideal S4x16x4224x4224 .f32 :=
  Host.exp (subf S (broadcastInDim S4x16x4224x4224 ![0, 1, 2, 3] bcast_S4x16x4224x1_S4x16x4224x4224_0_1_2_3 (broadcastInDim S4x16x4224x1 ![0, 1, 2] bcast_S4x16x4224_S4x16x4224x1_0_1_2 (REFm S))))

/-- The weights. -/
def REFp (E : FVec Ideal S4x16x4224x4224 .f32) : FVec Ideal S4x16x4224x4224 .f32 :=
  Host.divf E (broadcastInDim S4x16x4224x4224 ![0, 1, 2, 3] bcast_S4x16x4224x1_S4x16x4224x4224_0_1_2_3 (broadcastInDim S4x16x4224x1 ![0, 1, 2] bcast_S4x16x4224_S4x16x4224x1_0_1_2 (Host.reduceAdd E (constant S_ .f32 0x00000000#32) reducesTo_S4x16x4224x4224_S4x16x4224_d3 h_S_)))

/-- The weighted values. -/
def REFo (v : FVec Ideal S4x4224x16x128 .f32) (p : FVec Ideal S4x16x4224x4224 .f32) : FVec Ideal S16896x2048 .bf16 :=
  truncf .bf16 (shapeCast _ (transpose S4x4224x16x128 [0, 3, 1, 2] (Host.dotGeneral dot_S4x4224x16x128_S4x16x4224x4224_S4x16x128x4224_1_3_3_2_02_01 none v p) transposes_S4x16x128x4224_S4x4224x16x128_0_3_1_2) shapeCasts_S4x4224x16x128_S16896x2048) bitsLt_bf16_f32

/-- The reference's result by its parts. -/
theorem res_eq (m : (ℓ : Loc nD τ sig) → Buf (Elt Ideal) ℓ) (c : Dev nD) : Cert.AttnReferenceIdeal.Value.res_main_v36 m c
    = REFo (m ((c.tc : Thread nD τ).loc main_arg2)) (REFp (REFe (REFs (m ((c.tc : Thread nD τ).loc main_arg0)) (m ((c.tc : Thread nD τ).loc main_arg1)) (m ((c.tc : Thread nD τ).loc main_arg3))))) := rfl

/-- A score: the scaled product plus the gates' difference where the key is allowed, else the bottom. -/
theorem REFs_apply (q k : FVec Ideal S4x4224x16x128 .f32) (c : FVec Ideal S4x16x4224 .f32) (b : Fin 4) (h : Fin 16) (t u : Fin 4224) :
    REFs q k c (ix4 b h t u) = if u.val ≤ t.val ∧ 112 ≤ u.val
      then Ideal.div (∑ d : Fin 128, q (ix4 b t h d) * k (ix4 b u h d)) (Ideal.sqrt (Ideal.ofBits .f32 0x43000000#32)) + (c (ix3 b h t) - c (ix3 b h u))
      else ⊥ := by
  unfold REFs MASK
  pointwise []
  rw [Cert.AttnKernelIdeal.Row.mask_word _ _ (by have := u.isLt; omega) (by have := t.isLt; omega), Cert.AttnKernelIdeal.Row.select_ofBool]
  rw [show (id (constant (F := Ideal) S_ FTy.f32 4286578688#32) ix0) = (⊥ : EReal) from Cert.AttnKernelIdeal.Row.word_bot]

/-- The largest along the last of four axes. -/
theorem max_last {n0 n1 n2 n3 : ℕ} {u : Shape} (r : (⟨4, ![n0, n1, n2, n3]⟩ : Shape).ReducesTo [3] ⟨3, ![n0, n1, n2]⟩)
    (S : FVec Ideal ⟨4, ![n0, n1, n2, n3]⟩ .f32) (w : BitVec 32) (hu : 0 < u.numel)
    (b : Fin n0) (h : Fin n1) (t : Fin n2) :
    Host.reduce (FloatOps.maximumf (F := Ideal) (φ := .f32)) S (constant u .f32 w) r hu (ix3 b h t)
      = Finset.univ.fold max (Ideal.ofBits .f32 w) fun x : Fin n3 => S (ix4 b h t x) := by
  rw [Host.reduce_eq_fold]
  exact r.fold_fiber_r4_a3 (ix3 b h t) (max : EReal → EReal → EReal) _ S

/-- The largest of finitely many, folded from the bottom. -/
theorem fold_sup {n : ℕ} (f : Fin n → EReal) : Finset.univ.fold max ⊥ f = Finset.univ.sup f := rfl

/-- A maximum with a lower bound first, at an entry. -/
theorem max_first (S : FVec Ideal S4x16x4224x4224 .f32) (R : FVec Ideal S4x16x4224 .f32) (j : S4x16x4224.Idx) :
    maximumf (broadcastInDim S4x16x4224 ![] bcast_S_S4x16x4224 (constant (F := Ideal) S_ .f32 0xFF800000#32)) R j
      = max (Ideal.ofBits .f32 0xFF800000#32) (R j) := rfl

/-- The largest along the keys. -/
theorem max_keys (S : FVec Ideal S4x16x4224x4224 .f32) (b : Fin 4) (h : Fin 16) (t : Fin 4224) :
    Host.reduce (FloatOps.maximumf (F := Ideal) (φ := .f32)) S (constant S_ .f32 0xFF800000#32) reducesTo_S4x16x4224x4224_S4x16x4224_d3 h_S_ (ix3 b h t)
      = Finset.univ.fold max (Ideal.ofBits .f32 0xFF800000#32) fun x : Fin 4224 => S (ix4 b h t x) :=
  max_last reducesTo_S4x16x4224x4224_S4x16x4224_d3 S 0xFF800000#32 h_S_ b h t

/-- A fold from a bottom word with that word first is the largest. -/
theorem max_sup {n : ℕ} (w y z : EReal) (f : Fin n → EReal) (hw : w = ⊥) (hy : y = max w z) (hz : z = Finset.univ.fold max w f) :
    y = Finset.univ.sup f := by
  subst hw; rw [hy, hz, max_eq_right bot_le]; exact fold_sup f

/-- The largest score of a query. -/
theorem REFm_apply (S : FVec Ideal S4x16x4224x4224 .f32) (b : Fin 4) (h : Fin 16) (t : Fin 4224) :
    REFm S (ix3 b h t) = Finset.univ.sup fun x : Fin 4224 => S (ix4 b h t x) := by
  unfold REFm
  exact max_sup _ _ _ _ Cert.AttnKernelIdeal.Row.word_bot (max_first S _ _) (max_keys S b h t)

/-- An exponential. -/
theorem REFe_apply (S : FVec Ideal S4x16x4224x4224 .f32) (b : Fin 4) (h : Fin 16) (t u : Fin 4224) :
    REFe S (ix4 b h t u) = Ideal.exp (S (ix4 b h t u) - REFm S (ix3 b h t)) := by
  unfold REFe
  pointwise []

/-- A weight: an exponential over its query's sum. -/
theorem REFp_apply (S : FVec Ideal S4x16x4224x4224 .f32) (b : Fin 4) (h : Fin 16) (t u : Fin 4224) :
    REFp S (ix4 b h t u) = Ideal.div (S (ix4 b h t u)) (∑ x : Fin 4224, S (ix4 b h t x)) := by
  unfold REFp
  pointwise []

/-- A result: the weighted sum of the head's values. -/
theorem REFo_apply (v : FVec Ideal S4x4224x16x128 .f32) (p : FVec Ideal S4x16x4224x4224 .f32) (j : S16896x2048.Idx)
    (b : Fin 4) (h : Fin 16) (t : Fin 4224) (d : Fin 128) (h0 : (j 0).val = 4224 * b.val + t.val) (h1 : (j 1).val = 128 * h.val + d.val) :
    REFo v p j = ∑ x : Fin 4224, p (ix4 b h t x) * v (ix4 b x h d) := by
  have e0 : (⟨(j 0).val / 4224, by have := b.isLt; have := t.isLt; omega⟩ : Fin 4) = b := Fin.ext (by have := t.isLt; show (j 0).val / 4224 = _; omega)
  have e1 : (⟨(j 0).val % 4224, Nat.mod_lt _ (by norm_num)⟩ : Fin 4224) = t := Fin.ext (by have := t.isLt; show (j 0).val % 4224 = _; omega)
  have e2 : (⟨(j 1).val / 128, by have := h.isLt; have := d.isLt; omega⟩ : Fin 16) = h := Fin.ext (by have := d.isLt; show (j 1).val / 128 = _; omega)
  have e3 : (⟨(j 1).val % 128, Nat.mod_lt _ (by norm_num)⟩ : Fin 128) = d := Fin.ext (by have := d.isLt; show (j 1).val % 128 = _; omega)
  unfold REFo
  pointwise []
  refine Finset.sum_congr rfl fun x _ => ?_
  rw [e0, e1, e2, e3, mul_comm]

/-- The reference's entry from its query's scores. -/
theorem ref_apply (q k v : FVec Ideal S4x4224x16x128 .f32) (c : FVec Ideal S4x16x4224 .f32) (j : S16896x2048.Idx)
    (b : Fin 4) (h : Fin 16) (t : Fin 4224) (d : Fin 128) (h0 : (j 0).val = 4224 * b.val + t.val) (h1 : (j 1).val = 128 * h.val + d.val) :
    REFo v (REFp (REFe (REFs q k c))) j
      = ∑ u : Fin 4224, Ideal.div (Ideal.exp (REFs q k c (ix4 b h t u) - Finset.univ.sup fun x : Fin 4224 => REFs q k c (ix4 b h t x)))
          (∑ i : Fin 4224, Ideal.exp (REFs q k c (ix4 b h t i) - Finset.univ.sup fun x : Fin 4224 => REFs q k c (ix4 b h t x))) * v (ix4 b u h d) := by
  rw [REFo_apply v _ j b h t d h0 h1]
  refine Finset.sum_congr rfl fun u _ => ?_
  rw [REFp_apply, REFe_apply, REFm_apply]
  refine congrArg (fun z => Ideal.div _ z * _) (Finset.sum_congr rfl fun i _ => ?_)
  rw [REFe_apply, REFm_apply]

end Cert.AttnReferenceIdeal.Pure

end
-- ==== Proof.Attn.Point.lean ====
module

public import proofs.«01_k».proof.Proof.Attn.Blocks
public import proofs.«01_k».proof.Proof.Attn.Ref

/-! Attention at a grid point: an entry of the output's block is the reference's entry, for finite queries, keys and
    gates and a row that keeps a key. -/

set_option maxRecDepth 16384

@[expose] public section

noncomputable section

namespace Cert.AttnKernelIdeal.Point

open Cert.AttnKernelIdeal Cert.AttnKernelIdeal.Gen Cert.AttnKernelIdeal.Loop Cert.AttnKernelIdeal.Row Cert.AttnKernelIdeal.Blocks Cert.AttnReferenceIdeal.Pure
open Idealize.ShloMosaic Idealize.ShloMosaic.TcCoe Idealize.SL.Sem

/-- The root of the head's width. -/
theorem root_eq : Ideal.sqrt (Ideal.ofBits .f32 0x43000000#32) = ((Real.sqrt 128 : ℝ) : EReal) := by
  have e : Ideal.ofBits .f32 0x43000000#32 = ((128 : ℝ) : EReal) := by
    simp [Ideal.ofBits, Ideal.ieee, -EReal.coe_mul]; norm_num
  rw [e, Ideal.sqrt_coe, if_neg (by norm_num)]

/-- Over reals the product of two rows scaled after is the product with one of them scaled before. -/
theorem dot_real (q k : Fin 128 → EReal) (hq : ∀ d, ∃ r : ℝ, q d = r) (hk : ∀ d, ∃ r : ℝ, k d = r) :
    ∃ y : ℝ, Ideal.div (∑ d, q d * k d) (Ideal.sqrt (Ideal.ofBits .f32 0x43000000#32)) = y
      ∧ ∑ d, Ideal.div (q d) (Ideal.sqrt (Ideal.ofBits .f32 0x43000000#32)) * k d = y := by
  choose a ha using hq
  choose b hb using hk
  have h0 : Real.sqrt 128 ≠ 0 := (Real.sqrt_pos.mpr (by norm_num)).ne'
  refine ⟨(∑ d, a d * b d) * (1 / Real.sqrt 128), ?_, ?_⟩
  · rw [root_eq, Ideal.div_coe h0, EReal.coe_mul, Softmax.coe_sum]
    simp only [ha, hb, EReal.coe_mul]
  · rw [Finset.sum_mul, Softmax.coe_sum]
    refine Finset.sum_congr rfl fun d _ => ?_
    rw [root_eq, Ideal.div_coe h0, ha, hb, ← EReal.coe_mul, ← EReal.coe_mul]
    congr 1; ring

/-- The kernel's score of a key, the bottom past the last key. -/
def sk (q k : FVec Ideal S4x4224x16x128 .f32) (g : FVec Ideal S4x16x4224 .f32) (b : Fin 4) (h : Fin 16) (p : Fin 4224) (n : ℕ) : EReal :=
  if hn : n < 4224 then
    (if n ≤ p.val ∧ 112 ≤ n then
      (∑ e : Fin 128, Ideal.div (q (ix4 b p h e)) (Ideal.sqrt (Ideal.ofBits .f32 0x43000000#32)) * k (ix4 b ⟨n, hn⟩ h e)) - g (ix3 b h ⟨n, hn⟩)
     else ⊥)
  else ⊥

/-- The value of a key, zero past the last key. -/
def vk (v : FVec Ideal S4x4224x16x128 .f32) (b : Fin 4) (h : Fin 16) (d : Fin 128) (n : ℕ) : EReal :=
  if hn : n < 4224 then v (ix4 b ⟨n, hn⟩ h d) else 0

section real
variable {q k : FVec Ideal S4x4224x16x128 .f32} {g : FVec Ideal S4x16x4224 .f32}
  (hq : ∀ i, ∃ r : ℝ, q i = r) (hk : ∀ i, ∃ r : ℝ, k i = r) (hg : ∀ i, ∃ r : ℝ, g i = r)
  (b : Fin 4) (h : Fin 16) (p : Fin 4224)
include hq hk hg

/-- Every score of the kernel is the bottom or a real. -/
theorem sk_ok (n : ℕ) : Softmax.Ok (sk q k g b h p n) := by
  unfold sk
  split
  · split
    · rename_i hn _
      obtain ⟨y, -, e⟩ := dot_real (fun e => q (ix4 b p h e)) (fun e => k (ix4 b ⟨n, hn⟩ h e)) (fun _ => hq _) (fun _ => hk _)
      obtain ⟨w, ew⟩ := hg (ix3 b h ⟨n, hn⟩)
      exact .inr ⟨y - w, by rw [EReal.coe_sub, ← ew, ← e]⟩
    · exact .inl rfl
  · exact .inl rfl

/-- A reference's score is the bottom exactly where the key is not allowed. -/
theorem ref_score (u : Fin 4224) :
    (u.val ≤ p.val ∧ 112 ≤ u.val → ∃ y w : ℝ, g (ix3 b h p) = w ∧ REFs q k g (ix4 b h p u) = (y : EReal) ∧ sk q k g b h p u.val = ((y - w : ℝ) : EReal))
      ∧ (¬(u.val ≤ p.val ∧ 112 ≤ u.val) → REFs q k g (ix4 b h p u) = ⊥ ∧ sk q k g b h p u.val = ⊥) := by
  constructor
  · intro hc
    obtain ⟨y, e1, e2⟩ := dot_real (fun e => q (ix4 b p h e)) (fun e => k (ix4 b u h e)) (fun _ => hq _) (fun _ => hk _)
    obtain ⟨w, ew⟩ := hg (ix3 b h p)
    obtain ⟨x, ex⟩ := hg (ix3 b h u)
    refine ⟨y + (w - x), w, ew, ?_, ?_⟩
    · rw [REFs_apply, if_pos hc, ew, ex, EReal.coe_add, EReal.coe_sub, ← e1]
    · unfold sk
      rw [dif_pos u.isLt, if_pos hc, show (⟨u.val, u.isLt⟩ : Fin 4224) = u from rfl, ex]
      rw [show y + (w - x) - w = y - x by ring, EReal.coe_sub, ← e2]
  · intro hc
    refine ⟨by rw [REFs_apply, if_neg hc], ?_⟩
    unfold sk
    rw [dif_pos u.isLt, if_neg hc]

end real

variable (m : (ℓ : Loc nD τ sig) → Buf (Elt Ideal) ℓ)

/-- The queries. -/
abbrev Q (c : Dev nD) : FVec Ideal S4x4224x16x128 .f32 := m ((c : Thread nD τ).loc main_arg0)
/-- The keys. -/
abbrev K (c : Dev nD) : FVec Ideal S4x4224x16x128 .f32 := m ((c : Thread nD τ).loc main_arg1)
/-- The values. -/
abbrev U (c : Dev nD) : FVec Ideal S4x4224x16x128 .f32 := m ((c : Thread nD τ).loc main_arg2)
/-- The summed gates. -/
abbrev G (c : Dev nD) : FVec Ideal S4x16x4224 .f32 := m ((c : Thread nD τ).loc main_arg3)

/-- An entry of a point's block is the reference's entry. -/
theorem entry (c : Dev nD) (t : Fin cfg0.N)
    (hq : ∀ i, ∃ r : ℝ, (Q m c) i = r)
    (hk : ∀ i, ∃ r : ℝ, (K m c) i = r)
    (hg : ∀ i, ∃ r : ℝ, (G m c) i = r)
    (r : Fin 384) (d : Fin 128) (j : S16896x2048.Idx)
    (h0 : (j 0).val = (t.val / 176 * 11 + t.val % 11) * 384 + r) (h1 : (j 1).val = t.val / 11 % 16 * 128 + d) (hm : 112 ≤ (j 0).val % 4224) :
    outsAt0 m c t (ix2 r d)
      = REFo (U m c) (REFp (REFe (REFs (Q m c) (K m c) (G m c)))) j := by
  have ht : t.val < 704 := t.isLt
  have hr := r.isLt
  obtain ⟨b, hb⟩ : ∃ b : Fin 4, b.val = t.val / 176 := ⟨⟨t.val / 176, by omega⟩, rfl⟩
  obtain ⟨h, hh⟩ : ∃ h : Fin 16, h.val = t.val / 11 % 16 := ⟨⟨t.val / 11 % 16, by omega⟩, rfl⟩
  obtain ⟨p, hp⟩ : ∃ p : Fin 4224, p.val = 384 * (t.val % 11) + r := ⟨⟨384 * (t.val % 11) + r, by omega⟩, rfl⟩
  have hi2 : (grid0.coords t 2 : ℕ) = t.val % 11 := coord2 t
  rw [ref_apply _ _ _ _ j b h p d (by rw [h0, hb, hp]; omega) (by rw [h1, hh]; omega)]
  have key := Loop.out c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t)
    (fun n x l a => Softmax.Inv (sk (Q m c) (K m c) (G m c) b h p) (vk (U m c) b h d) (384 * n) (x (ix2 r 0)) (l (ix2 r 0)) (a (ix2 r d)))
    (init_apply _ _ r 0 d)
    (fun k x l a hP => by
      have hkt : k.val < (grid0.coords t 2 : ℕ) + 1 := by rw [← trips_eq (grid0.coords t)]; exact k.isLt
      refine trip_apply (grid0.coords t) (iblk m c 0 t) _ k _ _ _ _ _ x l a r 0 d ?_ ?_ (sk_ok hq hk hg b h p) hP
      · intro n
        have hn := n.isLt
        rw [scores_apply _ _ _ _ _ _ rfl]
        unfold sk
        rw [dif_pos (by omega)]
        rw [hi2, hp]
        refine if_congr Iff.rfl ?_ rfl
        rw [lanes_apply _ _ _ n ⟨384 * k.val + n, by omega⟩ rfl]
        refine congr (congrArg (fun y z : EReal => y - z) (Finset.sum_congr rfl fun e _ => ?_)) (blk_c m c t b h _ hb hh).symm
        rw [rows_apply _ _ _ n e ⟨384 * k.val + n, by omega⟩ rfl]
        exact congr (congrArg (fun y z : EReal => y * z) (blk_q m c t b h p r e hb hh hp).symm) (blk_k m c t b h _ e hb hh).symm
      · intro n
        have hn := n.isLt
        unfold vk
        rw [dif_pos (by omega), rows_apply _ _ _ n d ⟨384 * k.val + n, by omega⟩ rfl]
        exact (blk_v m c t b h _ d hb hh).symm)
  obtain ⟨x, l, a, hP, e⟩ := key
  unfold outsAt0
  rw [e, out_apply a l r 0 d]
  rw [trips_eq, hi2] at hP
  obtain ⟨w, ew⟩ := hg (ix3 b h p)
  have hs := ref_score hq hk hg b h p
  have hmp : 112 ≤ p.val := by
    have e : (j 0).val % 4224 = p.val := by rw [h0, hp]; omega
    omega
  refine (Softmax.out_eq (N := 4224) (by omega) hP (x := fun u => REFs (Q m c) (K m c) (G m c) (ix4 b h p u)) (k := w) ?_ ?_ ?_ p ?_ rfl).trans ?_
  · intro u
    by_cases hc : u.val ≤ p.val ∧ 112 ≤ u.val
    · obtain ⟨y, _, -, ey, -⟩ := (hs u).1 hc; exact .inr ⟨y, ey⟩
    · exact .inl ((hs u).2 hc).1
  · intro u
    by_cases hc : u.val ≤ p.val ∧ 112 ≤ u.val
    · obtain ⟨y, w', ew', ey, es⟩ := (hs u).1 hc
      have hw : w' = w := EReal.coe_injective (ew'.symm.trans ew)
      rw [es, if_neg (by rw [ey]; exact EReal.coe_ne_bot y), ey, hw, EReal.toReal_coe]
    · obtain ⟨ey, es⟩ := (hs u).2 hc
      rw [es, if_pos ey]
  · intro u hu
    exact ((hs u).2 (fun hc => by have := hc.1; omega)).1
  · obtain ⟨y, _, -, ey, -⟩ := (hs p).1 ⟨le_rfl, hmp⟩
    rw [ey]; exact EReal.coe_ne_bot y
  · refine Finset.sum_congr rfl fun u _ => ?_
    unfold vk
    rw [dif_pos u.isLt]

end Cert.AttnKernelIdeal.Point

end
-- ==== Proof.Attn.Value.lean ====
module

public import proofs.«01_k».proof.Proof.Attn.Point
public import proofs.«01_k».proof.Proof.Gen.AttnKernelIdeal.Value
public import proofs.«01_k».proof.Defs
public import Idealize.ShloMosaic.Lib.Claim

/-! Attention: on the rows that keep a key, and for finite queries, keys and gates, the kernel's result is the
    reference's. -/

set_option maxRecDepth 16384

@[expose] public section

noncomputable section

namespace Cert.Pre_finite

/-- The precondition's broadcasts are broadcasts. -/
instance facts : Cert.Pre_finite.Facts where
  bcast_S_S4x4224x16x128 := by decide
  bcast_S_S4x16x4224 := by decide

end Cert.Pre_finite

namespace Cert.On_kept_rows

/-- The mask's broadcast is a broadcast and its reshape a reshape. -/
instance facts : Cert.On_kept_rows.Facts where
  bcast_S_S4x4224x2048 := by decide
  shapeCasts_S4x4224x2048_S16896x2048 := by decide

end Cert.On_kept_rows

namespace Cert.AttnKernelIdeal.Value

open Cert.AttnKernelIdeal Cert.AttnKernelIdeal.Gen Cert.AttnKernelIdeal.Point Cert.AttnKernelIdeal.Blocks Cert.AttnReferenceIdeal.Pure
open Idealize.ShloMosaic Idealize.ShloMosaic.TcCoe Idealize.SL.Sem
open Idealize.ShloMosaic.Pipeline (Dat)

/-- What is in absolute value below plus infinity is a real. -/
theorem real_of_lt {x : EReal} (h : Ideal.cmp .olt (max x (-x)) (Ideal.ofBits .f32 0x7F800000#32) = 1#1) : ∃ r : ℝ, x = r := by
  have e : Ideal.ofBits .f32 0x7F800000#32 = ⊤ := by simp [Ideal.ofBits, Ideal.ieee]
  rw [e] at h
  induction x with
  | bot => simp [Ideal.cmp] at h
  | top => simp [Ideal.cmp] at h
  | coe r => exact ⟨r, rfl⟩

variable (m : (ℓ : Loc nD τ sig) → Buf (Elt Ideal) ℓ)

/-- Finite queries are reals. -/
theorem real_q (hpre : Cert.Pre_AttnKernelIdeal_finite m) (c : Dev nD) (i : S4x4224x16x128.Idx) : ∃ r : ℝ, Q m c i = r :=
  real_of_lt (congrFun (hpre c).1 i)

/-- Finite keys are reals. -/
theorem real_k (hpre : Cert.Pre_AttnKernelIdeal_finite m) (c : Dev nD) (i : S4x4224x16x128.Idx) : ∃ r : ℝ, K m c i = r :=
  real_of_lt (congrFun (hpre c).2.1 i)

/-- Finite gates are reals. -/
theorem real_g (hpre : Cert.Pre_AttnKernelIdeal_finite m) (c : Dev nD) (i : S4x16x4224.Idx) : ∃ r : ℝ, G m c i = r :=
  real_of_lt (congrFun (hpre c).2.2 i)

/-- The mask selects the rows past the first 112 of a sequence. -/
theorem mask_row (q k v : FVec Ideal S4x4224x16x128 .f32) (g : FVec Ideal S4x16x4224 .f32) (i : S16896x2048.Idx)
    (h : Cert.On_kept_rows.fn (F := Ideal) q k v g i = 1#1) : 112 ≤ (i 0).val % 4224 := by
  have e : Cert.On_kept_rows.fn (F := Ideal) q k v g i = IntOp.cmpi .sge (BitVec.ofNat 32 ((i 0).val % 4224)) (BitVec.ofNat 32 112) := by
    unfold Cert.On_kept_rows.fn
    pointwise []
  rw [e, WordCmp.cmpi_sge_ofNat (by have := Nat.mod_lt (i 0).val (show 0 < 4224 by norm_num); omega) (by norm_num)] at h
  by_contra hc
  simp [hc] at h

/-- An index of a block by its two coordinates. -/
theorem canon2 (y : S384x128.Idx) : y = ix2 (y 0) (y 1) := by
  funext a
  match a with
  | ⟨0, _⟩ => rfl
  | ⟨1, _⟩ => rfl

/-- Where a row keeps a key, the kernel's result is the reference's. -/
theorem final (hpre : Cert.Pre_AttnKernelIdeal_finite m) (c : Dev nD) (i : S16896x2048.Idx) (hi : 112 ≤ (i 0).val % 4224) :
    (show FVec Ideal S16896x2048 .bf16 from (dats m 0 c).arrAt 4 cfg0.N) i = REFo (U m c) (REFp (REFe (REFs (Q m c) (K m c) (G m c)))) i := by
  have all := (dats m 0 c).arrAt_forall_of_covers 4
    (fun (i : S16896x2048.Idx) (v : EReal) => 112 ≤ (i 0).val % 4224 → v = REFo (U m c) (REFp (REFe (REFs (Q m c) (K m c) (G m c)))) i)
    (by decide +kernel) (fun t hf y => ?_) i
  · exact all hi
  intro hm
  rw [after0_4]
  refine (congrArg (outsAt0 m c t) (canon2 y)).trans ?_
  exact entry m c t (real_q m hpre c) (real_k m hpre c) (real_g m hpre c) (y 0) (y 1) _ (by blk_simp [idx t]) (by blk_simp [idx t]) hm

end Cert.AttnKernelIdeal.Value

namespace Cert.Proof

open Idealize.ShloMosaic Idealize.ShloMosaic.TcCoe Idealize.SL.Sem

/-- The mask's constant is named minus infinity. -/
theorem preserves_Attn : Cert.preserves_AttnKernel_AttnKernelIdeal :=
  IdealRules.named_const.statement Cert.AttnKernelIdeal.κ "neg_inf" .f32 0xF149F2CA#32 ⊥ rfl

/-- Attention's kernel and reference end with equal results on the kept rows. -/
theorem algebraic_Attn : Cert.algebraic_AttnKernelIdeal_AttnReferenceIdeal_on_kept_rows_pre_finite := by
  intro m g m' g' hpre hagree
  refine ⟨fun c => (Cert.AttnKernelIdeal.Gen.dats m 0 c).arrAt 4 Cert.AttnKernelIdeal.cfg0.N, ?_, ?_⟩
  · refine θ_run_mono (Cert.AttnKernelIdeal.Value.run_blocks m g) fun r hr c => ⟨fun i _ => ?_, (hr c).2⟩
    rw [(hr c).1]
  · refine θ_run_mono (Cert.AttnReferenceIdeal.Value.run m' g') fun r hr c => ⟨fun i hi => ?_, (hr c).2⟩
    rw [(hr c).1, Cert.AttnReferenceIdeal.Pure.res_eq, (hagree c).1, (hagree c).2.1, (hagree c).2.2.1, (hagree c).2.2.2]
    exact (Cert.AttnKernelIdeal.Value.final m hpre c i (Cert.AttnKernelIdeal.Value.mask_row _ _ _ _ i hi)).symm

end Cert.Proof

end
-- ==== Proof.lean ====
/- The certificate: for every program the frames of the kernel, of the kernel over the extended reals and of the reference,
   the kernel's text kept by its idealization, and the two results equal over the extended reals. -/
module

public import proofs.«01_k».proof.Proof.Down.Claim
public import proofs.«01_k».proof.Proof.Embed.Value
public import proofs.«01_k».proof.Proof.Up.Value
public import proofs.«01_k».proof.Proof.ConvOut.Value
public import proofs.«01_k».proof.Proof.ConvIn.Value
public import proofs.«01_k».proof.Proof.Kv.Value
public import proofs.«01_k».proof.Proof.Q.Value
public import proofs.«01_k».proof.Proof.Bias.Value
public import proofs.«01_k».proof.Proof.Attn.Value
public import proofs.«01_k».proof.Proof.Gen.DownKernel.Frame
public import proofs.«01_k».proof.Proof.Gen.EmbedKernel.Frame
public import proofs.«01_k».proof.Proof.Gen.UpKernel.Frame
public import proofs.«01_k».proof.Proof.Gen.ConvOutKernel.Frame
public import proofs.«01_k».proof.Proof.Gen.ConvInKernel.Frame
public import proofs.«01_k».proof.Proof.Gen.KvKernel.Frame
public import proofs.«01_k».proof.Proof.Gen.QKernel.Frame
public import proofs.«01_k».proof.Proof.Gen.BiasKernel.Frame
public import proofs.«01_k».proof.Proof.Gen.AttnKernel.Frame
public import proofs.«01_k».proof.Defs
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The Down reference runs, leaves its arguments as they were and every counter at zero. -/
theorem frame_DownReference : Cert.quiescent_DownReferenceIdeal := fun m g _ =>
  (θ_run (Cert.DownReferenceIdeal.defs (F := Ideal)) _ _).mono (fun r h => ⟨fun c => (h c).2, sem_eq_zero_of_no_sems rfl r.2⟩)
    (Cert.DownReferenceIdeal.Value.run m g)

/-- The Embed reference runs, leaves its arguments as they were and every counter at zero. -/
theorem frame_EmbedReference : Cert.quiescent_EmbedReferenceIdeal := fun m g _ =>
  (θ_run (Cert.EmbedReferenceIdeal.defs (F := Ideal)) _ _).mono (fun r h => ⟨fun c => (h c).2.2, sem_eq_zero_of_no_sems rfl r.2⟩)
    (Cert.EmbedReferenceIdeal.Value.run m g)

/-- The Up reference runs, leaves its arguments as they were and every counter at zero. -/
theorem frame_UpReference : Cert.quiescent_UpReferenceIdeal := fun m g _ =>
  (θ_run (Cert.UpReferenceIdeal.defs (F := Ideal)) _ _).mono (fun r h => ⟨fun c => (h c).2, sem_eq_zero_of_no_sems rfl r.2⟩)
    (Cert.UpReferenceIdeal.Value.run m g)

/-- The ConvOut reference runs, leaves its arguments as they were and every counter at zero. -/
theorem frame_ConvOutReference : Cert.quiescent_ConvOutReferenceIdeal := fun m g _ =>
  (θ_run (Cert.ConvOutReferenceIdeal.defs (F := Ideal)) _ _).mono (fun r h => ⟨fun c => (h c).2.2, sem_eq_zero_of_no_sems rfl r.2⟩)
    (Cert.ConvOutReferenceIdeal.Value.run m g)

/-- The ConvIn reference runs, leaves its arguments as they were and every counter at zero. -/
theorem frame_ConvInReference : Cert.quiescent_ConvInReferenceIdeal := fun m g _ =>
  (θ_run (Cert.ConvInReferenceIdeal.defs (F := Ideal)) _ _).mono (fun r h => ⟨fun c => (h c).2, sem_eq_zero_of_no_sems rfl r.2⟩)
    (Cert.ConvInReferenceIdeal.Value.run m g)

/-- The Kv reference runs, leaves its arguments as they were and every counter at zero. -/
theorem frame_KvReference : Cert.quiescent_KvReferenceIdeal := fun m g _ =>
  (θ_run (Cert.KvReferenceIdeal.defs (F := Ideal)) _ _).mono (fun r h => ⟨fun c => (h c).2.2, sem_eq_zero_of_no_sems rfl r.2⟩)
    (Cert.KvReferenceIdeal.Value.run m g)

/-- The Q reference runs, leaves its arguments as they were and every counter at zero. -/
theorem frame_QReference : Cert.quiescent_QReferenceIdeal := fun m g _ =>
  (θ_run (Cert.QReferenceIdeal.defs (F := Ideal)) _ _).mono (fun r h => ⟨fun c => (h c).2, sem_eq_zero_of_no_sems rfl r.2⟩)
    (Cert.QReferenceIdeal.Value.run m g)

/-- The Bias reference runs, leaves its arguments as they were and every counter at zero. -/
theorem frame_BiasReference : Cert.quiescent_BiasReferenceIdeal := fun m g _ =>
  (θ_run (Cert.BiasReferenceIdeal.defs (F := Ideal)) _ _).mono (fun r h => ⟨fun c => (h c).2, sem_eq_zero_of_no_sems rfl r.2⟩)
    (Cert.BiasReferenceIdeal.Value.run m g)

/-- The Attn reference runs, leaves its arguments as they were and every counter at zero. -/
theorem frame_AttnReference : Cert.quiescent_AttnReferenceIdeal := fun m g _ =>
  (θ_run (Cert.AttnReferenceIdeal.defs (F := Ideal)) _ _).mono (fun r h => ⟨fun c => (h c).2, sem_eq_zero_of_no_sems rfl r.2⟩)
    (Cert.AttnReferenceIdeal.Value.run m g)

/-- Every claim of the certificate. -/
theorem claim : Cert.Claim :=
  ⟨Cert.DownKernel.Gen.facts, Cert.DownKernelIdeal.Gen.facts, Cert.DownReferenceIdeal.Gen.facts, Cert.EmbedKernel.Gen.facts, Cert.EmbedKernelIdeal.Gen.facts, Cert.EmbedReferenceIdeal.Gen.facts, Cert.UpKernel.Gen.facts, Cert.UpKernelIdeal.Gen.facts, Cert.UpReferenceIdeal.Gen.facts, Cert.ConvOutKernel.Gen.facts, Cert.ConvOutKernelIdeal.Gen.facts, Cert.ConvOutReferenceIdeal.Gen.facts, Cert.ConvInKernel.Gen.facts, Cert.ConvInKernelIdeal.Gen.facts, Cert.ConvInReferenceIdeal.Gen.facts, Cert.KvKernel.Gen.facts, Cert.KvKernelIdeal.Gen.facts, Cert.KvReferenceIdeal.Gen.facts, Cert.QKernel.Gen.facts, Cert.QKernelIdeal.Gen.facts, Cert.QReferenceIdeal.Gen.facts, Cert.BiasKernel.Gen.facts, Cert.BiasKernelIdeal.Gen.facts, Cert.BiasReferenceIdeal.Gen.facts, Cert.AttnKernel.Gen.facts, Cert.AttnKernelIdeal.Gen.facts, Cert.AttnReferenceIdeal.Gen.facts, Cert.Pre_finite_gate.facts, Cert.Pre_finite.facts, Cert.On_kept_rows.facts,
    fun m g _ => Cert.DownKernel.Gen.frame m g,
    fun m g _ => Cert.DownKernelIdeal.Gen.frame m g,
    frame_DownReference,
    fun m g _ => Cert.EmbedKernel.Gen.frame m g,
    fun m g _ => Cert.EmbedKernelIdeal.Gen.frame m g,
    frame_EmbedReference,
    fun m g _ => Cert.UpKernel.Gen.frame m g,
    fun m g _ => Cert.UpKernelIdeal.Gen.frame m g,
    frame_UpReference,
    fun m g _ => Cert.ConvOutKernel.Gen.frame m g,
    fun m g _ => Cert.ConvOutKernelIdeal.Gen.frame m g,
    frame_ConvOutReference,
    fun m g _ => Cert.ConvInKernel.Gen.frame m g,
    fun m g _ => Cert.ConvInKernelIdeal.Gen.frame m g,
    frame_ConvInReference,
    fun m g _ => Cert.KvKernel.Gen.frame m g,
    fun m g _ => Cert.KvKernelIdeal.Gen.frame m g,
    frame_KvReference,
    fun m g _ => Cert.QKernel.Gen.frame m g,
    fun m g _ => Cert.QKernelIdeal.Gen.frame m g,
    frame_QReference,
    fun m g _ => Cert.BiasKernel.Gen.frame m g,
    fun m g _ => Cert.BiasKernelIdeal.Gen.frame m g,
    fun m g _ => Cert.BiasKernelIdeal.Gen.frame m g,
    frame_BiasReference,
    fun m g _ => frame_BiasReference m g trivial,
    fun m g _ => Cert.AttnKernel.Gen.frame m g,
    fun m g _ => Cert.AttnKernelIdeal.Gen.frame m g,
    fun m g _ => Cert.AttnKernelIdeal.Gen.frame m g,
    frame_AttnReference,
    fun m g _ => frame_AttnReference m g trivial,
    trivial,
    algebraic_Down,
    trivial,
    algebraic_Embed,
    trivial,
    algebraic_Up,
    trivial,
    algebraic_ConvOut,
    trivial,
    algebraic_ConvIn,
    trivial,
    algebraic_Kv,
    preserves_Q,
    algebraic_Q,
    preserves_Bias,
    algebraic_Bias,
    preserves_Attn,
    algebraic_Attn⟩

end Cert.Proof

end
